-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 32, 64]⟩ ⟨4, ![2, 2048, 32, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 32, 64]⟩ ⟨4, ![2, 2048, 32, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .f32) (main_arg1 : FVec F S768x512 .f32) (main_arg2 : FVec F S2x512x32x64 .f32) (main_arg3 : FVec F S2x512x32x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x32x64 .f32 := Host.absf main_arg2
  let main_cst_2 : FVec F S_ .f32 := constant S_ .f32 0x7F800000#32
  let main_v10 : FVec F S2x512x32x64 .f32 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x2048 : Shape := ⟨2, ![768, 2048]⟩
abbrev S2x2048x32x64 : Shape := ⟨4, ![2, 2048, 32, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x2048x32x64 : S_.BroadcastsInDim S2x2048x32x64 (![] : Fin 0 → Fin S2x2048x32x64.rank)
  reducesTo_S2x2048x32x64_S_d0_1_2_3 : S2x2048x32x64.ReducesTo [0, 1, 2, 3] S_

variable [Facts]

def fn {F : FTy → Type} [FloatOps F] (main_arg0 : FVec F S2x512x768 .f32) (main_arg1 : FVec F S768x2048 .f32) (main_arg2 : FVec F S2x2048x32x64 .f32) (main_arg3 : FVec F S2x2048x32x64 .f32) (main_arg4 : FVec F S2048x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2x2048x32x64 .f32 := Host.absf main_arg2
  let main_cst_2 : FVec F S_ .f32 := constant S_ .f32 0x7F800000#32
  let main_v10 : FVec F S2x2048x32x64 .f32 := broadcastInDim S2x2048x32x64 ![] bcast_S_S2x2048x32x64 main_cst_2
  let main_v11 : IVec S2x2048x32x64 1 := cmpf .olt main_v9 main_v10
  let main_c_3 : IVec S_ 1 := constantI S_ 1 1#1
  let main_v12 : IVec S_ 1 := (fun x v => Host.reduce IntOp.andi x v reducesTo_S2x2048x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S2x512x2048 : Shape := ⟨3, ![2, 512, 2048]⟩
abbrev S2x512x512 : Shape := ⟨3, ![2, 512, 512]⟩
abbrev S2x8x256x256 : Shape := ⟨4, ![2, 8, 256, 256]⟩
abbrev S2x8x256x512 : Shape := ⟨4, ![2, 8, 256, 512]⟩
abbrev S3x2x128x768 : Shape := ⟨4, ![3, 2, 128, 768]⟩
abbrev S2 : Shape := ⟨1, ![2]⟩
abbrev S6 : Shape := ⟨1, ![6]⟩
abbrev S1 : Shape := ⟨1, ![1]⟩
abbrev S3 : Shape := ⟨1, ![3]⟩
abbrev S_ : Shape := ⟨0, ![]⟩
abbrev S1x512x768 : Shape := ⟨3, ![1, 512, 768]⟩
abbrev S512x512 : Shape := ⟨2, ![512, 512]⟩
abbrev S256x256 : Shape := ⟨2, ![256, 256]⟩
abbrev S256x512 : Shape := ⟨2, ![256, 512]⟩
abbrev S512x64 : Shape := ⟨2, ![512, 64]⟩
abbrev S1x512x64 : Shape := ⟨3, ![1, 512, 64]⟩
abbrev S256x64 : Shape := ⟨2, ![256, 64]⟩
abbrev S256 : Shape := ⟨1, ![256]⟩
abbrev S256x1 : Shape := ⟨2, ![256, 1]⟩
abbrev S1x1x256x256 : Shape := ⟨4, ![1, 1, 256, 256]⟩
abbrev S1x1x256x512 : Shape := ⟨4, ![1, 1, 256, 512]⟩
abbrev S1x256x64 : Shape := ⟨3, ![1, 256, 64]⟩
abbrev S1x128x512 : Shape := ⟨3, ![1, 128, 512]⟩
abbrev S128x512 : Shape := ⟨2, ![128, 512]⟩
abbrev S128x768 : Shape := ⟨2, ![128, 768]⟩
abbrev S1x128x768 : Shape := ⟨3, ![1, 128, 768]⟩
abbrev S1x2x128x768 : Shape := ⟨4, ![1, 2, 128, 768]⟩
abbrev S2x128x768 : Shape := ⟨3, ![2, 128, 768]⟩

abbrev nBuf : Space → Nat
  | .hbm => 10
  | .vmem => 13
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x32x64, .f32⟩
  | .hbm, ⟨3, _⟩ => ⟨S2x512x32x64, .f32⟩
  | .hbm, ⟨4, _⟩ => ⟨S512x768, .f32⟩
  | .hbm, ⟨5, _⟩ => ⟨S2x512x2048, .f32⟩
  | .hbm, ⟨6, _⟩ => ⟨S2x512x2048, .bf16⟩
  | .hbm, ⟨7, _⟩ => ⟨S2x512x2048, .f32⟩
  | .hbm, ⟨8, _⟩ => ⟨S2x512x2048, .bf16⟩
  | .hbm, ⟨9, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S2x512x768, .bf16⟩
  | .local _ .vmem, ⟨9, _⟩ => ⟨S2x8x256x256, .bf16⟩
  | .local _ .vmem, ⟨10, _⟩ => ⟨S2x8x256x512, .bf16⟩
  | .local _ .vmem, ⟨11, _⟩ => ⟨S3x2x128x768, .bf16⟩
  | .local _ .vmem, ⟨12, _⟩ => ⟨S3x2x128x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_14 : BitVec 32 := 0#32
  let v18 : BitVec 1 := Scalar.cmpi .ne v17 c0_i32_14
  v18

def k0_dev4 : Nat :=
  let c0_i32_976 : BitVec 32 := 0#32
  let c1_i32_974 : BitVec 32 := 1#32
  let c1_i32_975 : BitVec 32 := 1#32
  let v1213 : BitVec 32 := Scalar.muli c1_i32_974 c1_i32_975
  let v1214 : BitVec 32 := Scalar.addi c0_i32_976 v1213
  v1214.toNat
def k0_dev5 : Nat :=
  let c0_i32_983 : BitVec 32 := 0#32
  let c3_i32_981 : BitVec 32 := 3#32
  let c1_i32_982 : BitVec 32 := 1#32
  let v1220 : BitVec 32 := Scalar.muli c3_i32_981 c1_i32_982
  let v1221 : BitVec 32 := Scalar.addi c0_i32_983 v1220
  v1221.toNat
def k0_dev6 : Nat :=
  let c0_i32_991 : BitVec 32 := 0#32
  let c1_i32_989 : BitVec 32 := 1#32
  let c1_i32_990 : BitVec 32 := 1#32
  let v1227 : BitVec 32 := Scalar.muli c1_i32_989 c1_i32_990
  let v1228 : BitVec 32 := Scalar.addi c0_i32_991 v1227
  v1228.toNat
def k0_dev7 : Nat :=
  let c0_i32_998 : BitVec 32 := 0#32
  let c3_i32_996 : BitVec 32 := 3#32
  let c1_i32_997 : BitVec 32 := 1#32
  let v1234 : BitVec 32 := Scalar.muli c3_i32_996 c1_i32_997
  let v1235 : BitVec 32 := Scalar.addi c0_i32_998 v1234
  v1235.toNat
def k0_dev8 : Nat :=
  let c0_i32_1005 : BitVec 32 := 0#32
  let c1_i32_1003 : BitVec 32 := 1#32
  let c1_i32_1004 : BitVec 32 := 1#32
  let v1241 : BitVec 32 := Scalar.muli c1_i32_1003 c1_i32_1004
  let v1242 : BitVec 32 := Scalar.addi c0_i32_1005 v1241
  v1242.toNat
def k0_dev9 : Nat :=
  let c0_i32_1012 : BitVec 32 := 0#32
  let c3_i32_1010 : BitVec 32 := 3#32
  let c1_i32_1011 : BitVec 32 := 1#32
  let v1248 : BitVec 32 := Scalar.muli c3_i32_1010 c1_i32_1011
  let v1249 : BitVec 32 := Scalar.addi c0_i32_1012 v1248
  v1249.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v94 : BitVec 1 := Scalar.cmpi .eq v2 c1_i32_40
  let v95 : BitVec 32 := Scalar.extui v94
  let c0_i32_41 : BitVec 32 := 0#32
  let v96 : BitVec 1 := Scalar.cmpi .ne v95 c0_i32_41
  v96

def k0_dev10 : Nat :=
  let c0_i32_981 : BitVec 32 := 0#32
  let c2_i32_979 : BitVec 32 := 2#32
  let c1_i32_980 : BitVec 32 := 1#32
  let v1217 : BitVec 32 := Scalar.muli c2_i32_979 c1_i32_980
  let v1218 : BitVec 32 := Scalar.addi c0_i32_981 v1217
  v1218.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v97 : BitVec 1 := Scalar.cmpi .eq v2 c3_i32_42
  let v98 : BitVec 32 := Scalar.extui v97
  let c0_i32_43 : BitVec 32 := 0#32
  let v99 : BitVec 1 := Scalar.cmpi .ne v98 c0_i32_43
  v99

def k0_dev11 : Nat :=
  let c0_i32_981 : BitVec 32 := 0#32
  let c2_i32_979 : BitVec 32 := 2#32
  let c1_i32_980 : BitVec 32 := 1#32
  let v1217 : BitVec 32 := Scalar.muli c2_i32_979 c1_i32_980
  let v1218 : BitVec 32 := Scalar.addi c0_i32_981 v1217
  v1218.toNat
def k0_off1 (d0 : Dev nD) (c1_i32_663 : BitVec 32) : Fin 3 → Nat :=
  let c0_665 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v944 : BitVec 32 := Scalar.addi v2 c1_i32_663
  let c4_i32_664 : BitVec 32 := 4#32
  let v945 : BitVec 32 := Scalar.remsi v944 c4_i32_664
  let c128_i32 : BitVec 32 := 128#32
  let v946 : BitVec 32 := Scalar.muli v945 c128_i32
  let v947 : Index := Scalar.indexCast v946
  let c0_666 : Index := 0#32
  ![0, v947.toNat, 0]
def k0_off2 (d0 : Dev nD) (c1_i32_663 : BitVec 32) : Fin 3 → Nat :=
  let c0_668 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v944 : BitVec 32 := Scalar.addi v2 c1_i32_663
  let c4_i32_664 : BitVec 32 := 4#32
  let v945 : BitVec 32 := Scalar.remsi v944 c4_i32_664
  let c128_i32 : BitVec 32 := 128#32
  let v946 : BitVec 32 := Scalar.muli v945 c128_i32
  let v952 : Index := Scalar.indexCast v946
  let c0_669 : Index := 0#32
  ![0, v952.toNat, 0]
def k0_off3 (d0 : Dev nD) (c1_i32_663 : BitVec 32) : Fin 3 → Nat :=
  let c1_670 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v944 : BitVec 32 := Scalar.addi v2 c1_i32_663
  let c4_i32_664 : BitVec 32 := 4#32
  let v945 : BitVec 32 := Scalar.remsi v944 c4_i32_664
  let c128_i32 : BitVec 32 := 128#32
  let v946 : BitVec 32 := Scalar.muli v945 c128_i32
  let v956 : Index := Scalar.indexCast v946
  let c0_671 : Index := 0#32
  ![1, v956.toNat, 0]
def k0_off4 (d0 : Dev nD) (c1_i32_663 : BitVec 32) : Fin 3 → Nat :=
  let c1_673 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v944 : BitVec 32 := Scalar.addi v2 c1_i32_663
  let c4_i32_664 : BitVec 32 := 4#32
  let v945 : BitVec 32 := Scalar.remsi v944 c4_i32_664
  let c128_i32 : BitVec 32 := 128#32
  let v946 : BitVec 32 := Scalar.muli v945 c128_i32
  let v961 : Index := Scalar.indexCast v946
  let c0_674 : Index := 0#32
  ![1, v961.toNat, 0]
def k0_off5 (d0 : Dev nD) (c1_i32_663 : BitVec 32) : Fin 3 → Nat :=
  let c0_i32_683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v944 : BitVec 32 := Scalar.addi v2 c1_i32_663
  let c4_i32_664 : BitVec 32 := 4#32
  let v945 : BitVec 32 := Scalar.remsi v944 c4_i32_664
  let c128_i32 : BitVec 32 := 128#32
  let v946 : BitVec 32 := Scalar.muli v945 c128_i32
  let c0_i32_684 : BitVec 32 := 0#32
  ![0, v946.toNat, 0]
def k0_dev12 (d0 : Dev nD) : Nat :=
  let c0_i32_679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_663 : BitVec 32 := 1#32
  let v944 : BitVec 32 := Scalar.addi v2 c1_i32_663
  let c4_i32_664 : BitVec 32 := 4#32
  let v945 : BitVec 32 := Scalar.remsi v944 c4_i32_664
  let c1_i32_678 : BitVec 32 := 1#32
  let v965 : BitVec 32 := Scalar.muli v945 c1_i32_678
  let v966 : BitVec 32 := Scalar.addi c0_i32_679 v965
  v966.toNat
def k0_dev13 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_685 : BitVec 32 := 2#32
  let v974 : BitVec 32 := Scalar.addi v2 c2_i32_685
  let c4_i32_686 : BitVec 32 := 4#32
  let v975 : BitVec 32 := Scalar.remsi v974 c4_i32_686
  let c1_i32_701 : BitVec 32 := 1#32
  let v995 : BitVec 32 := Scalar.muli v975 c1_i32_701
  let v996 : BitVec 32 := Scalar.addi c0_i32_702 v995
  v996.toNat
def k0_dev14 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_708 : BitVec 32 := 3#32
  let v1004 : BitVec 32 := Scalar.addi v2 c3_i32_708
  let c4_i32_709 : BitVec 32 := 4#32
  let v1005 : BitVec 32 := Scalar.remsi v1004 c4_i32_709
  let c1_i32_724 : BitVec 32 := 1#32
  let v1025 : BitVec 32 := Scalar.muli v1005 c1_i32_724
  let v1026 : BitVec 32 := Scalar.addi c0_i32_725 v1025
  v1026.toNat
def k0_off6 (d0 : Dev nD) : Fin 3 → Nat :=
  let c0_732 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_731 : BitVec 32 := 128#32
  let v1034 : BitVec 32 := Scalar.muli v2 c128_i32_731
  let v1035 : Index := Scalar.indexCast v1034
  let c0_733 : Index := 0#32
  ![0, v1035.toNat, 0]
def k0_off7 (d0 : Dev nD) : Fin 3 → Nat :=
  let c1_735 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_731 : BitVec 32 := 128#32
  let v1034 : BitVec 32 := Scalar.muli v2 c128_i32_731
  let v1039 : Index := Scalar.indexCast v1034
  let c0_736 : Index := 0#32
  ![1, v1039.toNat, 0]
def k0_off8 (d0 : Dev nD) : Fin 3 → Nat :=
  let c0_789 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_731 : BitVec 32 := 128#32
  let v1034 : BitVec 32 := Scalar.muli v2 c128_i32_731
  let v1083 : Index := Scalar.indexCast v1034
  let c0_790 : Index := 0#32
  ![0, v1083.toNat, 0]
def k0_off9 (d0 : Dev nD) : Fin 3 → Nat :=
  let c0_i32_801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_731 : BitVec 32 := 128#32
  let v1034 : BitVec 32 := Scalar.muli v2 c128_i32_731
  let c0_i32_802 : BitVec 32 := 0#32
  ![0, v1034.toNat, 0]
def k0_dev15 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_791 : BitVec 32 := 1#32
  let v1087 : BitVec 32 := Scalar.addi v2 c1_i32_791
  let c4_i32_792 : BitVec 32 := 4#32
  let v1088 : BitVec 32 := Scalar.remsi v1087 c4_i32_792
  let c1_i32_796 : BitVec 32 := 1#32
  let v1089 : BitVec 32 := Scalar.muli v1088 c1_i32_796
  let v1090 : BitVec 32 := Scalar.addi c0_i32_797 v1089
  v1090.toNat
def k0_dev16 (d0 : Dev nD) : Nat :=
  let c0_i32_809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_803 : BitVec 32 := 2#32
  let v1098 : BitVec 32 := Scalar.addi v2 c2_i32_803
  let c4_i32_804 : BitVec 32 := 4#32
  let v1099 : BitVec 32 := Scalar.remsi v1098 c4_i32_804
  let c1_i32_808 : BitVec 32 := 1#32
  let v1100 : BitVec 32 := Scalar.muli v1099 c1_i32_808
  let v1101 : BitVec 32 := Scalar.addi c0_i32_809 v1100
  v1101.toNat
def k0_dev17 (d0 : Dev nD) : Nat :=
  let c0_i32_821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_815 : BitVec 32 := 3#32
  let v1109 : BitVec 32 := Scalar.addi v2 c3_i32_815
  let c4_i32_816 : BitVec 32 := 4#32
  let v1110 : BitVec 32 := Scalar.remsi v1109 c4_i32_816
  let c1_i32_820 : BitVec 32 := 1#32
  let v1111 : BitVec 32 := Scalar.muli v1110 c1_i32_820
  let v1112 : BitVec 32 := Scalar.addi c0_i32_821 v1111
  v1112.toNat
def k0_off10 (d0 : Dev nD) (c3_i32_842 : BitVec 32) : Fin 3 → Nat :=
  let c0_849 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1130 : BitVec 32 := Scalar.addi v2 c3_i32_842
  let c4_i32_843 : BitVec 32 := 4#32
  let v1131 : BitVec 32 := Scalar.remsi v1130 c4_i32_843
  let c128_i32_848 : BitVec 32 := 128#32
  let v1135 : BitVec 32 := Scalar.muli v1131 c128_i32_848
  let v1136 : Index := Scalar.indexCast v1135
  let c0_850 : Index := 0#32
  ![0, v1136.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x2048 : Shape := ⟨2, ![768, 2048]⟩
abbrev S2x2048x32x64 : Shape := ⟨4, ![2, 2048, 32, 64]⟩
abbrev S2048x768 : Shape := ⟨2, ![2048, 768]⟩
abbrev S2x512x2048 : Shape := ⟨3, ![2, 512, 2048]⟩
abbrev S2x512x32x64 : Shape := ⟨4, ![2, 512, 32, 64]⟩
abbrev S512 : Shape := ⟨1, ![512]⟩
abbrev S_ : Shape := ⟨0, ![]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S2x32x512x2048 : Shape := ⟨4, ![2, 32, 512, 2048]⟩
abbrev S1x1x512x2048 : Shape := ⟨4, ![1, 1, 512, 2048]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x2048x32x64, .f32⟩
  | .hbm, ⟨3, _⟩ => ⟨S2x2048x32x64, .f32⟩
  | .hbm, ⟨4, _⟩ => ⟨S2048x768, .f32⟩
  | .hbm, ⟨5, _⟩ => ⟨S2x512x2048, .f32⟩
  | .hbm, ⟨6, _⟩ => ⟨S2x512x32x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S512x2048, .i32⟩
  | .hbm, ⟨48, _⟩ => ⟨S512x2048, .i32⟩
  | .hbm, ⟨49, _⟩ => ⟨S512x2048, .i1⟩
  | .hbm, ⟨50, _⟩ => ⟨S2x32x512x2048, .f32⟩
  | .hbm, ⟨51, _⟩ => ⟨S_, .f32⟩
  | .hbm, ⟨52, _⟩ => ⟨S2x32x512x2048, .f32⟩
  | .hbm, ⟨53, _⟩ => ⟨S2x32x512x2048, .f32⟩
  | .hbm, ⟨54, _⟩ => ⟨S1x1x512x2048, .i1⟩
  | .hbm, ⟨55, _⟩ => ⟨S_, .f32⟩
  | .hbm, ⟨56, _⟩ => ⟨S_, .f32⟩
  | .hbm, ⟨57, _⟩ => ⟨S2x32x512x2048, .i1⟩
  | .hbm, ⟨58, _⟩ => ⟨S2x32x512x2048, .f32⟩
  | .hbm, ⟨59, _⟩ => ⟨S2x32x512x2048, .f32⟩
  | .hbm, ⟨60, _⟩ => ⟨S_, .f32⟩
  | .hbm, ⟨61, _⟩ => ⟨S2x32x512, .f32⟩
  | .hbm, ⟨62, _⟩ => ⟨S2x32x512x1, .f32⟩
  | .hbm, ⟨63, _⟩ => ⟨S2x32x512x2048, .f32⟩
  | .hbm, ⟨64, _⟩ => ⟨S2x32x512x2048, .f32⟩
  | .hbm, ⟨65, _⟩ => ⟨S2x32x512x2048, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x32x512, .f32⟩
  | .hbm, ⟨71, _⟩ => ⟨S2x32x512x1, .f32⟩
  | .hbm, ⟨72, _⟩ => ⟨S_, .f32⟩
  | .hbm, ⟨73, _⟩ => ⟨S_, .f32⟩
  | .hbm, ⟨74, _⟩ => ⟨S2x32x512x1, .i1⟩
  | .hbm, ⟨75, _⟩ => ⟨S2x32x512x1, .f32⟩
  | .hbm, ⟨76, _⟩ => ⟨S2x32x512x1, .f32⟩
  | .hbm, ⟨77, _⟩ => ⟨S2x32x512x2048, .f32⟩
  | .hbm, ⟨78, _⟩ => ⟨S2x32x512x2048, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x32x512x2048, .i1⟩
  | .hbm, ⟨83, _⟩ => ⟨S2x32x512x2048, .f32⟩
  | .hbm, ⟨84, _⟩ => ⟨S2x32x512x2048, .f32⟩
  | .hbm, ⟨85, _⟩ => ⟨S2x32x64x512, .f32⟩
  | .hbm, ⟨86, _⟩ => ⟨S2x512x32x64, .f32⟩
  | .hbm, ⟨87, _⟩ => ⟨S2x512x2048, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Attn.Cuts.lean ====
/- The kernel body's text, cut at the calls of its printed parts into stretches that are proved one at a time. -/
module

public import proofs.«01_k».proof.Proof.Gen.Kernel.Skeleton
public import Idealize.ShloMosaic.Lib.Tactic.Stretches

@[expose] public section

noncomputable section

namespace Cert.Kernel.Attn

open Idealize.ShloMosaic Idealize.ShloMosaic.TcCoe Idealize.SL.Sem
open Cert.Kernel Cert.Kernel.Gen
open Idealize.ShloMosaic.Tactic

cut_chain st := k0_part41_skel at 3, 4, 17, 18, 29, 30, 31, 32, 33, 34, 35, 36, 37, 38, 39

end Cert.Kernel.Attn
-- ==== Proof.Attn.Start.lean ====
/- The opening barrier, the scatter of K and V by the device that owns the first keys, and the loads of the projections. -/
module

public import proofs.«01_k».proof.Proof.Attn.Device

@[expose] public section

noncomputable section

namespace Cert.Kernel.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.Kernel Cert.Kernel.Gen

variable {F : FTy → Type} [FloatOps F] [Facts]

local notation "𝕄" => MT nD τ sig Unit (Elt F) ℕ UU ℕ

variable (I : Inp F)

/-! ## The barrier, the scatter, the first loads -/

def D1 (c : Dev nD) : sProp 𝕄 :=
  if c = 0 then iprop((tk 0 0 ∗ tk 0 1 ∗ tk 0 2 ∗ tk 0 3 ∗ tk 0 4 ∗ tk 0 5 ∗ tk 0 6 ∗ tk 0 7)
    ∗ (tk 1 11 ∗ tk 3 11 ∗ tk 1 8 ∗ tk 3 8 ∗ tk 1 9 ∗ tk 3 9)
    ∗ (pv 0 (kgS 0) fullShare (I.kg 0) ∗ pv 0 (kgS 1) fullShare (I.kg 0) ∗ pv 0 (kgS 2) fullShare (I.kg 0) ∗ pv 0 (kgS 3) fullShare (I.kg 0))
    ∗ (pv 0 (vgS 0) fullShare (I.vg 0) ∗ pv 0 (vgS 1) fullShare (I.vg 0) ∗ pv 0 (vgS 2) fullShare (I.vg 0) ∗ pv 0 (vgS 3) fullShare (I.vg 0))
    ∗ (∃ f, pv 0 kM fullShare f) ∗ (∃ f, pv 0 vM fullShare f))
  else iprop(emp)
def E1 (c : Dev nD) : sProp 𝕄 :=
  if c = 0 then iprop(cr 0 0 ∗ cr 0 1 ∗ cr 0 2 ∗ cr 0 3 ∗ cr 0 4 ∗ cr 0 5 ∗ cr 0 6 ∗ cr 0 7)
  else if c = 1 then iprop((∃ f, pt 2 kM f) ∗ reached ER (dc 2 8) 0)
  else if c = 3 then iprop((∃ f, pt 2 vM f) ∗ reached ER (dc 2 9) 0) else iprop(emp)
theorem D1_0 : (D1 I 0 : sProp 𝕄) = iprop((tk 0 0 ∗ tk 0 1 ∗ tk 0 2 ∗ tk 0 3 ∗ tk 0 4 ∗ tk 0 5 ∗ tk 0 6 ∗ tk 0 7)
    ∗ (tk 1 11 ∗ tk 3 11 ∗ tk 1 8 ∗ tk 3 8 ∗ tk 1 9 ∗ tk 3 9)
    ∗ (pv 0 (kgS 0) fullShare (I.kg 0) ∗ pv 0 (kgS 1) fullShare (I.kg 0) ∗ pv 0 (kgS 2) fullShare (I.kg 0) ∗ pv 0 (kgS 3) fullShare (I.kg 0))
    ∗ (pv 0 (vgS 0) fullShare (I.vg 0) ∗ pv 0 (vgS 1) fullShare (I.vg 0) ∗ pv 0 (vgS 2) fullShare (I.vg 0) ∗ pv 0 (vgS 3) fullShare (I.vg 0))
    ∗ (∃ f, pv 0 kM fullShare f) ∗ (∃ f, pv 0 vM fullShare f)) := if_pos rfl
theorem E1_0 : (E1 0 : sProp 𝕄) = iprop(cr 0 0 ∗ cr 0 1 ∗ cr 0 2 ∗ cr 0 3 ∗ cr 0 4 ∗ cr 0 5 ∗ cr 0 6 ∗ cr 0 7) := if_pos rfl
theorem E1_1 : (E1 1 : sProp 𝕄) = iprop((∃ f, pt 2 kM f) ∗ reached ER (dc 2 8) 0) := (if_neg (by decide)).trans (if_pos rfl)
theorem E1_2 : (E1 2 : sProp 𝕄) = iprop(emp) := (if_neg (by decide)).trans ((if_neg (by decide)).trans (if_neg (by decide)))
theorem E1_3 : (E1 3 : sProp 𝕄) = iprop((∃ f, pt 2 vM f) ∗ reached ER (dc 2 9) 0) := (if_neg (by decide)).trans ((if_neg (by decide)).trans (if_pos rfl))

theorem extra_01 : (extra 0 1 : sProp 𝕄) = iprop(((∃ f, pt 1 kM f) ∗ (∃ f, pt 1 vM f) ∗ (∃ f, pt 1 yM f)) ∗ reached ER (dc 1 8) 0 ∗ reached ER (dc 1 9) 0 ∗ reached ER (dc 1 11) 0) := if_pos (by decide)
theorem extra_03 : (extra 0 3 : sProp 𝕄) = iprop(((∃ f, pt 3 kM f) ∗ (∃ f, pt 3 vM f) ∗ (∃ f, pt 3 yM f)) ∗ reached ER (dc 3 8) 0 ∗ reached ER (dc 3 9) 0 ∗ reached ER (dc 3 11) 0) := if_pos (by decide)
theorem extra_12 : (extra 1 2 : sProp 𝕄) = iprop((∃ f, pt 2 kM f) ∗ reached ER (dc 2 8) 0) := (if_neg (by decide)).trans (if_pos (by decide))
theorem extra_32 : (extra 3 2 : sProp 𝕄) = iprop((∃ f, pt 2 vM f) ∗ reached ER (dc 2 9) 0) := (if_neg (by decide)).trans ((if_neg (by decide)).trans (if_pos (by decide)))
theorem OSC_0 : OSC 0 = OREL 0 + own1 3 9 + own1 1 9 + own1 3 8 + own1 1 8 + own1 3 11 + own1 1 11 := if_pos rfl
theorem OSC_n (c : Dev nD) (h : c ≠ 0) : OSC c = OREL c := if_neg h

/-- The places device `c` may write on the device at distance `o`. -/
def dest (c : Dev nD) (o : Fin 4) : sProp 𝕄 :=
  iprop((∃ f, pv (c + o) (rsS (slot o)) fullShare f) ∗ (∃ f, pv (c + o) (agS (slot o)) fullShare f)
    ∗ reached ER (dc (c + o) (rsj o)) 0 ∗ reached ER (dc (c + o) (agj o)) 0)
theorem barPay_dest (c : Dev nD) (o : Fin 4) : (barPay c o : sProp 𝕄) ⊢ iprop(dest c o ∗ extra c (c + o)) := by
  unfold barPay dest
  iintro ⟨H1, H2, H3, H4, H5⟩
  iframe H1 H2 H3 H4 H5
theorem sep_mono_l {A B C : sProp 𝕄} (h : A ⊢ B) : iprop(A ∗ C) ⊢ iprop(B ∗ C) := by
  iintro ⟨HA, HC⟩
  isplitl [HA]
  · iapply h $$ HA
  iexact HC

theorem rd_wq (p : ∀ a, (![0, 0] : Fin 2 → ℕ) a + S768x512.size a ≤ S768x512.size a) (f : S768x512.Idx → Elt F .f32) :
    wqM.view.readAt (Elt F) (Rect.unit (s := S768x512) ![0, 0] S768x512.size p).toLoadRect f = f :=
  Memref.readAt_unit_zero (Elt F) cc0_stg1_0 (off := ![0, 0]) (by funext a; revert a; exact (by decide : ∀ a : Fin 2, (![0, 0] : Fin 2 → ℕ) a = 0)) p f
theorem rd_wo (p : ∀ a, (![0, 0] : Fin 2 → ℕ) a + S512x768.size a ≤ S512x768.size a) (f : S512x768.Idx → Elt F .f32) :
    woM.view.readAt (Elt F) (Rect.unit (s := S512x768) ![0, 0] S512x768.size p).toLoadRect f = f :=
  Memref.readAt_unit_zero (Elt F) cc0_stg2_0 (off := ![0, 0]) (by funext a; revert a; exact (by decide : ∀ a : Fin 2, (![0, 0] : Fin 2 → ℕ) a = 0)) p f

set_option maxHeartbeats 4000000 in
theorem st1_spec (K : GSem nD τ sig → ℕ) (c : Dev nD)
    {R : Type} {κ : _} {Q : R → sProp 𝕄} :
    iprop(allInv I K ∗ ownR c ∗ levAts L lv ∗ reached ER (bc (c + 1)) 0 ∗ reached ER (bc (c + 2)) 0 ∗ reached ER (bc (c + 3)) 0
      ∗ dutyTok ER (bc (c + 1)) 0 3 ∗ dutyTok ER (bc (c + 2)) 0 2 ∗ dutyTok ER (bc (c + 3)) 0 1
      ∗ barPay (c + 1) 3 ∗ barPay (c + 2) 2 ∗ barPay (c + 3) 1 ∗ atPos ER (bc c) 0 ∅ 0 ∗ cred (tallyAt (bc c) () 3)
      ∗ pt c xM (I.x c) ∗ pt c wqM (I.wq c) ∗ pt c woM (I.wo c) ∗ D1 I c ∗ ow c (O₀ c))
      ⊢ iprop(((atPos ER (bc c) 1 ∅ 0 ∗ dest c 1 ∗ dest c 2 ∗ dest c 3 ∗ pt c xM (I.x c) ∗ pt c wqM (I.wq c) ∗ pt c woM (I.wo c) ∗ E1 c ∗ ow c (OREL c)) -∗
            wp frame (wpE (defs₀ (F := F)) 𝒱₀ (c : Thread nD τ) none) Set.univ
              (κ c (vv c) (QQ I c 0) (QQ I c 1) (WO I c) k0_pay6 (iota .tc S512x512 32 [1] iota_S512x512_d1_w32) 64#32 k0_pay7 k0_pay8 k0_pay9) Q)
          -∗ wp frame (wpE (defs₀ (F := F)) 𝒱₀ (c : Thread nD τ) none) Set.univ
              (st1 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                κ) Q) := by
  iintro ⟨#HI, #HR, #Hlev, #Hr1, #Hr2, #Hr3, Ht1, Ht2, Ht3, Hb1, Hb2, Hb3, Hat, Hcb, Hx, Hwq, Hwo, HD, HO⟩ Hκ
  unfold st1
  sl_exec
  iapply (signal_step I K c (c + 1) 3 (by decide) (Fin.ext (k0_dev1_eq c)) (OB2 c) rfl) $$ [Ht1 Hb1 HO]
  · iframe HI Hr1 Ht1 Hb1 HO
  iintro HO
  sl_exec
  iapply (signal_step I K c (c + 2) 2 (by decide) (Fin.ext (k0_dev2_eq c)) (OB1 c) rfl) $$ [Ht2 Hb2 HO]
  · iframe HI Hr2 Ht2 Hb2 HO
  iintro HO
  sl_exec
  iapply (signal_step I K c (c + 3) 1 (by decide) (Fin.ext (k0_dev3_eq c)) (OSC c) rfl) $$ [Ht3 Hb3 HO]
  · iframe HI Hr3 Ht3 Hb3 HO
  iintro HO
  sl_exec
  iapply (barrier_step I K c (above_OSC c)) $$ [Hat Hcb HO]
  · iframe HI Hlev Hat Hcb HO
  iintro ⟨HO, Hat, Hb1, Hb2, Hb3⟩
  ihave Hb1 := (barPay_dest c 1) $$ Hb1
  icases Hb1 with ⟨Hd1, Hx1⟩
  ihave Hb2 := (barPay_dest c 2) $$ Hb2
  icases Hb2 with ⟨Hd2, Hx2⟩
  ihave Hb3 := (barPay_dest c 3) $$ Hb3
  icases Hb3 with ⟨Hd3, Hx3⟩
  obtain rfl | rfl | rfl | rfl := dev_cases c
  · ihave HD := (Entails.of_eq (D1_0 I)) $$ HD
    icases HD with ⟨⟨T0, T1, T2, T3, T4, T5, T6, T7⟩, ⟨U4, U5, U6, U7, U8, U9⟩, ⟨K0, K1, K2, K3⟩, ⟨V0, V1, V2, V3⟩, ⟨%fk, Hk⟩, ⟨%fv, Hv⟩⟩
    ihave Hx1 := (Entails.of_eq (extra_01 (F := F))) $$ [Hx1]
    · iexact Hx1
    icases Hx1 with ⟨⟨⟨%k1, P1⟩, ⟨%v1, Q1⟩, ⟨%y1, Y1⟩⟩, #R18, #R19, #R111⟩
    ihave Hx3 := (Entails.of_eq (extra_03 (F := F))) $$ [Hx3]
    · iexact Hx3
    icases Hx3 with ⟨⟨⟨%k3, P3⟩, ⟨%v3, Q3⟩, ⟨%y3, Y3⟩⟩, #R38, #R39, #R311⟩
    rw [E1_0, OSC_0]
    first | rw [dif_pos (show k0_cond1 0 = 1#1 by decide)] | skip
    rw [k0_part1_eq_skeleton]
    unfold k0_part1_skel
    sl_exec
    ihave Y1 := (Entails.of_eq (pv_whole 1 yM.view.ref y1).symm) $$ [Y1]
    · iexact Y1
    iapply (send_step I K 0 1 2 11 (by decide) (by decide) (Fin.ext (show k0_dev4 = 1 from k0_dev4_eq)) (sem_at 6 6 0 _ _ _) (sem_at 1 15 0 _ _ _) (kgS 2) yM (amt_K (by decide)) rfl
      fullShare (I.kg 0) y1 (Entails.of_eq rfl) (land_ky 1 2 (I.kg 0) y1) (OREL 0 + own1 3 9 + own1 1 9 + own1 3 8 + own1 1 8 + own1 3 11) rfl) $$ [K2 Y1 T2 U4 HO]
    · iframe HI HR R111 K2 Y1 T2 U4 HO
    iintro ⟨C2, HO⟩
    sl_exec
    ihave Y3 := (Entails.of_eq (pv_whole 3 yM.view.ref y3).symm) $$ [Y3]
    · iexact Y3
    iapply (send_step I K 0 3 3 11 (by decide) (by decide) (Fin.ext (show k0_dev5 = 3 from k0_dev5_eq)) (sem_at 6 6 1 _ _ _) (sem_at 1 15 0 _ _ _) (vgS 2) yM (amt_K (by decide)) rfl
      fullShare (I.vg 0) y3 (Entails.of_eq rfl) (land_vy 3 2 (I.vg 0) y3) (OREL 0 + own1 3 9 + own1 1 9 + own1 3 8 + own1 1 8) rfl) $$ [V2 Y3 T3 U5 HO]
    · iframe HI HR R311 V2 Y3 T3 U5 HO
    iintro ⟨C3, HO⟩
    sl_exec
    ihave P1 := (Entails.of_eq (pv_whole 1 kM.view.ref k1).symm) $$ [P1]
    · iexact P1
    iapply (send_step I K 0 1 4 8 (by decide) (by decide) (Fin.ext (show k0_dev6 = 1 from k0_dev6_eq)) (sem_at 6 6 2 _ _ _) (sem_at 2 12 0 _ _ _) (kgS 1) kM (amt_K (by decide)) rfl
      fullShare (I.kg 0) k1 (Entails.of_eq rfl) (land_kk 1 1 (I.kg 0) k1) (OREL 0 + own1 3 9 + own1 1 9 + own1 3 8) rfl) $$ [K1 P1 T4 U6 HO]
    · iframe HI HR R18 K1 P1 T4 U6 HO
    iintro ⟨C4, HO⟩
    sl_exec
    ihave P3 := (Entails.of_eq (pv_whole 3 kM.view.ref k3).symm) $$ [P3]
    · iexact P3
    iapply (send_step I K 0 3 5 8 (by decide) (by decide) (Fin.ext (show k0_dev7 = 3 from k0_dev7_eq)) (sem_at 6 6 3 _ _ _) (sem_at 2 12 0 _ _ _) (kgS 3) kM (amt_K (by decide)) rfl
      fullShare (I.kg 0) k3 (Entails.of_eq rfl) (land_kk 3 3 (I.kg 0) k3) (OREL 0 + own1 3 9 + own1 1 9) rfl) $$ [K3 P3 T5 U7 HO]
    · iframe HI HR R38 K3 P3 T5 U7 HO
    iintro ⟨C5, HO⟩
    sl_exec
    ihave Q1 := (Entails.of_eq (pv_whole 1 vM.view.ref v1).symm) $$ [Q1]
    · iexact Q1
    iapply (send_step I K 0 1 6 9 (by decide) (by decide) (Fin.ext (show k0_dev8 = 1 from k0_dev8_eq)) (sem_at 6 6 4 _ _ _) (sem_at 2 12 1 _ _ _) (vgS 1) vM (amt_K (by decide)) rfl
      fullShare (I.vg 0) v1 (Entails.of_eq rfl) (land_vv 1 1 (I.vg 0) v1) (OREL 0 + own1 3 9) rfl) $$ [V1 Q1 T6 U8 HO]
    · iframe HI HR R19 V1 Q1 T6 U8 HO
    iintro ⟨C6, HO⟩
    sl_exec
    ihave Q3 := (Entails.of_eq (pv_whole 3 vM.view.ref v3).symm) $$ [Q3]
    · iexact Q3
    iapply (send_step I K 0 3 7 9 (by decide) (by decide) (Fin.ext (show k0_dev9 = 3 from k0_dev9_eq)) (sem_at 6 6 5 _ _ _) (sem_at 2 12 1 _ _ _) (vgS 3) vM (amt_K (by decide)) rfl
      fullShare (I.vg 0) v3 (Entails.of_eq rfl) (land_vv 3 3 (I.vg 0) v3) (OREL 0) rfl) $$ [V3 Q3 T7 U9 HO]
    · iframe HI HR R39 V3 Q3 T7 U9 HO
    iintro ⟨C7, HO⟩
    sl_exec
    iapply (copy_step I K 0 0 (by decide) (sem_at 2 4 0 _ _ _) (kgS 0) kM (amt_K (by decide)) (I.kg 0) fk (sep_mono_l (land_kk 0 0 (I.kg 0) fk))) $$ [K0 Hk T0]
    · iframe HI HR K0 Hk T0
    iintro C0
    sl_exec
    iapply (copy_step I K 0 1 (by decide) (sem_at 2 4 1 _ _ _) (vgS 0) vM (amt_K (by decide)) (I.vg 0) fv (sep_mono_l (land_vv 0 0 (I.vg 0) fv))) $$ [V0 Hv T1]
    · iframe HI HR V0 Hv T1
    iintro C1
    sl_exec
    rw [show vv 0 = 0#32 by decide]
    unfold st1_spec.sl.v62 st1_spec.sl.r st1_spec.sl.r_3 st1_spec.sl.r_4 st1_spec.sl.r_5 st1_spec.sl.r_1 st1_spec.sl.r_2
    rw [rd_wq, rd_wo]
    iapply  Hκ
    iframe Hat Hd1 Hd2 Hd3 Hx Hwq Hwo HO C0 C1 C2 C3 C4 C5 C6 C7
  · ihave Hx1 := (Entails.of_eq (extra_12 (F := F))) $$ [Hx1]
    · iexact Hx1
    rw [E1_1, OSC_n 1 (by decide)]
    sl_exec
    rw [show vv 1 = 1#32 by decide]
    unfold st1_spec.sl.v62_1 st1_spec.sl.r_6 st1_spec.sl.r_9 st1_spec.sl.r_10 st1_spec.sl.r_11 st1_spec.sl.r_7 st1_spec.sl.r_8
    rw [rd_wq, rd_wo]
    iapply  Hκ
    iframe Hat Hd1 Hd2 Hd3 Hx Hwq Hwo HO Hx1
  · rw [E1_2, OSC_n 2 (by decide)]
    sl_exec
    rw [show vv 2 = 2#32 by decide]
    unfold st1_spec.sl.v62_2 st1_spec.sl.r_12 st1_spec.sl.r_15 st1_spec.sl.r_16 st1_spec.sl.r_17 st1_spec.sl.r_13 st1_spec.sl.r_14
    rw [rd_wq, rd_wo]
    iapply  Hκ
    iframe Hat Hd1 Hd2 Hd3 Hx Hwq Hwo HO
  · ihave Hx3 := (Entails.of_eq (extra_32 (F := F))) $$ [Hx3]
    · iexact Hx3
    rw [E1_3, OSC_n 3 (by decide)]
    sl_exec
    rw [show vv 3 = 3#32 by decide]
    unfold st1_spec.sl.v62_3 st1_spec.sl.r_18 st1_spec.sl.r_21 st1_spec.sl.r_22 st1_spec.sl.r_23 st1_spec.sl.r_19 st1_spec.sl.r_20
    rw [rd_wq, rd_wo]
    iapply  Hκ
    iframe Hat Hd1 Hd2 Hd3 Hx Hwq Hwo HO Hx3

end Cert.Kernel.Attn
-- ==== Proof.AttnIdeal.Values.lean ====
/- What the kernel computes on one device, as functions of contents: the queries, the masked exponentials of each head, their normalised
   products with the values, the partial output projections, their sums over devices. All generic in the float instance, each the printed
   operations of one head read at that head's offsets. -/
module

public import proofs.«01_k».proof.Proof.Gen.KernelIdeal.Skeleton
public import Idealize.ShloMosaic.Lib.Writes
public import Idealize.ShloMosaic.Lib.ValueIdxCore

@[expose] public section

noncomputable section

namespace Cert.KernelIdeal.Attn

open Idealize.ShloMosaic Idealize.ShloMosaic.TcCoe Idealize.SL.Sem
open Cert.KernelIdeal Cert.KernelIdeal.Gen
open Idealize.ShloMosaic.ValueIdx (ix3 ix4)

variable {F : FTy → Type} [FloatOps F] [Named F] [Facts]

/-- The elements of `f` in the rectangle `r`. -/
abbrev box {s : Shape} {α : Type} (r : Rect s) (f : s.Idx → α) : r.shape.Idx → α := fun j => f (r.emb j)

/-! ## Rectangles of one head and of one chunk of rows -/

theorem inb_k (b : Fin 2) (h : Fin 8) : ∀ a, (![b.val, 0, 64 * h.val] : Fin 3 → ℕ) a + S1x512x64.size a ≤ S2x512x512.size a := by
  intro a; have := b.isLt; have := h.isLt
  fin_cases a <;> simp [S1x512x64, S2x512x512] <;> omega
theorem inb_v (b : Fin 2) (h : Fin 8) : ∀ a, (![b.val, 0, 64 * h.val] : Fin 3 → ℕ) a + S1x256x64.size a ≤ S2x512x512.size a := by
  intro a; have := b.isLt; have := h.isLt
  fin_cases a <;> simp [S1x256x64, S2x512x512] <;> omega
theorem inb_v' (b : Fin 2) (h : Fin 8) : ∀ a, (![b.val, 256, 64 * h.val] : Fin 3 → ℕ) a + S1x256x64.size a ≤ S2x512x512.size a := by
  intro a; have := b.isLt; have := h.isLt
  fin_cases a <;> simp [S1x256x64, S2x512x512] <;> omega
theorem inb_wt (b : Fin 2) (h : Fin 8) : ∀ a, (![b.val, h.val, 0, 0] : Fin 4 → ℕ) a + S1x1x256x256.size a ≤ S2x8x256x256.size a := by
  intro a; have := b.isLt; have := h.isLt
  fin_cases a <;> simp [S1x1x256x256, S2x8x256x256] <;> omega
theorem inb_wb (b : Fin 2) (h : Fin 8) : ∀ a, (![b.val, h.val, 0, 0] : Fin 4 → ℕ) a + S1x1x256x512.size a ≤ S2x8x256x512.size a := by
  intro a; have := b.isLt; have := h.isLt
  fin_cases a <;> simp [S1x1x256x512, S2x8x256x512] <;> omega
theorem inb_x (b : Fin 2) : ∀ a, (![b.val, 0, 0] : Fin 3 → ℕ) a + S1x512x768.size a ≤ S2x512x768.size a := by
  intro a; have := b.isLt
  fin_cases a <;> simp [S1x512x768, S2x512x768] <;> omega
theorem inb_c (b : Fin 2) (d : Fin 4) : ∀ a, (![b.val, 128 * d.val, 0] : Fin 3 → ℕ) a + S1x128x512.size a ≤ S2x512x512.size a := by
  intro a; have := b.isLt; have := d.isLt
  fin_cases a <;> simp [S1x128x512, S2x512x512] <;> omega
theorem inb_r (d : Fin 4) : ∀ a, (![0, 128 * d.val, 0] : Fin 3 → ℕ) a + S2x128x768.size a ≤ S2x512x768.size a := by
  intro a; have := d.isLt
  fin_cases a <;> simp [S2x128x768, S2x512x768] <;> omega
theorem slices_q (h : Fin 8) : S512x512.Slices ![0, 64 * h.val] S512x64 := by
  revert h; decide

/-- Head `h` of batch `b`: its 64 columns of all 512 keys; of the first 256; of the last 256. -/
abbrev rK (b : Fin 2) (h : Fin 8) : Rect S2x512x512 := Rect.unit (s := S2x512x512) ![b.val, 0, 64 * h.val] S1x512x64.size (inb_k b h)
abbrev rV (b : Fin 2) (h : Fin 8) : Rect S2x512x512 := Rect.unit (s := S2x512x512) ![b.val, 0, 64 * h.val] S1x256x64.size (inb_v b h)
abbrev rV' (b : Fin 2) (h : Fin 8) : Rect S2x512x512 := Rect.unit (s := S2x512x512) ![b.val, 256, 64 * h.val] S1x256x64.size (inb_v' b h)
/-- The exponentials of head `h` of batch `b`, of the first 256 queries and of the last. -/
abbrev rWt (b : Fin 2) (h : Fin 8) : Rect S2x8x256x256 := Rect.unit (s := S2x8x256x256) ![b.val, h.val, 0, 0] S1x1x256x256.size (inb_wt b h)
abbrev rWb (b : Fin 2) (h : Fin 8) : Rect S2x8x256x512 := Rect.unit (s := S2x8x256x512) ![b.val, h.val, 0, 0] S1x1x256x512.size (inb_wb b h)
/-- Batch `b` of the input. -/
abbrev rX (b : Fin 2) : Rect S2x512x768 := Rect.unit (s := S2x512x768) ![b.val, 0, 0] S1x512x768.size (inb_x b)
/-- The 128 rows of chunk `d`: of batch `b` of the attention's output; of both batches of the projected output. -/
abbrev rC (b : Fin 2) (d : Fin 4) : Rect S2x512x512 := Rect.unit (s := S2x512x512) ![b.val, 128 * d.val, 0] S1x128x512.size (inb_c b d)
abbrev rR (d : Fin 4) : Rect S2x512x768 := Rect.unit (s := S2x512x768) ![0, 128 * d.val, 0] S2x128x768.size (inb_r d)

/-! ## The attention of one device -/

/-- The device's queries for batch `b`. -/
def qv (x : S2x512x768.Idx → Elt F .f32) (wq : S768x512.Idx → Elt F .f32) : Fin 2 → FVec F S512x512 .bf16
  | 0 => k0_pay3 (k0_pay1 wq) (k0_pay2 (box (rX 0) x))
  | 1 => k0_pay4 (k0_pay1 wq) (box (rX 1) x)

/-- The output projection, rounded. -/
def wov (wo : S512x768.Idx → Elt F .f32) : FVec F S512x768 .bf16 := k0_pay5 wo

/-- The additive masks of the first 256 queries (on 256 keys) and of the last 256 (on all 512). -/
def mT : FVec F S256x256 .bf16 := k0_pay11 k0_pay6 (iota .tc S512x512 32 [1] iota_S512x512_d1_w32) 64#32 k0_pay7 k0_pay8 k0_pay9
def mB : FVec F S256x512 .bf16 := k0_pay12 k0_pay6 (iota .tc S512x512 32 [1] iota_S512x512_d1_w32) 64#32 k0_pay7 k0_pay8 k0_pay9

section

variable (q : Fin 2 → FVec F S512x512 .bf16) (k v : S2x512x512.Idx → Elt F .bf16)

def qh (b : Fin 2) (h : Fin 8) : FVec F S512x64 .bf16 := extractStridedSlice S512x64 ![0, 64 * h.val] (q b) (slices_q h)
def kh (b : Fin 2) (h : Fin 8) : FVec F S512x64 .bf16 := k0_pay14 (box (rK b h) k)

/-- The exponentials of head `h` of batch `b`, as stored, and the reciprocals of their sums over the keys. -/
def wTb (b : Fin 2) (h : Fin 8) : FVec F S1x1x256x256 .bf16 := k0_pay19 mT (qh q b h) (kh k b h)
def wBb (b : Fin 2) (h : Fin 8) : FVec F S1x1x256x512 .bf16 := k0_pay20 mB (qh q b h) (kh k b h)
def rT (b : Fin 2) (h : Fin 8) : FVec F S256x1 .f32 := k0_pay17 mT (qh q b h) (kh k b h)
def rB (b : Fin 2) (h : Fin 8) : FVec F S256x1 .f32 := k0_pay18 mB (qh q b h) (kh k b h)

/-- All the exponentials. -/
def wT : S2x8x256x256.Idx → Elt F .bf16 := fun y => wTb q k (y 0) (y 1) (ix4 0 0 (y 2) (y 3))
def wB : S2x8x256x512.Idx → Elt F .bf16 := fun y => wBb q k (y 0) (y 1) (ix4 0 0 (y 2) (y 3))

/-- The attention's output of head `h` of batch `b`, of the first 256 queries and of the last. -/
def cT (b : Fin 2) (h : Fin 8) : FVec F S1x256x64 .bf16 := k0_pay151 (rT q k b h) (box (rWt b h) (wT q k)) (box (rV b h) v)
def cB (b : Fin 2) (h : Fin 8) : FVec F S1x256x64 .bf16 := k0_pay152 (rB q k b h) (box (rWb b h) (wB q k)) (box (rK b h) v)

/-- The head of a column, the column in its head. -/
abbrev hd (c : Fin 512) : Fin 8 := ⟨c.val / 64, by omega⟩
abbrev lane (c : Fin 512) : Fin 64 := ⟨c.val % 64, by omega⟩

/-- The attention's output. -/
def ctx : S2x512x512.Idx → Elt F .bf16 := fun y =>
  if h : (y 1).val < 256 then cT q k v (y 0) (hd (y 2)) (ix3 0 ⟨(y 1).val, h⟩ (lane (y 2)))
  else cB q k v (y 0) (hd (y 2)) (ix3 0 ⟨(y 1).val - 256, by have : (y 1).val < 512 := (y 1).isLt; omega⟩ (lane (y 2)))

end

/-! ## A piece agrees with the whole -/

section

variable (q : Fin 2 → FVec F S512x512 .bf16) (k v : S2x512x512.Idx → Elt F .bf16)

theorem wT_emb (b : Fin 2) (h : Fin 8) (x : (rWt b h).shape.Idx) : wTb q k b h x = wT q k ((rWt b h).emb x) := by
  have h0 : (rWt b h).emb x 0 = b := Fin.ext (by have := (x 0).isLt; show b.val + 1 * (x 0).val = b.val; simp at this; omega)
  have h1 : (rWt b h).emb x 1 = h := Fin.ext (by have := (x 1).isLt; show h.val + 1 * (x 1).val = h.val; simp at this; omega)
  unfold wT
  rw [h0, h1]
  congr 1
  funext a
  fin_cases a
  · exact Fin.ext (by have := (x 0).isLt; show (x 0).val = 0; simp at this; omega)
  · exact Fin.ext (by have := (x 1).isLt; show (x 1).val = 0; simp at this; omega)
  · exact Fin.ext (by show (x 2).val = 0 + 1 * (x 2).val; omega)
  · exact Fin.ext (by show (x 3).val = 0 + 1 * (x 3).val; omega)

theorem wB_emb (b : Fin 2) (h : Fin 8) (x : (rWb b h).shape.Idx) : wBb q k b h x = wB q k ((rWb b h).emb x) := by
  have h0 : (rWb b h).emb x 0 = b := Fin.ext (by have := (x 0).isLt; show b.val + 1 * (x 0).val = b.val; simp at this; omega)
  have h1 : (rWb b h).emb x 1 = h := Fin.ext (by have := (x 1).isLt; show h.val + 1 * (x 1).val = h.val; simp at this; omega)
  unfold wB
  rw [h0, h1]
  congr 1
  funext a
  fin_cases a
  · exact Fin.ext (by have := (x 0).isLt; show (x 0).val = 0; simp at this; omega)
  · exact Fin.ext (by have := (x 1).isLt; show (x 1).val = 0; simp at this; omega)
  · exact Fin.ext (by show (x 2).val = 0 + 1 * (x 2).val; omega)
  · exact Fin.ext (by show (x 3).val = 0 + 1 * (x 3).val; omega)

theorem ctx_embT (b : Fin 2) (h : Fin 8) (x : (rV b h).shape.Idx) : cT q k v b h x = ctx q k v ((rV b h).emb x) := by
  have l1 : (x 1).val < 256 := (x 1).isLt
  have l2 : (x 2).val < 64 := (x 2).isLt
  have l0 : (x 0).val = 0 := by have := (x 0).isLt; simp at this; omega
  have hh := h.isLt
  have e1 : ((rV b h).emb x 1).val = (x 1).val := by show 0 + 1 * (x 1).val = (x 1).val; omega
  have h0 : (rV b h).emb x 0 = b := Fin.ext (by show b.val + 1 * (x 0).val = b.val; omega)
  have e2 : ((rV b h).emb x 2).val = 64 * h.val + (x 2).val := by show 64 * h.val + 1 * (x 2).val = _; omega
  have h2 : hd ((rV b h).emb x 2) = h := Fin.ext (by show ((rV b h).emb x 2).val / 64 = h.val; rw [e2]; omega)
  have h3 : lane ((rV b h).emb x 2) = x 2 := Fin.ext (by show ((rV b h).emb x 2).val % 64 = (x 2).val; rw [e2]; omega)
  unfold ctx
  rw [dif_pos (by rw [e1]; exact l1), h0, h2]
  congr 1
  funext a
  fin_cases a
  · exact Fin.ext l0
  · exact Fin.ext e1.symm
  · exact h3.symm

theorem ctx_embB (b : Fin 2) (h : Fin 8) (x : (rV' b h).shape.Idx) : cB q k v b h x = ctx q k v ((rV' b h).emb x) := by
  have l1 : (x 1).val < 256 := (x 1).isLt
  have l2 : (x 2).val < 64 := (x 2).isLt
  have l0 : (x 0).val = 0 := by have := (x 0).isLt; simp at this; omega
  have hh := h.isLt
  have e1 : ((rV' b h).emb x 1).val = 256 + (x 1).val := by show 256 + 1 * (x 1).val = _; omega
  have h0 : (rV' b h).emb x 0 = b := Fin.ext (by show b.val + 1 * (x 0).val = b.val; omega)
  have e2 : ((rV' b h).emb x 2).val = 64 * h.val + (x 2).val := by show 64 * h.val + 1 * (x 2).val = _; omega
  have h2 : hd ((rV' b h).emb x 2) = h := Fin.ext (by show ((rV' b h).emb x 2).val / 64 = h.val; rw [e2]; omega)
  have h3 : lane ((rV' b h).emb x 2) = x 2 := Fin.ext (by show ((rV' b h).emb x 2).val % 64 = (x 2).val; rw [e2]; omega)
  unfold ctx
  rw [dif_neg (by rw [e1]; omega), h0, h2]
  congr 1
  funext a
  fin_cases a
  · exact Fin.ext l0
  · exact Fin.ext (by show (x 1).val = ((rV' b h).emb x 1).val - 256; rw [e1]; omega)
  · exact h3.symm

end

/-! ## The projections, chunk by chunk, and the sum over the devices -/

/-- The projection of chunk `d`'s rows, before rounding: both batches. -/
def own (cx : S2x512x512.Idx → Elt F .bf16) (w : FVec F S512x768 .bf16) (d : Fin 4) : FVec F S2x128x768 .f32 :=
  k0_pay205 w (box (rC 0 d) cx) (box (rC 1 d) cx)

/-- The projection of chunk `d`'s rows of batch `b`, rounded, as a device sends it to the device that owns the chunk. -/
def prj (cx : S2x512x512.Idx → Elt F .bf16) (w : FVec F S512x768 .bf16) (d : Fin 4) (b : Fin 2) : FVec F S1x128x768 .bf16 :=
  k0_pay198 w (box (rC b d) cx)

/-- Both batches of `prj`. -/
def sent (cx : S2x512x512.Idx → Elt F .bf16) (w : FVec F S512x768 .bf16) (d : Fin 4) : S2x128x768.Idx → Elt F .bf16 :=
  fun y => prj cx w d (y 0) (ix3 0 (y 1) (y 2))

/-- A chunk as it stands in the receive buffer's slot. -/
def asSlot (s : S2x128x768.Idx → Elt F .bf16) : S1x2x128x768.Idx → Elt F .bf16 := fun y => s (ix3 (y 1) (y 2) (y 3))

/-- The sum of a device's own projection of its chunk and of the three received. -/
def red (o : FVec F S2x128x768 .f32) (s₀ s₁ s₂ : S2x128x768.Idx → Elt F .bf16) : FVec F S2x128x768 .f32 :=
  k0_pay207 (k0_pay206 o (asSlot s₀) (asSlot s₁)) (asSlot s₂)

/-- The sum, rounded, as it is broadcast. -/
def redb (o : FVec F S2x128x768 .f32) (s₀ s₁ s₂ : S2x128x768.Idx → Elt F .bf16) : FVec F S2x128x768 .bf16 :=
  k0_pay208 (k0_pay206 o (asSlot s₀) (asSlot s₁)) (asSlot s₂)

/-- A received sum, widened. -/
def wide (s : S2x128x768.Idx → Elt F .bf16) : FVec F S2x128x768 .f32 := k0_pay211 (asSlot s)

end Cert.KernelIdeal.Attn
-- ==== Proof.AttnIdeal.Cuts.lean ====
/- The kernel body's text, cut at the calls of its printed parts into stretches that are proved one at a time. -/
module

public import proofs.«01_k».proof.Proof.Gen.KernelIdeal.Skeleton
public import Idealize.ShloMosaic.Lib.Tactic.Stretches

@[expose] public section

noncomputable section

namespace Cert.KernelIdeal.Attn

open Idealize.ShloMosaic Idealize.ShloMosaic.TcCoe Idealize.SL.Sem
open Cert.KernelIdeal Cert.KernelIdeal.Gen
open Idealize.ShloMosaic.Tactic

cut_chain st := k0_part41_skel at 3, 4, 17, 18, 29, 30, 31, 32, 33, 34, 35, 36, 37, 38, 39

end Cert.KernelIdeal.Attn
-- ==== Proof.AttnIdeal.Base.lean ====
/- The kernel's buffers by name, the resource algebra of the proof, and the points-to of a whole buffer. -/
module

public import proofs.«01_k».proof.Proof.AttnIdeal.Values
public import proofs.«01_k».proof.Proof.AttnIdeal.Cuts
public import Idealize.ShloMosaic.Lib.Rounds
public import Idealize.ShloMosaic.Lib.Tactic
public import Idealize.ShloMosaic.Lib.Pipeline.Kit

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

/-- The proof's own ghost state: the pipeline's, and the rounds of the cells through which the devices talk, whose duties are named by the
    device that pays them (by 0 where there is one payer). -/
abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

abbrev 𝒱₀ : Variants := Variants.none

/-! ## The buffers -/

/-- The staged input, query weights, output weights and result. -/
abbrev xM : Memref sig .tc .vmem S2x512x768 .f32 := Memref.whole cc0_stg0_0
abbrev wqM : Memref sig .tc .vmem S768x512 .f32 := Memref.whole cc0_stg1_0
abbrev woM : Memref sig .tc .vmem S512x768 .f32 := Memref.whole cc0_stg2_0
abbrev oM : Memref sig .tc .vmem S2x512x768 .f32 := Memref.whole cc0_stg3_0
/-- The rounded keys and values, whole, of the device's own shard. -/
abbrev kgM : Memref sig .tc .hbm S2x512x2048 .bf16 := Memref.whole main_v2
abbrev vgM : Memref sig .tc .hbm S2x512x2048 .bf16 := Memref.whole main_v4
/-- The device's columns of keys and of values; the relay of device 2's columns. -/
abbrev kM : Memref sig .tc .vmem S2x512x512 .bf16 := Memref.whole cc0_scratch0
abbrev vM : Memref sig .tc .vmem S2x512x512 .bf16 := Memref.whole cc0_scratch1
abbrev yM : Memref sig .tc .vmem S2x512x512 .bf16 := Memref.whole cc0_scratch2
/-- The attention's output; the projected rows to send; the exponentials. -/
abbrev cM : Memref sig .tc .vmem S2x512x512 .bf16 := Memref.whole cc0_scratch3
abbrev aM : Memref sig .tc .vmem S2x512x768 .bf16 := Memref.whole cc0_scratch4
abbrev wtM : Memref sig .tc .vmem S2x8x256x256 .bf16 := Memref.whole cc0_scratch5
abbrev wbM : Memref sig .tc .vmem S2x8x256x512 .bf16 := Memref.whole cc0_scratch6
/-- The received projections; the received sums. -/
abbrev rsM : Memref sig .tc .vmem S3x2x128x768 .bf16 := Memref.whole cc0_scratch7
abbrev agM : Memref sig .tc .vmem S3x2x128x768 .bf16 := Memref.whole cc0_scratch8

/-- The whole of the memref's buffer on device `c` at contents `f`. -/
abbrev pt {sp : Space} {s : Shape} {e : EltTy} (c : Dev nD) (M : Memref sig .tc sp s e) (f : Buf (Elt F) (M.view.loc (c : Thread nD τ))) : sProp 𝕄 :=
  M.view.loc (c : Thread nD τ) ↦{fullShare} f

/-- The contents of a whole buffer after writes whose pieces all agree with `G`, at a place that a piece covers or where they agreed. -/
theorem writes_whole_apply (b : Ref sig .tc) (f G : b.ty.Contents (Elt F)) (L : List (View.Piece (Elt F) b.ty.shape b.ty.elt))
    (hL : ∀ p ∈ L, ∀ x, p.2 x = G (p.1.emb x)) (y : b.ty.shape.Idx) (h : (∃ p ∈ L, y ∈ p.1.set) ∨ f y = G y) :
    (Memref.whole b).view.writes (Elt F) f L y = G y := by
  by_cases hc : ∃ p ∈ L, y ∈ p.1.set
  · exact View.read_writes_apply_of_pieces (View.whole b) f G L hL y hc
  · have := View.read_writes_apply_of_forall_not_mem (View.whole b) f y L (fun p hp hm => hc ⟨p, hp, hm⟩)
    exact this.trans (h.resolve_left hc)

/-- Writes whose pieces agree with `G` and cover the whole buffer leave `G`. -/
theorem writes_whole (b : Ref sig .tc) (f G : b.ty.Contents (Elt F)) (L : List (View.Piece (Elt F) b.ty.shape b.ty.elt))
    (hL : ∀ p ∈ L, ∀ x, p.2 x = G (p.1.emb x)) (h : ∀ y, ∃ p ∈ L, y ∈ p.1.set) :
    (Memref.whole b).view.writes (Elt F) f L = G :=
  funext fun y => writes_whole_apply b f G L hL y (.inl (h y))

end Cert.KernelIdeal.Attn
-- ==== Proof.AttnIdeal.Exp.lean ====
/- The stretch that computes every head's masked exponentials: it reads the keys and leaves the exponentials of all heads in their two
   buffers and the reciprocals of their sums in registers. -/
module

public import proofs.«01_k».proof.Proof.AttnIdeal.Base

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ UU ℕ

set_option maxHeartbeats 4000000 in
theorem st3_spec (c : Dev nD) (v2 : BitVec 32) (q : Fin 2 → FVec F S512x512 .bf16) (k : S2x512x512.Idx → Elt F .bf16)
    {R : Type} {κ : _} {Q : R → sProp 𝕄} :
    iprop(pt c kM k ∗ (∃ f, pt c wtM f) ∗ (∃ f, pt c wbM f))
      ⊢ iprop(((pt c kM k ∗ pt c wtM (wT q k) ∗ pt c wbM (wB q k)) -∗
            wp frame (wpE (defs₀ (F := F)) 𝒱₀ (c : Thread nD τ) none) Set.univ
              (κ (rT q k 0 0) (rB q k 0 0) (rT q k 0 1) (rB q k 0 1) (rT q k 0 2) (rB q k 0 2) (rT q k 0 3) (rB q k 0 3)
                (rT q k 0 4) (rB q k 0 4) (rT q k 0 5) (rB q k 0 5) (rT q k 0 6) (rB q k 0 6) (rT q k 0 7) (rB q k 0 7)
                (rT q k 1 0) (rB q k 1 0) (rT q k 1 1) (rB q k 1 1) (rT q k 1 2) (rB q k 1 2) (rT q k 1 3) (rB q k 1 3)
                (rT q k 1 4) (rB q k 1 4) (rT q k 1 5) (rB q k 1 5) (rT q k 1 6) (rB q k 1 6) (rT q k 1 7) (rB q k 1 7)
                (Scalar.cmpi .eq v2 0#32)) Q)
          -∗ wp frame (wpE (defs₀ (F := F)) 𝒱₀ (c : Thread nD τ) none) Set.univ
              (st3 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                v2 (q 0) (q 1) mT mB (k0_pay13 (q 0)) (kh k 0 0) κ) Q) := by
  iintro ⟨HK, ⟨%f₁, HT⟩, ⟨%f₂, HB⟩⟩ Hκ
  unfold st3
  sl_exec

  rw [writes_whole cc0_scratch5 f₁ (wT q k) _ (by
    simp only [List.forall_mem_cons]
    exact ⟨fun x => wT_emb q k 1 7 x, fun x => wT_emb q k 1 6 x, fun x => wT_emb q k 1 5 x, fun x => wT_emb q k 1 4 x, fun x => wT_emb q k 1 3 x, fun x => wT_emb q k 1 2 x, fun x => wT_emb q k 1 1 x, fun x => wT_emb q k 1 0 x, fun x => wT_emb q k 0 7 x, fun x => wT_emb q k 0 6 x, fun x => wT_emb q k 0 5 x, fun x => wT_emb q k 0 4 x, fun x => wT_emb q k 0 3 x, fun x => wT_emb q k 0 2 x, fun x => wT_emb q k 0 1 x, fun x => wT_emb q k 0 0 x, fun _ hp => absurd hp List.not_mem_nil⟩) (View.cover_of_tiled _ S1x1x256x256.size rfl),
    writes_whole cc0_scratch6 f₂ (wB q k) _ (by
    simp only [List.forall_mem_cons]
    exact ⟨fun x => wB_emb q k 1 7 x, fun x => wB_emb q k 1 6 x, fun x => wB_emb q k 1 5 x, fun x => wB_emb q k 1 4 x, fun x => wB_emb q k 1 3 x, fun x => wB_emb q k 1 2 x, fun x => wB_emb q k 1 1 x, fun x => wB_emb q k 1 0 x, fun x => wB_emb q k 0 7 x, fun x => wB_emb q k 0 6 x, fun x => wB_emb q k 0 5 x, fun x => wB_emb q k 0 4 x, fun x => wB_emb q k 0 3 x, fun x => wB_emb q k 0 2 x, fun x => wB_emb q k 0 1 x, fun x => wB_emb q k 0 0 x, fun _ hp => absurd hp List.not_mem_nil⟩) (View.cover_of_tiled _ S1x1x256x512.size rfl)]
  iapply Hκ
  iframe

end Cert.KernelIdeal.Attn
-- ==== Proof.AttnIdeal.Proto.lean ====
/- The protocol of the devices: what each semaphore's units hand over, who pays them, what each device owes at launch. -/
module

public import proofs.«01_k».proof.Proof.AttnIdeal.Base

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

/-! ## The contents that travel -/

/-- What the devices' bodies start from: the staged arguments, and the rounded keys and values of the device's own shard. -/
structure Inp (F : FTy → Type) where
  x : Dev nD → S2x512x768.Idx → Elt F .f32
  wq : Dev nD → S768x512.Idx → Elt F .f32
  wo : Dev nD → S512x768.Idx → Elt F .f32
  kg : Dev nD → S2x512x2048.Idx → Elt F .bf16
  vg : Dev nD → S2x512x2048.Idx → Elt F .bf16

variable (I : Inp F)

/-- Column block `c` of a shard. -/
def colOf (g : S2x512x2048.Idx → Elt F .bf16) (c : Dev nD) : S2x512x512.Idx → Elt F .bf16 :=
  fun y => g (ix3 (y 0) (y 1) ⟨512 * c.val + (y 2).val, by have h2 : (y 2).val < 512 := (y 2).isLt; have h : c.val < 4 := c.isLt; omega⟩)

/-- The keys and values device `c` works on: its column block of device 0's. -/
def colK (c : Dev nD) : S2x512x512.Idx → Elt F .bf16 := colOf (I.kg 0) c
def colV (c : Dev nD) : S2x512x512.Idx → Elt F .bf16 := colOf (I.vg 0) c
/-- Its queries, its attention output, its output weights. -/
def QQ (c : Dev nD) : Fin 2 → FVec F S512x512 .bf16 := qv (I.x c) (I.wq c)
def CX (c : Dev nD) : S2x512x512.Idx → Elt F .bf16 := ctx (QQ I c) (colK I c) (colV I c)
def WO (c : Dev nD) : FVec F S512x768 .bf16 := wov (I.wo c)
/-- What it sends to the owner of chunk `d`. -/
def PR (c d : Dev nD) : S2x128x768.Idx → Elt F .bf16 := sent (CX I c) (WO I c) d
/-- The sum over the devices of chunk `d`, unrounded as its owner keeps it, rounded as it broadcasts it. -/
def RD (d : Dev nD) : FVec F S2x128x768 .f32 := red (own (CX I d) (WO I d) d) (PR I (d + 3) d) (PR I (d + 2) d) (PR I (d + 1) d)
def RB (d : Dev nD) : FVec F S2x128x768 .bf16 := redb (own (CX I d) (WO I d) d) (PR I (d + 3) d) (PR I (d + 2) d) (PR I (d + 1) d)

/-- Whose rows land in slot `i` of device `c`. -/
def frm (c : Dev nD) (i : Fin 3) : Dev nD := ![c + 3, c + 2, c + 1] i

/-- The receive buffers once everything has landed. -/
def RSF (c : Dev nD) : S3x2x128x768.Idx → Elt F .bf16 := fun y => PR I (frm c (y 0)) c (ix3 (y 1) (y 2) (y 3))
def AGF (c : Dev nD) : S3x2x128x768.Idx → Elt F .bf16 := fun y => RB I (frm c (y 0)) (ix3 (y 1) (y 2) (y 3))

theorem row_lt (y : S2x512x768.Idx) : (y 1).val < 512 := (y 1).isLt
/-- The chunk of a row, and the row in its chunk. -/
abbrev chk (y : S2x512x768.Idx) : Dev nD := ⟨(y 1).val / 128, by have := row_lt y; show _ < 4; omega⟩
abbrev inChk (y : S2x512x768.Idx) : S2x128x768.Idx := ix3 (y 0) ⟨(y 1).val % 128, by omega⟩ (y 2)

/-- The send buffer: the other devices' chunks as they are sent; the own chunk summed. -/
def ARF (c : Dev nD) : S2x512x768.Idx → Elt F .bf16 := fun y => if chk y = c then RB I c (inChk y) else PR I c (chk y) (inChk y)
/-- The result. -/
def OUT (c : Dev nD) : S2x512x768.Idx → Elt F .f32 := fun y => if chk y = c then RD I c (inChk y) else wide (RB I (chk y)) (inChk y)

/-! ## The pieces that travel -/

theorem inb_s (i : Fin 3) : ∀ a, (![i.val, 0, 0, 0] : Fin 4 → ℕ) a + S1x2x128x768.size a ≤ S3x2x128x768.size a := by
  intro a; have := i.isLt
  fin_cases a <;> simp [S1x2x128x768, S3x2x128x768] <;> omega
theorem inb_g (j : Dev nD) : ∀ a, (![0, 0, 512 * j.val] : Fin 3 → ℕ) a + S2x512x512.size a ≤ S2x512x2048.size a := by
  intro a; have : j.val < 4 := j.isLt
  fin_cases a <;> simp [S2x512x512, S2x512x2048] <;> omega

/-- Slot `i` of the receive buffers. -/
abbrev rS (i : Fin 3) : Rect S3x2x128x768 := Rect.unit (s := S3x2x128x768) ![i.val, 0, 0, 0] S1x2x128x768.size (inb_s i)
abbrev rsS (i : Fin 3) : Memref sig .tc .vmem S2x128x768 .bf16 := (rsM.slice (rS i) (fun _ => rfl)).squeeze S2x128x768 squeezes_S1x2x128x768_S2x128x768
abbrev agS (i : Fin 3) : Memref sig .tc .vmem S2x128x768 .bf16 := (agM.slice (rS i) (fun _ => rfl)).squeeze S2x128x768 squeezes_S1x2x128x768_S2x128x768
/-- The rows of chunk `d` of the send buffer. -/
abbrev aS (d : Dev nD) : Memref sig .tc .vmem S2x128x768 .bf16 := aM.slice (rR d) (fun _ => rfl)
/-- Column block `j` of the shards. -/
abbrev rG (j : Dev nD) : Rect S2x512x2048 := Rect.unit (s := S2x512x2048) ![0, 0, 512 * j.val] S2x512x512.size (inb_g j)
abbrev kgS (j : Dev nD) : Memref sig .tc .hbm S2x512x512 .bf16 := kgM.slice (rG j) (fun _ => rfl)
abbrev vgS (j : Dev nD) : Memref sig .tc .hbm S2x512x512 .bf16 := vgM.slice (rG j) (fun _ => rfl)

/-- The piece of the memref's buffer that it selects, on device `c`, at contents `f`. -/
abbrev pv {sp : Space} {s : Shape} {e : EltTy} (c : Dev nD) (M : Memref sig .tc sp s e) (q : PosShare TreeShare) (f : Buf (Elt F) (M.view.loc (c : Thread nD τ))) : sProp 𝕄 :=
  M.view.loc (c : Thread nD τ) ↦[M.view.set]{q} f

theorem pv_whole (c : Dev nD) (b : Ref sig .tc) (f : Buf (Elt F) ((Memref.whole b).view.loc (c : Thread nD τ))) :
    (pv c (Memref.whole b) fullShare f : sProp 𝕄) = pt c (Memref.whole b) f := by
  unfold pv pt; rw [View.set_whole]

/-! ## The cells -/

/-- The kernel's own transfer semaphores, and the barrier's. -/
abbrev dsem (j : Fin 24) : DmaSem sig := ⟨j.val + 4, by have := j.isLt; show j.val + 4 < 28; omega⟩
abbrev dc (c : Dev nD) (j : Fin 24) : GSem nD τ sig := ((c : Thread nD τ), .dma (dsem j))
abbrev bc (c : Dev nD) : GSem nD τ sig := ((c : Thread nD τ), .reg barrier0)

/-- The units a transfer pays: of a block of keys or values, of a chunk of rows. -/
def NK : ℕ := RefSig.tileCredit S2x512x512 .bf16
def NR : ℕ := RefSig.tileCredit S2x128x768 .bf16
theorem NK_pos : 0 < NK := RefSig.tileCredit_pos _ _ (by decide)
theorem NR_pos : 0 < NR := RefSig.tileCredit_pos _ _ (by decide)
theorem credit_eq {sp : Space} {s : Shape} {e : EltTy} (v : View sig .tc sp s e) : v.dmaCredit = RefSig.tileCredit s e := rfl
def amt (j : ℕ) : ℕ := if j < 12 then NK else NR

theorem amt_K {j : ℕ} (h : j < 12) : RefSig.tileCredit S2x512x512 .bf16 = amt j := (if_pos h).symm
theorem amt_R {j : ℕ} (h : 12 ≤ j) : RefSig.tileCredit S2x128x768 .bf16 = amt j := (if_neg (by omega)).symm

/-- A semaphore of a row of consecutive ones. -/
theorem sem_at (n b i : ℕ) (hb : b + (⟨1, ![n]⟩ : Shape).numel ≤ 28) (h : ∀ a, (![i] : Fin 1 → ℕ) a + S1.size a ≤ (⟨1, ![n]⟩ : Shape).size a) (hl : b + i < 28) :
    (((SemArray.consecutive (n := 28) b ⟨1, ![n]⟩ hb).slice (Rect.unit (s := ⟨1, ![n]⟩) ![i] S1.size h)).squeeze S_ squeezes_S1_S_).sem = ⟨b + i, hl⟩ := by
  show (SemArray.consecutive (n := 28) b ⟨1, ![n]⟩ hb).ix ((Rect.unit (s := ⟨1, ![n]⟩) ![i] S1.size h).emb (Shape.reshapeEquiv squeezes_S1_S_.numel_eq fun i => i.elim0)) = _
  generalize (Shape.reshapeEquiv squeezes_S1_S_.numel_eq fun i => i.elim0) = j
  apply Fin.ext
  show b + (Shape.rowMajor (s := ⟨1, ![n]⟩) _).val = b + i
  rw [Shape.rowMajor_val_one]
  have := (j 0).isLt
  show b + (i + 1 * (j 0).val) = _
  simp [S1] at this
  omega

/-- Which semaphores device `c` uses: 0, 1 device 0's own copies; 2–7 its scatter's sends; 8, 9 the scatter's arrivals; 10, 11 the
    relay's send and arrival; 12–14 and 15–17 the reduction's sends and arrivals; 18–20 and 21–23 the broadcast's. -/
def used (c : Dev nD) (j : ℕ) : Bool :=
  if j < 8 then c = 0 else if j < 10 then c ≠ 0 else if j < 12 then c = 1 ∨ c = 3 else j < 24

theorem used_ge (c : Dev nD) {j : ℕ} (h : 12 ≤ j) (h' : j < 24) : used c j = true := by
  unfold used; rw [if_neg (by omega), if_neg (by omega), if_neg (by omega)]; exact decide_eq_true h'

/-- The two halves and quarters of the chunk that three transfers read at once. -/
abbrev sh0 : PosShare TreeShare := fullShare.left
abbrev sh1 : PosShare TreeShare := fullShare.right.left
abbrev sh2 : PosShare TreeShare := fullShare.right.right

/-- What the units of the transfer semaphore `j` of device `c` hand over. -/
def pay (c : Dev nD) : ℕ → sProp 𝕄
  | 0 => iprop(pt c kM (colK I c) ∗ pv c (kgS 0) fullShare (I.kg c))
  | 1 => iprop(pt c vM (colV I c) ∗ pv c (vgS 0) fullShare (I.vg c))
  | 2 => pv c (kgS 2) fullShare (I.kg c)
  | 3 => pv c (vgS 2) fullShare (I.vg c)
  | 4 => pv c (kgS 1) fullShare (I.kg c)
  | 5 => pv c (kgS 3) fullShare (I.kg c)
  | 6 => pv c (vgS 1) fullShare (I.vg c)
  | 7 => pv c (vgS 3) fullShare (I.vg c)
  | 8 => pt c kM (colK I c)
  | 9 => pt c vM (colV I c)
  | 10 => iprop(∃ f, pt c yM f)
  | 11 => pt c yM (if c = 1 then colK I 2 else colV I 2)
  | 12 => iprop(∃ f, pv c (aS (c + 1)) fullShare f)
  | 13 => iprop(∃ f, pv c (aS (c + 2)) fullShare f)
  | 14 => iprop(∃ f, pv c (aS (c + 3)) fullShare f)
  | 15 => pv c (rsS 0) fullShare (RSF I c)
  | 16 => pv c (rsS 1) fullShare (RSF I c)
  | 17 => pv c (rsS 2) fullShare (RSF I c)
  | 18 => pv c (aS c) sh0 (ARF I c)
  | 19 => pv c (aS c) sh1 (ARF I c)
  | 20 => pv c (aS c) sh2 (ARF I c)
  | 21 => pv c (agS 0) fullShare (AGF I c)
  | 22 => pv c (agS 1) fullShare (AGF I c)
  | 23 => pv c (agS 2) fullShare (AGF I c)
  | _ => iprop(emp)

instance pay_storable (c : Dev nD) (j : ℕ) : BI.Storable (upEmb : UEmb _ 𝕄) (pay I c j) := by
  unfold pay
  split <;> infer_instance

/-- What device 0, 1 and 3 receive from the devices they scatter or relay to: the buffers the copies land in. -/
def extra (c d : Dev nD) : sProp 𝕄 :=
  if c = 0 ∧ (d = 1 ∨ d = 3) then
    iprop(((∃ f, pt d kM f) ∗ (∃ f, pt d vM f) ∗ (∃ f, pt d yM f)) ∗ reached ER (dc d 8) 0 ∗ reached ER (dc d 9) 0 ∗ reached ER (dc d 11) 0)
  else if c = 1 ∧ d = 2 then iprop((∃ f, pt d kM f) ∗ reached ER (dc d 8) 0)
  else if c = 3 ∧ d = 2 then iprop((∃ f, pt d vM f) ∗ reached ER (dc d 9) 0)
  else iprop(emp)

/-- The slot of the receive buffers of device `c + o` that device `c` writes. -/
def slot (o : Fin 4) : Fin 3 := ![0, 0, 1, 2] o
def rsj (o : Fin 4) : Fin 24 := ![15, 15, 16, 17] o
def agj (o : Fin 4) : Fin 24 := ![21, 21, 22, 23] o

/-- What device `c + o` hands to device `c` with its unit on `c`'s barrier: the places that `c` writes on it. -/
def barPay (c : Dev nD) (o : Fin 4) : sProp 𝕄 :=
  iprop((∃ f, pv (c + o) (rsS (slot o)) fullShare f) ∗ (∃ f, pv (c + o) (agS (slot o)) fullShare f)
    ∗ reached ER (dc (c + o) (rsj o)) 0 ∗ reached ER (dc (c + o) (agj o)) 0 ∗ extra c (c + o))

set_option synthInstance.maxHeartbeats 400000 in
instance extra_storable (c d : Dev nD) : BI.Storable (upEmb : UEmb _ 𝕄) (extra c d : sProp 𝕄) := by
  unfold extra; (repeat' split) <;> infer_instance
set_option synthInstance.maxHeartbeats 400000 in
instance barPay_storable (c : Dev nD) (o : Fin 4) : BI.Storable (upEmb : UEmb _ 𝕄) (barPay c o : sProp 𝕄) := by
  unfold barPay; infer_instance

def dutiesOf (g : GSem nD τ sig) : Finset (Fin 4) :=
  match g.2 with
  | .reg _ => {1, 2, 3}
  | .dma i => if 4 ≤ i.val ∧ used g.1.1 (i.val - 4) = true then {0} else ∅

/-- The rounds: one round on every cell; three duties on a barrier, by the distance of the device that pays; one on a transfer cell. -/
def sched : Rounds.Schedule (GSem nD τ sig) (Fin 4) 𝕄 where
  duties g r := if r = 0 ∧ g.1.2 = .tc then dutiesOf g else ∅
  unitless _ := False
  amount g _ _ := match g.2 with | .reg _ => 1 | .dma i => amt (i.val - 4)
  payload g _ d := match g.2 with | .reg _ => barPay g.1.1 d | .dma i => pay I g.1.1 (i.val - 4)
  amount_pos g _ _ _ := by
    split
    · exact Nat.one_pos
    · unfold amt; split
      · exact NK_pos
      · exact NR_pos

instance sched_storable (g : GSem nD τ sig) (r : ℕ) (d : Fin 4) : BI.Storable (upEmb : UEmb _ 𝕄) ((sched I).payload g r d) := by
  show BI.Storable upEmb (match g.2 with | .reg _ => barPay g.1.1 d | .dma i => pay I g.1.1 (i.val - 4))
  split <;> infer_instance

theorem duties_bar (c : Dev nD) : (sched I).duties (bc c) 0 = {1, 2, 3} := rfl
theorem duties_dma (c : Dev nD) (j : Fin 24) (h : used c j.val = true) : (sched I).duties (dc c j) 0 = {0} := by
  show (if 0 = 0 ∧ (dc c j).1.2 = .tc then dutiesOf (dc c j) else ∅) = _
  rw [if_pos ⟨rfl, rfl⟩]
  show (if 4 ≤ j.val + 4 ∧ used c (j.val + 4 - 4) = true then ({0} : Finset (Fin 4)) else ∅) = _
  rw [if_pos ⟨by omega, by rw [Nat.add_sub_cancel]; exact h⟩]
theorem duties_none (c : Dev nD) (j : Fin 24) (h : ¬ used c j.val = true) : (sched I).duties (dc c j) 0 = ∅ := by
  show (if 0 = 0 ∧ (dc c j).1.2 = .tc then dutiesOf (dc c j) else ∅) = _
  rw [if_pos ⟨rfl, rfl⟩]
  show (if 4 ≤ j.val + 4 ∧ used c (j.val + 4 - 4) = true then ({0} : Finset (Fin 4)) else ∅) = _
  rw [if_neg (by rw [Nat.add_sub_cancel]; exact fun hh => h hh.2)]
theorem duties_later (g : GSem nD τ sig) : ∀ r, 1 ≤ r → (sched I).duties g r = ∅ :=
  fun r hr => by dsimp only [sched]; rw [if_neg (fun h => by omega)]
theorem amount_bar (c : Dev nD) (o : Fin 4) : (sched I).amount (bc c) 0 o = 1 := rfl
theorem amount_dma (c : Dev nD) (j : Fin 24) (o : Fin 4) : (sched I).amount (dc c j) 0 o = amt j.val := rfl
theorem payload_bar (c : Dev nD) (o : Fin 4) : (sched I).payload (bc c) 0 o = barPay c o := rfl
theorem payload_dma (c : Dev nD) (j : Fin 24) (o : Fin 4) : (sched I).payload (dc c j) 0 o = pay I c j.val := rfl
theorem expect_bar (c : Dev nD) : (sched I).expect (bc c) 0 = 3 := rfl
theorem expect_dma (c : Dev nD) (j : Fin 24) (h : used c j.val = true) : (sched I).expect (dc c j) 0 = amt j.val := by
  unfold Schedule.expect Schedule.amountOf; rw [duties_dma I c j h, Finset.sum_singleton, amount_dma]
theorem rest_bar (c : Dev nD) : bigSep ((sched I).duties (bc c) 0 \ ∅) (fun u => (sched I).payload (bc c) 0 u)
    = (iprop(barPay c 1 ∗ barPay c 2 ∗ barPay c 3) : sProp 𝕄) := by
  rw [Finset.sdiff_empty, duties_bar, bigSep_eq_bigSepL_of_eq [1, 2, 3] (by decide) (by decide)]
  rfl
theorem rest_dma (c : Dev nD) (j : Fin 24) (h : used c j.val = true) :
    bigSep ((sched I).duties (dc c j) 0 \ ∅) (fun u => (sched I).payload (dc c j) 0 u) = pay I c j.val := by
  rw [Finset.sdiff_empty, duties_dma I c j h, bigSep_singleton, payload_dma]

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier before the relay's arrival before the scatter's, before the reduction's, before the broadcast's. -/
def lvj (j : ℕ) : ℕ := if j = 11 then 2 else if j = 8 ∨ j = 9 then 3 else if 15 ≤ j ∧ j < 18 then 4 else if 21 ≤ j ∧ j < 24 then 5 else 0
def lv (g : GSem nD τ sig) (_ : Unit) : ℕ := match g.2 with | .reg _ => 1 | .dma i => lvj (i.val - 4)

/-- Everything owed is on cores, at levels above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_tally {n : ℕ} (c : Dev nD) (s : SemLoc sig) (k : ℕ) (h : n < lv ((c : Thread nD τ), s) ()) : Above n (tallyAt ((c : Thread nD τ), s) () k) := fun g u hg => by
  rw [tallyAt_apply] at hg
  split at hg
  · next e => rw [e.1]; exact ⟨rfl, h⟩
  · exact absurd hg (Nat.lt_irrefl 0)

theorem mayWait (c : Dev nD) (s : SemLoc sig) {O : CellTallies nD τ sig Unit} (h : Above (lv ((c : Thread nD τ), s) ()) O) :
    (levAts L lv : sProp 𝕄) ⊢ MayWait (c : Thread nD τ) s () O :=
  Pipeline.mayWait_of_levAts (by rw [L_tc]; exact Finset.mem_singleton_self _)
    (fun g u hg => ⟨by unfold L; rw [if_pos (h g u hg).1]; exact Finset.mem_singleton_self _, (h g u hg).2⟩)

/-! ## What each device owes at launch, in the order it pays (the last summand first) -/

abbrev own1 (c : Dev nD) (j : Fin 24) : CellTallies nD τ sig Unit := tallyAt (dc c j) () (amt j.val)

def OAG3 (c : Dev nD) : CellTallies nD τ sig Unit := 0 + own1 (c + 3) 23
def OAG2 (c : Dev nD) : CellTallies nD τ sig Unit := OAG3 c + own1 (c + 2) 22
def OAG1 (c : Dev nD) : CellTallies nD τ sig Unit := OAG2 c + own1 (c + 1) 21
def ORS3 (c : Dev nD) : CellTallies nD τ sig Unit := OAG1 c + own1 (c + 3) 17
def ORS2 (c : Dev nD) : CellTallies nD τ sig Unit := ORS3 c + own1 (c + 2) 16
def ORS1 (c : Dev nD) : CellTallies nD τ sig Unit := ORS2 c + own1 (c + 1) 15
def OREL (c : Dev nD) : CellTallies nD τ sig Unit := ORS1 c + (if c = 1 then own1 2 8 else if c = 3 then own1 2 9 else 0)
def OSC (c : Dev nD) : CellTallies nD τ sig Unit :=
  if c = 0 then OREL c + own1 3 9 + own1 1 9 + own1 3 8 + own1 1 8 + own1 3 11 + own1 1 11 else OREL c
def OB1 (c : Dev nD) : CellTallies nD τ sig Unit := OSC c + tallyAt (bc (c + 3)) () 1
def OB2 (c : Dev nD) : CellTallies nD τ sig Unit := OB1 c + tallyAt (bc (c + 2)) () 1
def O₀ (c : Dev nD) : CellTallies nD τ sig Unit := OB2 c + tallyAt (bc (c + 1)) () 1

theorem lv_dc (c : Dev nD) (j : Fin 24) : lv (dc c j) () = lvj j.val := rfl

theorem above_own (n : ℕ) (c : Dev nD) (j : Fin 24) (h : n < lvj j.val) : Above n (own1 c j) := above_tally c _ _ h

theorem above_OAG3 (c : Dev nD) : Above 4 (OAG3 c) := above_add (above_zero _) (above_own _ _ _ (by decide))
theorem above_OAG2 (c : Dev nD) : Above 4 (OAG2 c) := above_add (above_OAG3 c) (above_own _ _ _ (by decide))
theorem above_OAG1 (c : Dev nD) : Above 4 (OAG1 c) := above_add (above_OAG2 c) (above_own _ _ _ (by decide))
theorem Above.mono {n m : ℕ} {O : CellTallies nD τ sig Unit} (h : Above n O) (hm : m ≤ n) : Above m O :=
  fun g u hg => ⟨(h g u hg).1, lt_of_le_of_lt hm (h g u hg).2⟩
theorem above_ORS3 (c : Dev nD) : Above 3 (ORS3 c) := above_add ((above_OAG1 c).mono (by decide)) (above_own _ _ _ (by decide))
theorem above_ORS2 (c : Dev nD) : Above 3 (ORS2 c) := above_add (above_ORS3 c) (above_own _ _ _ (by decide))
theorem above_ORS1 (c : Dev nD) : Above 3 (ORS1 c) := above_add (above_ORS2 c) (above_own _ _ _ (by decide))
theorem above_OREL (c : Dev nD) : Above 2 (OREL c) := by
  refine above_add ((above_ORS1 c).mono (by decide)) ?_
  split
  · exact above_own _ _ _ (by decide)
  · split
    · exact above_own _ _ _ (by decide)
    · exact above_zero _
theorem above_OSC (c : Dev nD) : Above 1 (OSC c) := by
  unfold OSC
  have h := (above_OREL c).mono (show 1 ≤ 2 by decide)
  split
  · exact above_add (above_add (above_add (above_add (above_add (above_add h (above_own _ _ _ (by decide))) (above_own _ _ _ (by decide)))
      (above_own _ _ _ (by decide))) (above_own _ _ _ (by decide))) (above_own _ _ _ (by decide))) (above_own _ _ _ (by decide))
  · exact h
theorem above_O₀ (c : Dev nD) : Above 0 (O₀ c) :=
  above_add (above_add (above_add ((above_OSC c).mono (by decide)) (above_tally _ _ _ Nat.one_pos)) (above_tally _ _ _ Nat.one_pos)) (above_tally _ _ _ Nat.one_pos)

/-! ## Bundles -/

/-- All the cells' invariants, at the names the launch gives them. -/
def allInv (K : GSem nD τ sig → ℕ) : sProp 𝕄 :=
  bigSep Finset.univ fun c : Dev nD => iprop(cellInv ER (sched I) (K (bc c)) (bc c)
    ∗ bigSep Finset.univ fun j : Fin 24 => cellInv ER (sched I) (K (dc c j)) (dc c j))
instance allInv_persistent (K : GSem nD τ sig → ℕ) : BI.Persistent (allInv I K) := by unfold allInv; infer_instance

theorem allInv_bar (K : GSem nD τ sig → ℕ) (c : Dev nD) : (allInv I K : sProp 𝕄) ⊢ cellInv ER (sched I) (K (bc c)) (bc c) :=
  (bigSep_elim (Φ := fun c : Dev nD => iprop(cellInv ER (sched I) (K (bc c)) (bc c)
    ∗ bigSep Finset.univ fun j : Fin 24 => cellInv ER (sched I) (K (dc c j)) (dc c j))) (Finset.mem_univ c)).trans (BI.sep_and.trans BI.and_elimL)
theorem allInv_dma (K : GSem nD τ sig → ℕ) (c : Dev nD) (j : Fin 24) : (allInv I K : sProp 𝕄) ⊢ cellInv ER (sched I) (K (dc c j)) (dc c j) :=
  (bigSep_elim (Φ := fun c : Dev nD => iprop(cellInv ER (sched I) (K (bc c)) (bc c)
    ∗ bigSep Finset.univ fun j : Fin 24 => cellInv ER (sched I) (K (dc c j)) (dc c j))) (Finset.mem_univ c)).trans
    ((BI.sep_and.trans BI.and_elimR).trans (bigSep_elim (Φ := fun j : Fin 24 => cellInv ER (sched I) (K (dc c j)) (dc c j)) (Finset.mem_univ j)))

/-- Device `c`'s own transfer cells are open. -/
def ownR (c : Dev nD) : sProp 𝕄 := bigSep Finset.univ fun j : Fin 24 => reached ER (dc c j) 0
instance ownR_persistent (c : Dev nD) : BI.Persistent (ownR c : sProp 𝕄) := by unfold ownR; infer_instance
theorem ownR_at (c : Dev nD) (j : Fin 24) : (ownR c : sProp 𝕄) ⊢ reached ER (dc c j) 0 := bigSep_elim (Finset.mem_univ j)

/-- Device `c`'s positions on its own transfer cells: past the round on those of `S`, before it on the others. -/
def posns (c : Dev nD) (S : Finset (Fin 24)) : sProp 𝕄 := bigSep Finset.univ fun j : Fin 24 => atPos ER (dc c j) (if j ∈ S then 1 else 0) ∅ 0

/-- What device `c` owes, whatever it has waited for. -/
abbrev ow (c : Dev nD) (O : CellTallies nD τ sig Unit) : sProp 𝕄 := iprop(∃ W, owes (c : Thread nD τ) O W)

/-- The credit and the duty of a transfer cell. -/
abbrev cr (c : Dev nD) (j : Fin 24) : sProp 𝕄 := cred (tallyAt (dc c j) () (amt j.val))
abbrev tk (c : Dev nD) (j : Fin 24) : sProp 𝕄 := dutyTok ER (dc c j) 0 0

end Cert.KernelIdeal.Attn
-- ==== Proof.AttnIdeal.Steps.lean ====
/- One communication step of a device's body: a wait, a copy to another device, a copy at home, a signal. -/
module

public import proofs.«01_k».proof.Proof.AttnIdeal.Proto

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] [Facts]

local notation "𝕄" => MT nD τ sig Unit (Elt F) ℕ UU ℕ

variable (I : Inp F)

theorem bigSep_take {ι : Type} [Fintype ι] [DecidableEq ι] (j : ι) (Φ : ι → sProp 𝕄) :
    (bigSep Finset.univ Φ : sProp 𝕄) = iprop(Φ j ∗ bigSep (Finset.univ.erase j) Φ) := bigSep_univ_split j

theorem posns_insert (c : Dev nD) (S : Finset (Fin 24)) (j : Fin 24) (hj : j ∉ S) :
    (posns c S : sProp 𝕄) ⊢ iprop(atPos ER (dc c j) 0 ∅ 0 ∗ (atPos ER (dc c j) 1 ∅ 0 -∗ posns c (insert j S))) := by
  unfold posns
  rw [bigSep_take j, bigSep_take j (fun i => atPos ER (dc c i) (if i ∈ insert j S then 1 else 0) ∅ 0),
    if_neg hj, if_pos (Finset.mem_insert_self j S),
    bigSep_congr (s := Finset.univ.erase j) (Φ := fun i => (atPos ER (dc c i) (if i ∈ insert j S then 1 else 0) ∅ 0 : sProp 𝕄))
      (Ψ := fun i => atPos ER (dc c i) (if i ∈ S then 1 else 0) ∅ 0)
      (fun i hi => by simp only [Finset.mem_insert, Finset.ne_of_mem_erase hi, false_or])]
  iintro ⟨H, HS⟩
  isplitl [H]; · iexact H
  iintro H
  isplitl [H] <;> iassumption

/-- A wait for the round of the own transfer cell `j`. -/
theorem wait_step {R : Type} (K : GSem nD τ sig → ℕ) (c : Dev nD) (j : Fin 24) (hu : used c j.val = true) {sem : DmaSem sig} (hs : sem = dsem j)
    {sp sp' : Space} {s s' : Shape} {e e' : EltTy} (src : Memref sig .tc sp s e) (dst : Memref sig .tc sp' s' e') {h₁ : src.view.WordExact} {h₂ : dst.view.WordExact}
    (hn : RefSig.tileCredit s' e' = amt j.val) {S : Finset (Fin 24)} (hj : j ∉ S) {O : CellTallies nD τ sig Unit} (hO : Above (lvj j.val) O)
    {k : PUnit → Prog (TpuEff nD τ sig (Elt F) Λ₀ .tc) R} {Q : R → sProp 𝕄} :
    iprop(allInv I K ∗ levAts L lv ∗ posns c S ∗ cr c j ∗ ow c O)
      ⊢ iprop((ow c O ∗ posns c (insert j S) ∗ pay I c j.val -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h₁ h₂) k) Q) := by
  subst hs
  iintro ⟨#HI, #Hlev, Hp, Hc, ⟨%W, HO⟩⟩ Hk
  ihave Hp := (posns_insert c S j hj) $$ Hp
  icases Hp with ⟨Hat, Hp⟩
  iapply (Rounds.wp_wait_rest_token 𝒱₀ ER (sched I) (c : Thread nD τ) none (κ := K (dc c j))
      (wpE_waitDma2_eq 𝒱₀ (c : Thread nD τ) none Set.univ) (Set.mem_univ _) () (O := O) (W := W) (R := 0) (m := 0) (T := ∅)
      ((Nat.zero_add _).trans ((credit_eq dst.view).trans (hn.trans (expect_dma I c j hu).symm)))) $$ [Hc HO Hat]
  · isplitr; · iapply (allInv_dma I K c j) $$ HI
    isplitl [Hc]; · rw [credit_eq, hn]; iexact Hc
    isplitl [HO]; · iexact HO
    isplitr; · iapply (mayWait c (.dma (dsem j)) hO) $$ Hlev
    iexact Hat
  iintro ⟨HO, Hat, -, Hpay⟩
  ihave Hpay := (Entails.of_eq (rest_dma I c j hu)) $$ Hpay
  iapply Hk
  isplitl [HO]; · iexists _; iexact HO
  isplitl [Hp Hat]; · iapply Hp $$ Hat
  iexact Hpay

/-- A copy into a buffer of device `c'`: pays the own cell `i` with the source, `c'`'s cell `j` with what lands. -/
theorem send_step {R : Type} (K : GSem nD τ sig → ℕ) (c c' : Dev nD) (i j : Fin 24) (hi : used c i.val = true) (hj : used c' j.val = true)
    {d : Dev nD} (hd : d = c') {sS sR : DmaSem sig} (hs : sS = dsem i) (hr : sR = dsem j)
    {sp sp' : Space} {s : Shape} {e : EltTy} (src : Memref sig .tc sp s e) (dst : Memref sig .tc sp' s e) {hsc : dst.view.ref.isScScratch = false}
    {h₁ : src.view.WordExact} {h₂ : dst.view.WordExact} {hsem : DmaTarget.Typed sp (.dma sR) (.remote (Dev.tc d) dst (.dma sS) hsc)}
    (hn : RefSig.tileCredit s e = amt j.val) (hij : amt i.val = amt j.val) (q : PosShare TreeShare)
    (fs : Buf (Elt F) (src.view.loc (c : Thread nD τ))) (fd : Buf (Elt F) (dst.view.loc (c' : Thread nD τ)))
    (hp₁ : (pv c src q fs : sProp 𝕄) ⊢ pay I c i.val)
    (hp₂ : (pv c' dst fullShare (dst.view.write (Elt F) fd (src.view.read (Elt F) fs) Finset.univ) : sProp 𝕄) ⊢ pay I c' j.val)
    (O : CellTallies nD τ sig Unit) {O' : CellTallies nD τ sig Unit} (hO : O' = O + own1 c' j)
    {k : PUnit → Prog (TpuEff nD τ sig (Elt F) Λ₀ .tc) R} {Q : R → sProp 𝕄} :
    iprop(allInv I K ∗ ownR c ∗ reached ER (dc c' j) 0 ∗ pv c src q fs ∗ pv c' dst fullShare fd ∗ tk c i ∗ tk c' j ∗ ow c O')
      ⊢ iprop((cr c i ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc d) dst (.dma sS) hsc) (.dma sR) h₁ h₂ hsem) k) Q) := by
  subst hd hs hr
  iintro ⟨#HI, #HR, #Hr, Hs, Hd, Ht, Ht', ⟨%W, HO⟩⟩ Hk
  iapply (Rounds.wp_send_pointsTo 𝒱₀ ER (sched I) (c : Thread nD τ) none (c' := (d : Thread nD τ)) (src := src) (dst := dst)
      (sS := .dma (dsem i)) (sem := .dma (dsem j)) (q := q) (fs := fs) (κ₁ := K (dc c i)) (κ₂ := K (dc d j))
      (r₁ := 0) (r₂ := 0) (d₁ := 0) (d₂ := 0) (fd := fd)
      (by rw [duties_dma I c i hi]; exact Finset.mem_singleton_self _) (by rw [duties_dma I d j hj]; exact Finset.mem_singleton_self _)
      () () (amt j.val) ((credit_eq dst.view).trans hn) hij rfl O hO (W := W) hp₁ hp₂) $$ [Hs Hd HO Ht Ht']
  · isplitr; · iapply (allInv_dma I K c i) $$ HI
    isplitr; · iapply (allInv_dma I K d j) $$ HI
    isplitl [Hs]; · iexact Hs
    isplitl [Hd]; · iexact Hd
    isplitl [HO]; · iexact HO
    isplitl [Ht]; · iexact Ht
    isplitr; · iapply (ownR_at c i) $$ HR
    isplitl [Ht']; · iexact Ht'
    iexact Hr
  iintro ⟨Hc, HO⟩
  iapply Hk
  isplitl [Hc]; · unfold cr; rw [hij]; iexact Hc
  iexists W; iexact HO

/-- A copy at home on the own cell `i`. -/
theorem copy_step {R : Type} (K : GSem nD τ sig → ℕ) (c : Dev nD) (i : Fin 24) (hi : used c i.val = true)
    {sR : DmaSem sig} (hr : sR = dsem i)
    {sp sp' : Space} {s : Shape} {e : EltTy} (src : Memref sig .tc sp s e) (dst : Memref sig .tc sp' s e)
    {h₁ : src.view.WordExact} {h₂ : dst.view.WordExact} {hsem : DmaTarget.Typed (nD := nD) (τ := τ) (p := .tc) sp (.dma sR) (.here dst)}
    (hn : RefSig.tileCredit s e = amt i.val)
    (fs : Buf (Elt F) (src.view.loc (c : Thread nD τ))) (fd : Buf (Elt F) (dst.view.loc (c : Thread nD τ)))
    (hp : iprop(pv c dst fullShare (dst.view.write (Elt F) fd (src.view.read (Elt F) fs) Finset.univ) ∗ pv c src fullShare fs) ⊢ (pay I c i.val : sProp 𝕄))
    {k : PUnit → Prog (TpuEff nD τ sig (Elt F) Λ₀ .tc) R} {Q : R → sProp 𝕄} :
    iprop(allInv I K ∗ ownR c ∗ pv c src fullShare fs ∗ pv c dst fullShare fd ∗ tk c i)
      ⊢ iprop((cr c i -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sR) h₁ h₂ hsem) k) Q) := by
  subst hr
  iintro ⟨#HI, #HR, Hs, Hd, Ht⟩ Hk
  iapply (Rounds.wp_copy_pointsTo 𝒱₀ ER (sched I) (c : Thread nD τ) none (src := src) (dst := dst) (sem := .dma (dsem i)) (q := fullShare)
      (fs := fs) (fd := fd) (r := 0) (d := 0) (κ := K (dc c i))
      (by rw [duties_dma I c i hi]; exact Finset.mem_singleton_self _) () (amt i.val) ((credit_eq dst.view).trans hn) rfl hp) $$ [Hs Hd Ht]
  · isplitr; · iapply (allInv_dma I K c i) $$ HI
    isplitl [Hs]; · iexact Hs
    isplitl [Hd]; · iexact Hd
    isplitl [Ht]; · iexact Ht
    iapply (ownR_at c i) $$ HR
  iexact Hk

/-- A unit to the barrier of device `c'`, whose distance to the payer is `o`. -/
theorem signal_step {R : Type} (K : GSem nD τ sig → ℕ) (c c' : Dev nD) (o : Fin 4) (ho : o ∈ ({1, 2, 3} : Finset (Fin 4)))
    {d : Dev nD} (hd : d = c') (O : CellTallies nD τ sig Unit) {O' : CellTallies nD τ sig Unit} (hO : O' = O + tallyAt (bc c') () 1)
    {k : PUnit → Prog (TpuEff nD τ sig (Elt F) Λ₀ .tc) R} {Q : R → sProp 𝕄} :
    iprop(allInv I K ∗ reached ER (bc c') 0 ∗ dutyTok ER (bc c') 0 o ∗ barPay c' o ∗ ow c O')
      ⊢ iprop((ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc d) barrier0 1) k) Q) := by
  subst hd
  iintro ⟨#HI, #Hr, Ht, Hpay, ⟨%W, HO⟩⟩ Hk
  iapply (Rounds.wp_signal 𝒱₀ ER (sched I) (c : Thread nD τ) none (dst := (d : Thread nD τ)) (sem := barrier0) (r := 0) (d := o) (κ := K (bc d))
      (by rw [duties_bar]; exact ho) (amount_bar I d o) () O hO (W := W)) $$ [HO Ht Hpay]
  · isplitr; · iapply (allInv_bar I K d) $$ HI
    isplitl [HO]; · iexact HO
    isplitl [Ht]; · iexact Ht
    isplitl [Hpay]; · rw [payload_bar]; iexact Hpay
    iexact Hr
  iintro HO
  iapply Hk
  iexists W; iexact HO

/-- The wait for all three units of the own barrier. -/
theorem barrier_step {R : Type} (K : GSem nD τ sig → ℕ) (c : Dev nD) {O : CellTallies nD τ sig Unit} (hO : Above 1 O)
    {k : PUnit → Prog (TpuEff nD τ sig (Elt F) Λ₀ .tc) R} {Q : R → sProp 𝕄} :
    iprop(allInv I K ∗ levAts L lv ∗ atPos ER (bc c) 0 ∅ 0 ∗ cred (tallyAt (bc c) () 3) ∗ ow c O)
      ⊢ iprop((ow c O ∗ atPos ER (bc c) 1 ∅ 0 ∗ barPay c 1 ∗ barPay c 2 ∗ barPay c 3 -∗ wp frame (wpE (defs₀ (F := F)) 𝒱₀ (c : Thread nD τ) none) Set.univ (k ⟨⟩) Q)
        -∗ wp frame (wpE (defs₀ (F := F)) 𝒱₀ (c : Thread nD τ) none) Set.univ (.op (.semWait barrier0 3) k) Q) := by
  iintro ⟨#HI, #Hlev, Hat, Hc, ⟨%W, HO⟩⟩ Hk
  iapply (Rounds.wp_wait_rest_token 𝒱₀ ER (sched I) (c : Thread nD τ) none (κ := K (bc c))
      (wpE_semWait_eq 𝒱₀ (c : Thread nD τ) none Set.univ) (Set.mem_univ _) () (O := O) (W := W) (R := 0) (m := 0) (T := ∅)
      ((Nat.zero_add 3).trans (expect_bar I c).symm)) $$ [Hc HO Hat]
  · isplitr; · iapply (allInv_bar I K c) $$ HI
    isplitl [Hc]; · iexact Hc
    isplitl [HO]; · iexact HO
    isplitr; · iapply (mayWait c (.reg barrier0) hO) $$ Hlev
    iexact Hat
  iintro ⟨HO, Hat, -, Hpay⟩
  ihave Hpay := (Entails.of_eq (rest_bar I c)) $$ Hpay
  iapply Hk
  isplitl [HO]; · iexists _; iexact HO
  isplitl [Hat]; · iexact Hat
  iexact Hpay

end Cert.KernelIdeal.Attn
-- ==== Proof.AttnIdeal.Pieces.lean ====
/- The pieces of the buffers that travel: where their elements lie, what lands in them, their loads and stores. -/
module

public import proofs.«01_k».proof.Proof.AttnIdeal.Steps
public import proofs.«01_k».proof.Proof.AttnIdeal.Cuts
public import Idealize.ShloMosaic.Lib.ValueLayout

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

/-! ## Where a piece's elements are -/

theorem slot_emb (i : Fin 3) (x : S2x128x768.Idx) :
    (rS i).emb (Shape.reshapeEquiv squeezes_S1x2x128x768_S2x128x768.numel_eq x) = ix4 i (x 0) (x 1) (x 2) := by
  have e : Shape.reshapeEquiv squeezes_S1x2x128x768_S2x128x768.numel_eq x = ix4 (⟨0, Nat.one_pos⟩ : Fin 1) (x 0) (x 1) (x 2) :=
    (congrArg (Shape.reshapeEquiv _) (show x = ix3 (x 0) (x 1) (x 2) by funext a; fin_cases a <;> rfl)).trans
      (ValueIdx.reshapeEquiv_ix3_1abc squeezes_S1x2x128x768_S2x128x768.numel_eq (x 0) (x 1) (x 2))
  refine (congrArg (rS i).emb e).trans ?_
  funext a
  fin_cases a
  · exact Fin.ext (by show i.val + 1 * 0 = i.val; omega)
  · exact Fin.ext (by show 0 + 1 * (x 0).val = (x 0).val; omega)
  · exact Fin.ext (by show 0 + 1 * (x 1).val = (x 1).val; omega)
  · exact Fin.ext (by show 0 + 1 * (x 2).val = (x 2).val; omega)
theorem rsS_emb (i : Fin 3) (x : S2x128x768.Idx) : (rsS i).view.emb x = ix4 i (x 0) (x 1) (x 2) := slot_emb i x
theorem agS_emb (i : Fin 3) (x : S2x128x768.Idx) : (agS i).view.emb x = ix4 i (x 0) (x 1) (x 2) := slot_emb i x

theorem rR_emb0 (d : Dev nD) (x : S2x128x768.Idx) : (rR d).emb x 0 = x 0 := Fin.ext (by show 0 + 1 * (x 0).val = _; omega)
theorem rR_emb1 (d : Dev nD) (x : S2x128x768.Idx) : ((rR d).emb x 1).val = 128 * d.val + (x 1).val := by show 128 * d.val + 1 * (x 1).val = _; omega
theorem rR_emb2 (d : Dev nD) (x : S2x128x768.Idx) : (rR d).emb x 2 = x 2 := Fin.ext (by show 0 + 1 * (x 2).val = _; omega)
theorem chk_emb (d : Dev nD) (x : S2x128x768.Idx) : chk ((rR d).emb x) = d := Fin.ext (by
  show ((rR d).emb x 1).val / 128 = d.val
  have h : (x 1).val < 128 := (x 1).isLt
  rw [rR_emb1]; omega)
theorem inChk_emb (d : Dev nD) (x : S2x128x768.Idx) : inChk ((rR d).emb x) = x := by
  funext a
  fin_cases a
  · exact rR_emb0 d x
  · exact Fin.ext (by
      show ((rR d).emb x 1).val % 128 = (x 1).val
      have h : (x 1).val < 128 := (x 1).isLt
      rw [rR_emb1]; omega)
  · exact rR_emb2 d x

theorem aS_set (d : Dev nD) : (aS d).view.set = (rR d).set := View.set_slice_whole _ _
theorem mem_aS {d : Dev nD} {y : S2x512x768.Idx} : y ∈ (aS d).view.set ↔ chk y = d := by
  have h1 := row_lt y
  have hd : d.val < 4 := d.isLt
  constructor
  · intro h
    obtain ⟨x, -, hx⟩ := Finset.mem_map.1 h
    rw [← hx]
    exact chk_emb d x
  · intro h
    have h' : (y 1).val / 128 = d.val := congrArg Fin.val h
    have hm : y ∈ (rR d).set := by
      have h0 : (y 0).val < 2 := (y 0).isLt
      have h2 : (y 2).val < 768 := (y 2).isLt
      refine Rect.mem_set_unit.2 fun a => ?_
      fin_cases a <;> simp [S2x128x768] <;> omega
    rw [aS_set]; exact hm

/-! ## Contents that land -/

theorem ARF_own (c : Dev nD) (y : S2x512x768.Idx) (h : chk y = c) : ARF I c y = RB I c (inChk y) := if_pos h
theorem ARF_other (c : Dev nD) (y : S2x512x768.Idx) (h : chk y ≠ c) : ARF I c y = PR I c (chk y) (inChk y) := if_neg h

/-- A piece is held at what landed in it. -/
theorem land {sp sp' : Space} {s : Shape} {e : EltTy} (c d : Dev nD) (src : Memref sig .tc sp s e) (dst : Memref sig .tc sp' s e)
    (fs : Buf (Elt F) (src.view.loc (c : Thread nD τ))) (fd G : Buf (Elt F) (dst.view.loc (d : Thread nD τ)))
    (h : ∀ x, dst.view.read (Elt F) G x = src.view.read (Elt F) fs x) :
    (pv d dst fullShare (dst.view.write (Elt F) fd (src.view.read (Elt F) fs) Finset.univ) : sProp 𝕄) ⊢ pv d dst fullShare G :=
  Entails.of_eq (pointsTo_congr fun y hy => by
    obtain ⟨x, -, rfl⟩ := Finset.mem_map.1 hy
    rw [View.write_emb_of_mem (h := Finset.mem_univ x), ← h x, View.read_apply, cast_cast, cast_eq])

theorem land_rs (c d : Dev nD) (i : Fin 3) (hi : frm d i = c) (hd : d ≠ c) (fd : S3x2x128x768.Idx → Elt F .bf16) :
    (pv d (rsS i) fullShare ((rsS i).view.write (Elt F) fd ((aS d).view.read (Elt F) (ARF I c)) Finset.univ) : sProp 𝕄)
      ⊢ pv d (rsS i) fullShare (RSF I d) :=
  land c d (aS d) (rsS i) (ARF I c) fd (RSF I d) fun x => by
    show RSF I d ((rsS i).view.emb x) = ARF I c ((rR d).emb x)
    rw [ARF_other I c _ (by rw [chk_emb]; exact hd), chk_emb, inChk_emb, rsS_emb]
    show PR I (frm d i) d (ix3 (x 0) (x 1) (x 2)) = _
    rw [hi]
    congr 1
    funext a; fin_cases a <;> rfl

theorem land_ag (c d : Dev nD) (i : Fin 3) (hi : frm d i = c) (fd : S3x2x128x768.Idx → Elt F .bf16) :
    (pv d (agS i) fullShare ((agS i).view.write (Elt F) fd ((aS c).view.read (Elt F) (ARF I c)) Finset.univ) : sProp 𝕄)
      ⊢ pv d (agS i) fullShare (AGF I d) :=
  land c d (aS c) (agS i) (ARF I c) fd (AGF I d) fun x => by
    show AGF I d ((agS i).view.emb x) = ARF I c ((rR c).emb x)
    rw [ARF_own I c _ (chk_emb c x), inChk_emb, agS_emb]
    show RB I (frm d i) (ix3 (x 0) (x 1) (x 2)) = _
    rw [hi]
    congr 1
    funext a; fin_cases a <;> rfl

theorem rG_emb (j : Dev nD) (x : S2x512x512.Idx) :
    (rG j).emb x = ix3 (x 0) (x 1) ⟨512 * j.val + (x 2).val, by have h2 : (x 2).val < 512 := (x 2).isLt; have h : j.val < 4 := j.isLt; omega⟩ := by
  funext a
  fin_cases a
  · exact Fin.ext (by show 0 + 1 * (x 0).val = (x 0).val; omega)
  · exact Fin.ext (by show 0 + 1 * (x 1).val = (x 1).val; omega)
  · exact Fin.ext (by show 512 * j.val + 1 * (x 2).val = 512 * j.val + (x 2).val; omega)

theorem land_kk (d j : Dev nD) (g : S2x512x2048.Idx → Elt F .bf16) (fd : S2x512x512.Idx → Elt F .bf16) :
    (pv d kM fullShare (kM.view.write (Elt F) fd ((kgS j).view.read (Elt F) g) Finset.univ) : sProp 𝕄) ⊢ pt d kM (colOf g j) := by
  rw [← pv_whole]
  exact land 0 d (kgS j) kM g fd (colOf g j) fun x => (congrArg g (rG_emb j x)).symm
theorem land_vv (d j : Dev nD) (g : S2x512x2048.Idx → Elt F .bf16) (fd : S2x512x512.Idx → Elt F .bf16) :
    (pv d vM fullShare (vM.view.write (Elt F) fd ((vgS j).view.read (Elt F) g) Finset.univ) : sProp 𝕄) ⊢ pt d vM (colOf g j) := by
  rw [← pv_whole]
  exact land 0 d (vgS j) vM g fd (colOf g j) fun x => (congrArg g (rG_emb j x)).symm
theorem land_ky (d j : Dev nD) (g : S2x512x2048.Idx → Elt F .bf16) (fd : S2x512x512.Idx → Elt F .bf16) :
    (pv d yM fullShare (yM.view.write (Elt F) fd ((kgS j).view.read (Elt F) g) Finset.univ) : sProp 𝕄) ⊢ pt d yM (colOf g j) := by
  rw [← pv_whole]
  exact land 0 d (kgS j) yM g fd (colOf g j) fun x => (congrArg g (rG_emb j x)).symm
theorem land_vy (d j : Dev nD) (g : S2x512x2048.Idx → Elt F .bf16) (fd : S2x512x512.Idx → Elt F .bf16) :
    (pv d yM fullShare (yM.view.write (Elt F) fd ((vgS j).view.read (Elt F) g) Finset.univ) : sProp 𝕄) ⊢ pt d yM (colOf g j) := by
  rw [← pv_whole]
  exact land 0 d (vgS j) yM g fd (colOf g j) fun x => (congrArg g (rG_emb j x)).symm
theorem land_yk (d : Dev nD) (g fd : S2x512x512.Idx → Elt F .bf16) :
    (pv d kM fullShare (kM.view.write (Elt F) fd (yM.view.read (Elt F) g) Finset.univ) : sProp 𝕄) ⊢ pt d kM g := by
  rw [← pv_whole]
  exact land 0 d yM kM g fd g fun x => rfl
theorem land_yv (d : Dev nD) (g fd : S2x512x512.Idx → Elt F .bf16) :
    (pv d vM fullShare (vM.view.write (Elt F) fd (yM.view.read (Elt F) g) Finset.univ) : sProp 𝕄) ⊢ pt d vM g := by
  rw [← pv_whole]
  exact land 0 d yM vM g fd g fun x => rfl

/-! ## Rectangles as the program writes them -/

theorem inb_a (b : Fin 2) (d : Fin 4) : ∀ a, (![b.val, 128 * d.val, 0] : Fin 3 → ℕ) a + S1x128x768.size a ≤ S2x512x768.size a := by
  intro a; have := b.isLt; have := d.isLt
  fin_cases a <;> simp [S1x128x768, S2x512x768] <;> omega
/-- The rows of chunk `d` of batch `b`. -/
abbrev rA (b : Fin 2) (d : Dev nD) : Rect S2x512x768 := Rect.unit (s := S2x512x768) ![b.val, 128 * d.val, 0] S1x128x768.size (inb_a b d)

theorem rA_emb (b : Fin 2) (d : Dev nD) (x : S1x128x768.Idx) : (rA b d).emb x = (rR d).emb (ix3 b (x 1) (x 2)) := by
  have l0 : (x 0).val = 0 := by have := (x 0).isLt; simp [S1x128x768] at this; omega
  funext a
  fin_cases a
  · exact Fin.ext (by show b.val + 1 * (x 0).val = 0 + 1 * b.val; omega)
  · rfl
  · rfl

theorem box_unit {s : Shape} {α : Type} {off off' sz : Fin s.rank → ℕ} (h : off = off') (p : ∀ a, off a + sz a ≤ s.size a) (p' : ∀ a, off' a + sz a ≤ s.size a)
    (f : s.Idx → α) : (fun x : (⟨s.rank, sz⟩ : Shape).Idx => f ((Rect.unit off sz p).emb x)) = fun x => f ((Rect.unit off' sz p').emb x) := by
  subst h; rfl

/-- Batch 0's half of a chunk is written. -/
def Half (c d : Dev nD) (f : S2x512x768.Idx → Elt F .bf16) : Prop := ∀ x : S1x128x768.Idx, f ((rA 0 d).emb x) = ARF I c ((rA 0 d).emb x)

theorem prj_ARF (c d : Dev nD) (hd : d ≠ c) (b : Fin 2) (x : S1x128x768.Idx) : prj (CX I c) (WO I c) d b x = ARF I c ((rA b d).emb x) := by
  have l0 : (x 0).val = 0 := by have := (x 0).isLt; simp [S1x128x768] at this; omega
  rw [rA_emb, ARF_other I c _ (by rw [chk_emb]; exact hd), chk_emb, inChk_emb]
  show _ = prj (CX I c) (WO I c) d b (ix3 0 (x 1) (x 2))
  congr 1
  funext a
  fin_cases a
  · exact Fin.ext l0
  · rfl
  · rfl

/-- The store of batch 0's half of a chunk. -/
theorem half_of (c d : Dev nD) (hd : d ≠ c) {off : Fin 3 → ℕ} (ho : off = ![0, 128 * d.val, 0]) {p : ∀ a, off a + S1x128x768.size a ≤ S2x512x768.size a}
    {w : S1x128x768.Idx → Elt F .bf16} (hw : w = prj (CX I c) (WO I c) d 0) (f : S2x512x768.Idx → Elt F .bf16) :
    Half I c d (aM.view.writes (Elt F) f [⟨Rect.unit (s := S2x512x768) off S1x128x768.size p, w⟩]) := by
  subst ho hw
  intro x
  exact writes_whole_apply cc0_scratch4 f (ARF I c) [⟨rA 0 d, prj (CX I c) (WO I c) d 0⟩]
      (by simp only [List.forall_mem_cons]; exact ⟨prj_ARF I c d hd 0, fun _ hp => absurd hp List.not_mem_nil⟩) _
      (.inl ⟨_, List.mem_cons_self, (rA 0 d).toLoadRect.idx_mem x⟩)

/-- The store of batch 1's half completes the chunk. -/
theorem full_of (c d : Dev nD) (hd : d ≠ c) {off : Fin 3 → ℕ} (ho : off = ![1, 128 * d.val, 0]) {p : ∀ a, off a + S1x128x768.size a ≤ S2x512x768.size a}
    {w : S1x128x768.Idx → Elt F .bf16} (hw : w = prj (CX I c) (WO I c) d 1) (f : S2x512x768.Idx → Elt F .bf16) (hf : Half I c d f) :
    (pv c (aS d) fullShare (aM.view.writes (Elt F) f [⟨Rect.unit (s := S2x512x768) off S1x128x768.size p, w⟩]) : sProp 𝕄) ⊢ pv c (aS d) fullShare (ARF I c) := by
  subst ho hw
  refine Entails.of_eq (pointsTo_congr (fun y hy => ?_))
  obtain ⟨x, -, rfl⟩ := Finset.mem_map.1 hy
  refine writes_whole_apply cc0_scratch4 f (ARF I c) [⟨rA 1 d, prj (CX I c) (WO I c) d 1⟩]
      (by simp only [List.forall_mem_cons]; exact ⟨prj_ARF I c d hd 1, fun _ hp => absurd hp List.not_mem_nil⟩) _ ?_
  obtain ⟨b, hb⟩ : ∃ b : Fin 2, x 0 = b := ⟨x 0, rfl⟩
  have hx : (aS d).view.emb x = (rA b d).emb (ix3 (⟨0, Nat.one_pos⟩ : Fin 1) (x 1) (x 2)) := by
    rw [rA_emb, ← hb]
    show (rR d).emb x = _
    congr 1
    funext a; fin_cases a <;> rfl
  by_cases h1 : b = 1
  · subst h1
    left; refine ⟨_, List.mem_cons_self, ?_⟩; rw [hx]; exact (rA 1 d).toLoadRect.idx_mem _
  · have h0 := (by decide : ∀ b : Fin 2, b ≠ 1 → b = 0) b h1
    subst h0
    right; rw [hx]; exact hf _

/-- The store of the own chunk's sum. -/
theorem own_of (c : Dev nD) {off : Fin 3 → ℕ} (ho : off = ![0, 128 * c.val, 0]) {p : ∀ a, off a + S2x128x768.size a ≤ S2x512x768.size a}
    {w : S2x128x768.Idx → Elt F .bf16} (hw : w = RB I c) (f : S2x512x768.Idx → Elt F .bf16) :
    (pv c (aS c) fullShare (aM.view.writes (Elt F) f [⟨Rect.unit (s := S2x512x768) off S2x128x768.size p, w⟩]) : sProp 𝕄) ⊢ pv c (aS c) fullShare (ARF I c) := by
  subst ho hw
  refine Entails.of_eq (pointsTo_congr (fun y hy => ?_))
  refine writes_whole_apply cc0_scratch4 f (ARF I c) [⟨rR c, RB I c⟩]
      (by simp only [List.forall_mem_cons]; exact ⟨fun x => by rw [ARF_own I c _ (chk_emb c x), inChk_emb], fun _ hp => absurd hp List.not_mem_nil⟩) _
      (.inl ⟨_, List.mem_cons_self, ?_⟩)
  have h := aS_set c
  exact h ▸ hy

theorem read_c (b : Fin 2) (d : Dev nD) {off : Fin 3 → ℕ} (ho : off = ![b.val, 128 * d.val, 0]) (p : ∀ a, off a + S1x128x512.size a ≤ S2x512x512.size a) (f : S2x512x512.Idx → Elt F .bf16) :
    cM.view.readAt (Elt F) (Rect.unit (s := S2x512x512) off S1x128x512.size p).toLoadRect f = box (rC b d) f := by
  subst ho; rfl

/-- A load from a slot of a receive buffer. -/
theorem rs_load {R : Type} {Q : R → sProp 𝕄} (c : Dev nD) (i : Fin 3) (f : S3x2x128x768.Idx → Elt F .bf16) {off : Fin 4 → ℕ} (ho : off = ![i.val, 0, 0, 0]) {p : ∀ a, off a + S1x2x128x768.size a ≤ S3x2x128x768.size a}
    {hl : rsM.view.LoadsAt (Rect.unit (s := S3x2x128x768) off S1x2x128x768.size p).toLoadRect}
    {k : (S1x2x128x768.Idx → Elt F .bf16) → Prog (TpuEff nD τ sig (Elt F) Λ₀ .tc) R} :
    (pv c (rsS i) fullShare f : sProp 𝕄)
      ⊢ iprop((pv c (rsS i) fullShare f -∗ wp frame (wpE (defs₀ (F := F)) 𝒱₀ (c : Thread nD τ) none) Set.univ (k (box (rS i) f)) Q)
        -∗ wp frame (wpE (defs₀ (F := F)) 𝒱₀ (c : Thread nD τ) none) Set.univ (.op (.load rsM (Rect.unit (s := S3x2x128x768) off S1x2x128x768.size p).toLoadRect hl) k) Q) := by
  subst ho
  exact wp_load_rect (m := rsM) (r := rS i) (S := (rsS i).view.set) 𝒱₀ (c : Thread nD τ) none Set.univ (View.set_reshape _ _).ge
theorem ag_load {R : Type} {Q : R → sProp 𝕄} (c : Dev nD) (i : Fin 3) (f : S3x2x128x768.Idx → Elt F .bf16) {off : Fin 4 → ℕ} (ho : off = ![i.val, 0, 0, 0]) {p : ∀ a, off a + S1x2x128x768.size a ≤ S3x2x128x768.size a}
    {hl : agM.view.LoadsAt (Rect.unit (s := S3x2x128x768) off S1x2x128x768.size p).toLoadRect}
    {k : (S1x2x128x768.Idx → Elt F .bf16) → Prog (TpuEff nD τ sig (Elt F) Λ₀ .tc) R} :
    (pv c (agS i) fullShare f : sProp 𝕄)
      ⊢ iprop((pv c (agS i) fullShare f -∗ wp frame (wpE (defs₀ (F := F)) 𝒱₀ (c : Thread nD τ) none) Set.univ (k (box (rS i) f)) Q)
        -∗ wp frame (wpE (defs₀ (F := F)) 𝒱₀ (c : Thread nD τ) none) Set.univ (.op (.load agM (Rect.unit (s := S3x2x128x768) off S1x2x128x768.size p).toLoadRect hl) k) Q) := by
  subst ho
  exact wp_load_rect (m := agM) (r := rS i) (S := (agS i).view.set) 𝒱₀ (c : Thread nD τ) none Set.univ (View.set_reshape _ _).ge

theorem box_slot (i : Fin 3) (G : Fin 3 → S2x128x768.Idx → Elt F .bf16) :
    box (rS i) (fun y : S3x2x128x768.Idx => G (y 0) (ix3 (y 1) (y 2) (y 3))) = asSlot (G i) := by
  funext x
  have l0 : (x 0).val = 0 := by have := (x 0).isLt; simp at this; omega
  have h0 : (rS i).emb x 0 = i := Fin.ext (by show i.val + 1 * (x 0).val = i.val; omega)
  show G ((rS i).emb x 0) _ = G i _
  rw [h0]
  congr 1
  funext a
  fin_cases a
  · exact Fin.ext (by show 0 + 1 * (x 1).val = (x 1).val; omega)
  · exact Fin.ext (by show 0 + 1 * (x 2).val = (x 2).val; omega)
  · exact Fin.ext (by show 0 + 1 * (x 3).val = (x 3).val; omega)
theorem box_RSF (c : Dev nD) (i : Fin 3) : box (rS i) (RSF I c) = asSlot (PR I (frm c i) c) := box_slot i fun i => PR I (frm c i) c
theorem box_AGF (c : Dev nD) (i : Fin 3) : box (rS i) (AGF I c) = asSlot (RB I (frm c i)) := box_slot i fun i => RB I (frm c i)

/-! ## The result, chunk by chunk -/

/-- The chunks of `S` are written. -/
def OutOn (c : Dev nD) (S : Finset (Dev nD)) (f : S2x512x768.Idx → Elt F .f32) : Prop := ∀ y, chk y ∈ S → f y = OUT I c y

theorem OutOn.step {c : Dev nD} {S : Finset (Dev nD)} {f : S2x512x768.Idx → Elt F .f32} (d : Dev nD) {off : Fin 3 → ℕ} (ho : off = ![0, 128 * d.val, 0])
    {p : ∀ a, off a + S2x128x768.size a ≤ S2x512x768.size a} {w : S2x128x768.Idx → Elt F .f32} (hw : w = if d = c then RD I c else wide (RB I d))
    {L : List (View.Piece (Elt F) S2x512x768 .f32)} (hf : OutOn I c S (oM.view.writes (Elt F) f L)) :
    OutOn I c (insert d S) (oM.view.writes (Elt F) f (⟨Rect.unit (s := S2x512x768) off S2x128x768.size p, w⟩ :: L)) := by
  subst ho
  intro y hy
  refine writes_whole_apply cc0_stg3_0 (oM.view.writes (Elt F) f L) (OUT I c) [⟨rR d, w⟩] ?_ y ?_
  · simp only [List.forall_mem_cons]
    refine ⟨fun x => ?_, fun _ hp => absurd hp List.not_mem_nil⟩
    show w x = OUT I c ((rR d).emb x)
    unfold OUT
    rw [chk_emb, inChk_emb, hw]
    split <;> rfl
  · rcases Finset.mem_insert.1 hy with h | h
    · left; refine ⟨_, List.mem_cons_self, ?_⟩
      have h' := aS_set d
      exact h' ▸ mem_aS.2 h
    · exact .inr (hf y h)
theorem OutOn.all {c : Dev nD} {S : Finset (Dev nD)} {f : S2x512x768.Idx → Elt F .f32} (h : OutOn I c S f) (hS : ∀ d, d ∈ S) : f = OUT I c :=
  funext fun y => h y (hS _)

end Cert.KernelIdeal.Attn
-- ==== Proof.AttnIdeal.Whole.lean ====
/- Whole buffers and their pieces. -/
module

public import proofs.«01_k».proof.Proof.AttnIdeal.Pieces

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

theorem split4 {ℓ : Loc nD τ sig} {A B C D : Finset (Idx ℓ)} (h1 : Disjoint A (B ∪ (C ∪ D))) (h2 : Disjoint B (C ∪ D)) (h3 : Disjoint C D) (hc : A ∪ (B ∪ (C ∪ D)) = Finset.univ) (f : Buf (Elt F) ℓ) :
    (ℓ ↦[Finset.univ]{fullShare} f : sProp 𝕄) ⊢ iprop((ℓ ↦[A]{fullShare} f) ∗ (ℓ ↦[B]{fullShare} f) ∗ (ℓ ↦[C]{fullShare} f) ∗ ℓ ↦[D]{fullShare} f) := by
  rw [← hc]
  iintro H
  ihave H := (pointsTo_union h1).1 $$ H
  icases H with ⟨H0, H⟩
  ihave H := (pointsTo_union h2).1 $$ H
  icases H with ⟨H1, H⟩
  ihave H := (pointsTo_union h3).1 $$ H
  icases H with ⟨H2, H3⟩
  iframe H0 H1 H2 H3
theorem split3 {ℓ : Loc nD τ sig} {A B C : Finset (Idx ℓ)} (h1 : Disjoint A (B ∪ C)) (h2 : Disjoint B C) (hc : A ∪ (B ∪ C) = Finset.univ) (f : Buf (Elt F) ℓ) :
    (ℓ ↦[Finset.univ]{fullShare} f : sProp 𝕄) ⊢ iprop((ℓ ↦[A]{fullShare} f) ∗ (ℓ ↦[B]{fullShare} f) ∗ (ℓ ↦[C]{fullShare} f)) := by
  rw [← hc]
  iintro H
  ihave H := (pointsTo_union h1).1 $$ H
  icases H with ⟨H0, H⟩
  ihave H := (pointsTo_union h2).1 $$ H
  icases H with ⟨H1, H2⟩
  iframe H0 H1 H2
theorem join2 {ℓ : Loc nD τ sig} {A B : Finset (Idx ℓ)} (h : Disjoint A B) :
    (iprop((∃ f, ℓ ↦[A]{fullShare} f) ∗ (∃ f, ℓ ↦[B]{fullShare} f)) : sProp 𝕄) ⊢ iprop(∃ f, ℓ ↦[A ∪ B]{fullShare} f) := by
  iintro ⟨⟨%f, Ha⟩, ⟨%g, Hb⟩⟩
  iexists _
  iapply (pointsTo_join h)
  isplitl [Ha] <;> iassumption
theorem join3 {ℓ : Loc nD τ sig} {A B C : Finset (Idx ℓ)} (h1 : Disjoint A (B ∪ C)) (h2 : Disjoint B C) (hc : A ∪ (B ∪ C) = Finset.univ) :
    (iprop((∃ f, ℓ ↦[A]{fullShare} f) ∗ (∃ f, ℓ ↦[B]{fullShare} f) ∗ (∃ f, ℓ ↦[C]{fullShare} f)) : sProp 𝕄) ⊢ iprop(∃ f, ℓ ↦[Finset.univ]{fullShare} f) := by
  rw [← hc]
  iintro ⟨H0, H1, H2⟩
  iapply (join2 h1)
  isplitl [H0]; · iexact H0
  iapply (join2 h2)
  isplitl [H1] <;> iassumption
theorem join4 {ℓ : Loc nD τ sig} {A B C D : Finset (Idx ℓ)} (h1 : Disjoint A (B ∪ (C ∪ D))) (h2 : Disjoint B (C ∪ D)) (h3 : Disjoint C D) (hc : A ∪ (B ∪ (C ∪ D)) = Finset.univ) :
    (iprop((∃ f, ℓ ↦[A]{fullShare} f) ∗ (∃ f, ℓ ↦[B]{fullShare} f) ∗ (∃ f, ℓ ↦[C]{fullShare} f) ∗ (∃ f, ℓ ↦[D]{fullShare} f)) : sProp 𝕄) ⊢ iprop(∃ f, ℓ ↦[Finset.univ]{fullShare} f) := by
  rw [← hc]
  iintro ⟨H0, H1, H2, H3⟩
  iapply (join2 h1)
  isplitl [H0]; · iexact H0
  iapply (join2 h2)
  isplitl [H1]; · iexact H1
  iapply (join2 h3)
  isplitl [H2] <;> iassumption

section

variable {α : Type} [DecidableEq α] (A : Dev nD → Finset α) (h : ∀ d e, d ≠ e → Disjoint (A d) (A e))
include h
theorem fam1 (c : Dev nD) : Disjoint (A c) (A (c + 1) ∪ (A (c + 2) ∪ A (c + 3))) :=
  Finset.disjoint_union_right.2 ⟨h _ _ (by revert c; decide), Finset.disjoint_union_right.2 ⟨h _ _ (by revert c; decide), h _ _ (by revert c; decide)⟩⟩
theorem fam2 (c : Dev nD) : Disjoint (A (c + 1)) (A (c + 2) ∪ A (c + 3)) :=
  Finset.disjoint_union_right.2 ⟨h _ _ (by revert c; decide), h _ _ (by revert c; decide)⟩
theorem fam3 (c : Dev nD) : Disjoint (A (c + 2)) (A (c + 3)) := h _ _ (by revert c; decide)
omit h in
theorem famc [Fintype α] (hc : ∀ y, ∃ d, y ∈ A d) (c : Dev nD) : A c ∪ (A (c + 1) ∪ (A (c + 2) ∪ A (c + 3))) = Finset.univ := by
  ext y
  obtain ⟨d, hd⟩ := hc y
  have : d = c ∨ d = c + 1 ∨ d = c + 2 ∨ d = c + 3 := by clear hd; revert d c; decide
  simp only [Finset.mem_union, Finset.mem_univ, iff_true]
  rcases this with rfl | rfl | rfl | rfl
  · exact .inl hd
  · exact .inr (.inl hd)
  · exact .inr (.inr (.inl hd))
  · exact .inr (.inr (.inr hd))

end

/-- The rows of chunk `d`. -/
def aSet (d : Dev nD) : Finset S2x512x768.Idx := (rR d).set
theorem aS_aSet (d : Dev nD) : (aS d).view.set = aSet d := aS_set d
theorem mem_aSet {d : Dev nD} {y : S2x512x768.Idx} : y ∈ aSet d ↔ chk y = d := by rw [← aS_aSet]; exact mem_aS
theorem aSet_disj (d e : Dev nD) (h : d ≠ e) : Disjoint (aSet d) (aSet e) :=
  Finset.disjoint_left.2 fun _ h₁ h₂ => h ((mem_aSet.1 h₁).symm.trans (mem_aSet.1 h₂))
theorem aSet_cover (c : Dev nD) : aSet c ∪ (aSet (c + 1) ∪ (aSet (c + 2) ∪ aSet (c + 3))) = Finset.univ :=
  famc aSet (fun y => ⟨chk y, mem_aSet.2 rfl⟩) c

theorem split_a (c : Dev nD) : (iprop(∃ f, pt c aM f) : sProp 𝕄)
    ⊢ iprop((∃ f, pv c (aS c) fullShare f) ∗ (∃ f, pv c (aS (c + 1)) fullShare f) ∗ (∃ f, pv c (aS (c + 2)) fullShare f) ∗ (∃ f, pv c (aS (c + 3)) fullShare f)) := by
  unfold pv
  rw [aS_aSet, aS_aSet, aS_aSet, aS_aSet]
  iintro ⟨%f, H⟩
  ihave H := (split4 (ℓ := aM.view.loc (c : Thread nD τ)) (fam1 aSet aSet_disj c) (fam2 aSet aSet_disj c) (fam3 aSet aSet_disj c) (aSet_cover c) f) $$ H
  icases H with ⟨H0, H1, H2, H3⟩
  isplitl [H0]; · iexists f; iexact H0
  isplitl [H1]; · iexists f; iexact H1
  isplitl [H2]; · iexists f; iexact H2
  iexists f; iexact H3
theorem join_a (c : Dev nD) : (iprop((∃ f, pv c (aS c) fullShare f) ∗ (∃ f, pv c (aS (c + 1)) fullShare f) ∗ (∃ f, pv c (aS (c + 2)) fullShare f) ∗ (∃ f, pv c (aS (c + 3)) fullShare f)) : sProp 𝕄)
    ⊢ iprop(∃ f, pt c aM f) := by
  unfold pv
  rw [aS_aSet, aS_aSet, aS_aSet, aS_aSet]
  exact join4 (ℓ := aM.view.loc (c : Thread nD τ)) (fam1 aSet aSet_disj c) (fam2 aSet aSet_disj c) (fam3 aSet aSet_disj c) (aSet_cover c)

theorem sS_disj (i j : Fin 3) (h : i ≠ j) : Disjoint (rS i).set (rS j).set := Finset.disjoint_left.2 fun y h₁ h₂ => by
  have m₁ := Rect.mem_set_unit.1 h₁ 0
  have m₂ := Rect.mem_set_unit.1 h₂ 0
  simp [S1x2x128x768] at m₁ m₂
  exact h (Fin.ext (by omega))
theorem sS_cover : (rS 0).set ∪ ((rS 1).set ∪ (rS 2).set) = Finset.univ := by
  ext y
  have h1 : (y 1).val < 2 := (y 1).isLt
  have h2 : (y 2).val < 128 := (y 2).isLt
  have h3 : (y 3).val < 768 := (y 3).isLt
  have hm : ∀ i : Fin 3, y 0 = i → y ∈ (rS i).set := fun i hi => by
    have hi' : (y 0).val = i.val := congrArg Fin.val hi
    refine Rect.mem_set_unit.2 fun a => ?_
    fin_cases a <;> simp [S1x2x128x768] <;> omega
  simp only [Finset.mem_union, Finset.mem_univ, iff_true]
  have h0 : ∀ i : Fin 3, i = 0 ∨ i = 1 ∨ i = 2 := by decide
  rcases h0 (y 0) with h | h | h
  · exact .inl (hm 0 h)
  · exact .inr (.inl (hm 1 h))
  · exact .inr (.inr (hm 2 h))
theorem sS_dj : Disjoint (rS 0).set ((rS 1).set ∪ (rS 2).set) := Finset.disjoint_union_right.2 ⟨sS_disj _ _ (by decide), sS_disj _ _ (by decide)⟩
theorem rsS_set (i : Fin 3) : (rsS i).view.set = (rS i).set := (View.set_reshape _ _).trans (View.set_slice_whole _ _)
theorem agS_set (i : Fin 3) : (agS i).view.set = (rS i).set := (View.set_reshape _ _).trans (View.set_slice_whole _ _)

theorem split_rs (c : Dev nD) : (iprop(∃ f, pt c rsM f) : sProp 𝕄)
    ⊢ iprop((∃ f, pv c (rsS 0) fullShare f) ∗ (∃ f, pv c (rsS 1) fullShare f) ∗ (∃ f, pv c (rsS 2) fullShare f)) := by
  unfold pv
  rw [rsS_set, rsS_set, rsS_set]
  iintro ⟨%f, H⟩
  ihave H := (split3 (ℓ := rsM.view.loc (c : Thread nD τ)) sS_dj (sS_disj 1 2 (by decide)) sS_cover f) $$ H
  icases H with ⟨H0, H1, H2⟩
  isplitl [H0]; · iexists f; iexact H0
  isplitl [H1]; · iexists f; iexact H1
  iexists f; iexact H2
theorem join_rs (c : Dev nD) : (iprop((∃ f, pv c (rsS 0) fullShare f) ∗ (∃ f, pv c (rsS 1) fullShare f) ∗ (∃ f, pv c (rsS 2) fullShare f)) : sProp 𝕄)
    ⊢ iprop(∃ f, pt c rsM f) := by
  unfold pv
  rw [rsS_set, rsS_set, rsS_set]
  exact join3 (ℓ := rsM.view.loc (c : Thread nD τ)) sS_dj (sS_disj 1 2 (by decide)) sS_cover

theorem split_ag (c : Dev nD) : (iprop(∃ f, pt c agM f) : sProp 𝕄)
    ⊢ iprop((∃ f, pv c (agS 0) fullShare f) ∗ (∃ f, pv c (agS 1) fullShare f) ∗ (∃ f, pv c (agS 2) fullShare f)) := by
  unfold pv
  rw [agS_set, agS_set, agS_set]
  iintro ⟨%f, H⟩
  ihave H := (split3 (ℓ := agM.view.loc (c : Thread nD τ)) sS_dj (sS_disj 1 2 (by decide)) sS_cover f) $$ H
  icases H with ⟨H0, H1, H2⟩
  isplitl [H0]; · iexists f; iexact H0
  isplitl [H1]; · iexists f; iexact H1
  iexists f; iexact H2
theorem join_ag (c : Dev nD) : (iprop((∃ f, pv c (agS 0) fullShare f) ∗ (∃ f, pv c (agS 1) fullShare f) ∗ (∃ f, pv c (agS 2) fullShare f)) : sProp 𝕄)
    ⊢ iprop(∃ f, pt c agM f) := by
  unfold pv
  rw [agS_set, agS_set, agS_set]
  exact join3 (ℓ := agM.view.loc (c : Thread nD τ)) sS_dj (sS_disj 1 2 (by decide)) sS_cover

theorem rG_disj (d e : Dev nD) (h : d ≠ e) : Disjoint (rG d).set (rG e).set := Finset.disjoint_left.2 fun y h₁ h₂ => by
  have m₁ := Rect.mem_set_unit.1 h₁ 2
  have m₂ := Rect.mem_set_unit.1 h₂ 2
  simp [S2x512x512] at m₁ m₂
  exact h (Fin.ext (by omega))
theorem rG_cover : (Finset.univ : Finset S2x512x2048.Idx) = Finset.univ.biUnion fun d : Dev nD => (rG d).set := by
  refine (Finset.eq_univ_iff_forall.2 fun y => ?_).symm
  have h0 : (y 0).val < 2 := (y 0).isLt
  have h1 : (y 1).val < 512 := (y 1).isLt
  have h2 : (y 2).val < 2048 := (y 2).isLt
  refine Finset.mem_biUnion.2 ⟨⟨(y 2).val / 512, by show _ < 4; omega⟩, Finset.mem_univ _, ?_⟩
  have hm : y ∈ (rG ⟨(y 2).val / 512, by show _ < 4; omega⟩).set := by
    refine Rect.mem_set_unit.2 fun a => ?_
    fin_cases a <;> simp [S2x512x512] <;> omega
  exact hm

theorem kg_pieces (c : Dev nD) (f : S2x512x2048.Idx → Elt F .bf16) :
    (pt c kgM f : sProp 𝕄) = iprop(pv c (kgS 0) fullShare f ∗ pv c (kgS 1) fullShare f ∗ pv c (kgS 2) fullShare f ∗ pv c (kgS 3) fullShare f) := by
  have h : (pt c kgM f : sProp 𝕄) = kgM.view.loc (c : Thread nD τ) ↦[Finset.univ.biUnion fun d : Dev nD => (rG d).set]{fullShare} f := by
    unfold pt; rw [← rG_cover]
  rw [h, pointsTo_biUnion _ _ (fun d _ e _ => rG_disj d e), bigSep_eq_bigSepL_of_eq [0, 1, 2, 3] (by decide) (by decide)]
  unfold pv
  rw [show (kgS 0).view.set = (rG 0).set from View.set_slice_whole _ _, show (kgS 1).view.set = (rG 1).set from View.set_slice_whole _ _,
    show (kgS 2).view.set = (rG 2).set from View.set_slice_whole _ _, show (kgS 3).view.set = (rG 3).set from View.set_slice_whole _ _]
  rfl

theorem vg_pieces (c : Dev nD) (f : S2x512x2048.Idx → Elt F .bf16) :
    (pt c vgM f : sProp 𝕄) = iprop(pv c (vgS 0) fullShare f ∗ pv c (vgS 1) fullShare f ∗ pv c (vgS 2) fullShare f ∗ pv c (vgS 3) fullShare f) := by
  have h : (pt c vgM f : sProp 𝕄) = vgM.view.loc (c : Thread nD τ) ↦[Finset.univ.biUnion fun d : Dev nD => (rG d).set]{fullShare} f := by
    unfold pt; rw [← rG_cover]
  rw [h, pointsTo_biUnion _ _ (fun d _ e _ => rG_disj d e), bigSep_eq_bigSepL_of_eq [0, 1, 2, 3] (by decide) (by decide)]
  unfold pv
  rw [show (vgS 0).view.set = (rG 0).set from View.set_slice_whole _ _, show (vgS 1).view.set = (rG 1).set from View.set_slice_whole _ _,
    show (vgS 2).view.set = (rG 2).set from View.set_slice_whole _ _, show (vgS 3).view.set = (rG 3).set from View.set_slice_whole _ _]
  rfl

/-- The own chunk in three shares. -/
theorem shares (c : Dev nD) (f : S2x512x768.Idx → Elt F .bf16) :
    (pv c (aS c) fullShare f : sProp 𝕄) ⊢ iprop(pv c (aS c) sh0 f ∗ pv c (aS c) sh1 f ∗ pv c (aS c) sh2 f) := by
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  iframe H0 H1 H2
theorem shares' (c : Dev nD) (f : S2x512x768.Idx → Elt F .bf16) :
    (iprop(pv c (aS c) sh0 f ∗ pv c (aS c) sh1 f ∗ pv c (aS c) sh2 f) : sProp 𝕄) ⊢ pv c (aS c) fullShare f := by
  iintro ⟨H0, H1, H2⟩
  iapply (pointsTo_share (PosShare.mem_left_op_right fullShare)).2
  isplitl [H0]; · iexact H0
  iapply (pointsTo_share (PosShare.mem_left_op_right fullShare.right)).2
  isplitl [H1] <;> iassumption

end Cert.KernelIdeal.Attn
-- ==== Proof.AttnIdeal.Ctx.lean ====
/- The stretch that multiplies the exponentials of heads 1 to 14 by the values and scales the products: the attention's output fills up
   head by head. -/
module

public import proofs.«01_k».proof.Proof.AttnIdeal.Base

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix3 ix4)

variable {F : FTy → Type} [FloatOps F] [Named F]

local notation "𝕄" => MT nD τ sig Unit (Elt F) ℕ UU ℕ

/-- `f` is the attention's output on the first `n` heads, batch 0's heads first. -/
def Agree (q : Fin 2 → FVec F S512x512 .bf16) (k v : S2x512x512.Idx → Elt F .bf16) (n : ℕ) (f : S2x512x512.Idx → Elt F .bf16) : Prop :=
  ∀ y, 8 * (y 0).val + (y 2).val / 64 < n → f y = ctx q k v y

/-- The two stores of one head extend the agreement by that head. -/
theorem Agree.step {q : Fin 2 → FVec F S512x512 .bf16} {k v : S2x512x512.Idx → Elt F .bf16} {n : ℕ} {f : S2x512x512.Idx → Elt F .bf16}
    (b : Fin 2) (h : Fin 8) (hn : 8 * b.val + h.val = n) {L : List (View.Piece (Elt F) S2x512x512 .bf16)}
    (hf : Agree q k v n (cM.view.writes (Elt F) f L)) :
    Agree q k v (n + 1) (cM.view.writes (Elt F) f (⟨rV' b h, cB q k v b h⟩ :: ⟨rV b h, cT q k v b h⟩ :: L)) := by
  intro y hy
  refine writes_whole_apply cc0_scratch3 (cM.view.writes (Elt F) f L) (ctx q k v) [⟨rV' b h, cB q k v b h⟩, ⟨rV b h, cT q k v b h⟩] ?_ y ?_
  · simp only [List.forall_mem_cons]
    exact ⟨ctx_embB q k v b h, ctx_embT q k v b h, fun _ hp => absurd hp List.not_mem_nil⟩
  · by_cases hlt : 8 * (y 0).val + (y 2).val / 64 < n
    · exact .inr (hf y hlt)
    · left
      have l0 : (y 0).val < 2 := (y 0).isLt
      have l1 : (y 1).val < 512 := (y 1).isLt
      have l2 : (y 2).val < 512 := (y 2).isLt
      have lb := b.isLt
      have lh := h.isLt
      have e0 : (y 0).val = b.val := by omega
      have e2 : (y 2).val / 64 = h.val := by omega
      by_cases h1 : (y 1).val < 256
      · have hm : y ∈ (rV b h).set := by
          refine Rect.mem_set_unit.2 fun a => ?_
          fin_cases a <;> simp [S1x256x64] <;> omega
        exact ⟨_, List.mem_cons_of_mem _ List.mem_cons_self, hm⟩
      · have hm : y ∈ (rV' b h).set := by
          refine Rect.mem_set_unit.2 fun a => ?_
          fin_cases a <;> simp [S1x256x64] <;> omega
        exact ⟨_, List.mem_cons_self, hm⟩

theorem Agree.all {q : Fin 2 → FVec F S512x512 .bf16} {k v : S2x512x512.Idx → Elt F .bf16} {f : S2x512x512.Idx → Elt F .bf16}
    (h : Agree q k v 16 f) : f = ctx q k v := funext fun y => h y (by
  have : (y 0).val < 2 := (y 0).isLt
  have : (y 2).val < 512 := (y 2).isLt
  omega)

set_option maxHeartbeats 4000000 in
theorem st5_spec (c : Dev nD) (q : Fin 2 → FVec F S512x512 .bf16) (k v : S2x512x512.Idx → Elt F .bf16)
    {R : Type} {κ : _} {Q : R → sProp 𝕄} :
    iprop(pt c vM v ∗ pt c wtM (wT q k) ∗ pt c wbM (wB q k) ∗ ∃ f, ⌜Agree q k v 1 f⌝ ∗ pt c cM f)
      ⊢ iprop(((pt c vM v ∗ pt c wtM (wT q k) ∗ pt c wbM (wB q k) ∗ ∃ f, ⌜Agree q k v 15 f⌝ ∗ pt c cM f) -∗
            wp frame (wpE (defs₀ (F := F)) 𝒱₀ (c : Thread nD τ) none) Set.univ
              (κ (k0_pay194 (box (rWt 1 7) (wT q k)) (box (rV 1 7) v)) (k0_pay195 (box (rWb 1 7) (wB q k)))) Q)
          -∗ wp frame (wpE (defs₀ (F := F)) 𝒱₀ (c : Thread nD τ) none) Set.univ
              (st5 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                (rT q k 0 1) (rB q k 0 1) (rT q k 0 2) (rB q k 0 2) (rT q k 0 3) (rB q k 0 3) (rT q k 0 4) (rB q k 0 4) (rT q k 0 5) (rB q k 0 5) (rT q k 0 6) (rB q k 0 6) (rT q k 0 7) (rB q k 0 7) (rT q k 1 0) (rB q k 1 0) (rT q k 1 1) (rB q k 1 1) (rT q k 1 2) (rB q k 1 2) (rT q k 1 3) (rB q k 1 3) (rT q k 1 4) (rB q k 1 4) (rT q k 1 5) (rB q k 1 5) (rT q k 1 6) (rB q k 1 6) κ) Q) := by
  iintro ⟨HV, HT, HB, ⟨%f, %hf, HC⟩⟩ Hκ
  unfold st5
  sl_exec
  iapply Hκ
  iframe HV HT HB
  iexists _
  iframe HC
  ipureintro
  refine Agree.step 1 6 rfl ?_
  refine Agree.step 1 5 rfl ?_
  refine Agree.step 1 4 rfl ?_
  refine Agree.step 1 3 rfl ?_
  refine Agree.step 1 2 rfl ?_
  refine Agree.step 1 1 rfl ?_
  refine Agree.step 1 0 rfl ?_
  refine Agree.step 0 7 rfl ?_
  refine Agree.step 0 6 rfl ?_
  refine Agree.step 0 5 rfl ?_
  refine Agree.step 0 4 rfl ?_
  refine Agree.step 0 3 rfl ?_
  refine Agree.step 0 2 rfl ?_
  refine Agree.step 0 1 rfl ?_
  exact hf

end Cert.KernelIdeal.Attn
-- ==== Proof.AttnIdeal.Reduce.lean ====
/- The reduction: the stretches that project the rows, exchange the partial sums and broadcast the totals. -/
module

public import proofs.«01_k».proof.Proof.AttnIdeal.Whole
public import proofs.«01_k».proof.Proof.AttnIdeal.Ctx

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

/-! ## Offsets and devices in closed form -/

theorem off1_1 (c : Dev nD) : k0_off1 c 1#32 = ![0, 128 * (c + 1).val, 0] := by revert c; decide +kernel
theorem off1_2 (c : Dev nD) : k0_off1 c 2#32 = ![0, 128 * (c + 2).val, 0] := by revert c; decide +kernel
theorem off1_3 (c : Dev nD) : k0_off1 c 3#32 = ![0, 128 * (c + 3).val, 0] := by revert c; decide +kernel
theorem off2_1 (c : Dev nD) : k0_off2 c 1#32 = ![0, 128 * (c + 1).val, 0] := by revert c; decide +kernel
theorem off2_2 (c : Dev nD) : k0_off2 c 2#32 = ![0, 128 * (c + 2).val, 0] := by revert c; decide +kernel
theorem off2_3 (c : Dev nD) : k0_off2 c 3#32 = ![0, 128 * (c + 3).val, 0] := by revert c; decide +kernel
theorem off3_1 (c : Dev nD) : k0_off3 c 1#32 = ![1, 128 * (c + 1).val, 0] := by revert c; decide +kernel
theorem off3_2 (c : Dev nD) : k0_off3 c 2#32 = ![1, 128 * (c + 2).val, 0] := by revert c; decide +kernel
theorem off3_3 (c : Dev nD) : k0_off3 c 3#32 = ![1, 128 * (c + 3).val, 0] := by revert c; decide +kernel
theorem off4_1 (c : Dev nD) : k0_off4 c 1#32 = ![1, 128 * (c + 1).val, 0] := by revert c; decide +kernel
theorem off4_2 (c : Dev nD) : k0_off4 c 2#32 = ![1, 128 * (c + 2).val, 0] := by revert c; decide +kernel
theorem off4_3 (c : Dev nD) : k0_off4 c 3#32 = ![1, 128 * (c + 3).val, 0] := by revert c; decide +kernel
theorem off5_1 (c : Dev nD) : k0_off5 c 1#32 = ![0, 128 * (c + 1).val, 0] := by revert c; decide +kernel
theorem off5_2 (c : Dev nD) : k0_off5 c 2#32 = ![0, 128 * (c + 2).val, 0] := by revert c; decide +kernel
theorem off5_3 (c : Dev nD) : k0_off5 c 3#32 = ![0, 128 * (c + 3).val, 0] := by revert c; decide +kernel
theorem off10_1 (c : Dev nD) : k0_off10 c 1#32 = ![0, 128 * (c + 1).val, 0] := by revert c; decide +kernel
theorem off10_2 (c : Dev nD) : k0_off10 c 2#32 = ![0, 128 * (c + 2).val, 0] := by revert c; decide +kernel
theorem off10_3 (c : Dev nD) : k0_off10 c 3#32 = ![0, 128 * (c + 3).val, 0] := by revert c; decide +kernel
theorem ne1 (c : Dev nD) : c + 1 ≠ c := by revert c; decide
theorem ne2 (c : Dev nD) : c + 2 ≠ c := by revert c; decide
theorem ne3 (c : Dev nD) : c + 3 ≠ c := by revert c; decide
theorem frm0 (c : Dev nD) : frm (c + 1) 0 = c := by revert c; decide
theorem frm1 (c : Dev nD) : frm (c + 2) 1 = c := by revert c; decide
theorem frm2 (c : Dev nD) : frm (c + 3) 2 = c := by revert c; decide

/-- `send_step`, the source named by an equal slice. -/
theorem send_step' {R : Type} (K : GSem nD τ sig → ℕ) (c c' : Dev nD) (i j : Fin 24) (hi : used c i.val = true) (hj : used c' j.val = true)
    {d : Dev nD} (hd : d = c') {sS sR : DmaSem sig} (hs : sS = dsem i) (hr : sR = dsem j)
    {sp sp' : Space} {s : Shape} {e : EltTy} {src₀ : Memref sig .tc sp s e} (src : Memref sig .tc sp s e) (hsrc : src₀ = src) (dst : Memref sig .tc sp' s e) {hsc : dst.view.ref.isScScratch = false}
    {h₁ : src₀.view.WordExact} {h₂ : dst.view.WordExact} {hsem : DmaTarget.Typed sp (.dma sR) (.remote (Dev.tc d) dst (.dma sS) hsc)}
    (hn : RefSig.tileCredit s e = amt j.val) (hij : amt i.val = amt j.val) (q : PosShare TreeShare)
    (fs : Buf (Elt F) (src.view.loc (c : Thread nD τ))) (fd : Buf (Elt F) (dst.view.loc (c' : Thread nD τ)))
    (hp₁ : (pv c src q fs : sProp 𝕄) ⊢ pay I c i.val)
    (hp₂ : (pv c' dst fullShare (dst.view.write (Elt F) fd (src.view.read (Elt F) fs) Finset.univ) : sProp 𝕄) ⊢ pay I c' j.val)
    (O : CellTallies nD τ sig Unit) {O' : CellTallies nD τ sig Unit} (hO : O' = O + own1 c' j)
    {k : PUnit → Prog (TpuEff nD τ sig (Elt F) Λ₀ .tc) R} {Q : R → sProp 𝕄} :
    iprop(allInv I K ∗ ownR c ∗ reached ER (dc c' j) 0 ∗ pv c src q fs ∗ pv c' dst fullShare fd ∗ tk c i ∗ tk c' j ∗ ow c O')
      ⊢ iprop((cr c i ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src₀ (.remote (Dev.tc d) dst (.dma sS) hsc) (.dma sR) h₁ h₂ hsem) k) Q) := by
  subst hsrc
  exact send_step I K c c' i j hi hj hd hs hr src₀ dst hn hij q fs fd hp₁ hp₂ O hO

theorem pay12 (c : Dev nD) : (pv c (aS (c + 1)) fullShare (ARF I c) : sProp 𝕄) ⊢ pay I c (12 : Fin 24).val := by
  show _ ⊢ iprop(∃ f, pv c (aS (c + 1)) fullShare f)
  iintro H; iexists _; iexact H
theorem pay13 (c : Dev nD) : (pv c (aS (c + 2)) fullShare (ARF I c) : sProp 𝕄) ⊢ pay I c (13 : Fin 24).val := by
  show _ ⊢ iprop(∃ f, pv c (aS (c + 2)) fullShare f)
  iintro H; iexists _; iexact H
theorem pay14 (c : Dev nD) : (pv c (aS (c + 3)) fullShare (ARF I c) : sProp 𝕄) ⊢ pay I c (14 : Fin 24).val := by
  show _ ⊢ iprop(∃ f, pv c (aS (c + 3)) fullShare f)
  iintro H; iexists _; iexact H

/-! ## The stretches -/

theorem off6_ (c : Dev nD) : k0_off6 c = ![0, 128 * c.val, 0] := by revert c; decide +kernel
theorem off7_ (c : Dev nD) : k0_off7 c = ![1, 128 * c.val, 0] := by revert c; decide +kernel
theorem off8_ (c : Dev nD) : k0_off8 c = ![0, 128 * c.val, 0] := by revert c; decide +kernel
theorem off9_ (c : Dev nD) : k0_off9 c = ![0, 128 * c.val, 0] := by revert c; decide +kernel

theorem unpay15 (c : Dev nD) : (pay I c (15 : Fin 24).val : sProp 𝕄) ⊢ pv c (rsS 0) fullShare (RSF I c) := Entails.of_eq rfl
theorem unpay16 (c : Dev nD) : (pay I c (16 : Fin 24).val : sProp 𝕄) ⊢ pv c (rsS 1) fullShare (RSF I c) := Entails.of_eq rfl
theorem unpay17 (c : Dev nD) : (pay I c (17 : Fin 24).val : sProp 𝕄) ⊢ pv c (rsS 2) fullShare (RSF I c) := Entails.of_eq rfl
theorem unpay21 (c : Dev nD) : (pay I c (21 : Fin 24).val : sProp 𝕄) ⊢ pv c (agS 0) fullShare (AGF I c) := Entails.of_eq rfl
theorem unpay22 (c : Dev nD) : (pay I c (22 : Fin 24).val : sProp 𝕄) ⊢ pv c (agS 1) fullShare (AGF I c) := Entails.of_eq rfl
theorem unpay23 (c : Dev nD) : (pay I c (23 : Fin 24).val : sProp 𝕄) ⊢ pv c (agS 2) fullShare (AGF I c) := Entails.of_eq rfl
theorem ret_bnd {E : Type → Type} {α β : Type} (a : α) (k : α → Prog E β) : (Prog.ret a).bind k = k a := rfl

set_option maxHeartbeats 4000000 in
theorem st6_spec (K : GSem nD τ sig → ℕ) (c : Dev nD) (v2 : BitVec 32)
    {R : Type} {κ : _} {Q : R → sProp 𝕄} :
    iprop(pt c vM (colV I c) ∗ (∃ f, ⌜Agree (QQ I c) (colK I c) (colV I c) 15 f⌝ ∗ pt c cM f) ∗ (∃ f, pv c (aS (c + 1)) fullShare f))
      ⊢ iprop(((pt c vM (colV I c) ∗ pt c cM (CX I c) ∗ (∃ f, ⌜Half I c (c + 1) f⌝ ∗ pv c (aS (c + 1)) fullShare f)) -∗
            wp frame (wpE (defs₀ (F := F)) 𝒱₀ (c : Thread nD τ) none) Set.univ
              (κ (Scalar.remsi (Scalar.addi v2 1#32) 4#32) (k0_pay199 (WO I c) (box (rC 1 (c + 1)) (CX I c)))) Q)
          -∗ wp frame (wpE (defs₀ (F := F)) 𝒱₀ (c : Thread nD τ) none) Set.univ
              (st6 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 (WO I c) (rT (QQ I c) (colK I c) 1 7) (rB (QQ I c) (colK I c) 1 7) (k0_pay194 (box (rWt 1 7) (wT (QQ I c) (colK I c))) (box (rV 1 7) (colV I c))) (k0_pay195 (box (rWb 1 7) (wB (QQ I c) (colK I c)))) κ) Q) := by
  iintro ⟨Hv, ⟨%f, %hf, Hc⟩, ⟨%g, Ha⟩⟩ Hκ
  unfold st6
  sl_exec
  have hC : cM.view.writes (Elt F) f (st6_spec.sl.Hc_2 I c) = CX I c := (Agree.step (L := []) 1 7 rfl hf).all
  have h0 : box (rC 0 (c + 1)) f = box (rC 0 (c + 1)) (CX I c) := funext fun x => hf _ (by
    have l0 : (x 0).val = 0 := by have := (x 0).isLt; simp at this; omega
    have l2 : (x 2).val < 512 := (x 2).isLt
    have e0 : ((rC 0 (c + 1)).emb x 0).val = (x 0).val := by show 0 + 1 * (x 0).val = _; omega
    have e2 : ((rC 0 (c + 1)).emb x 2).val = (x 2).val := by show 0 + 1 * (x 2).val = _; omega
    rw [e0, e2]; omega)
  have e1 : st6_spec.sl.v955 I c f = prj (CX I c) (WO I c) (c + 1) 0 := by
    show k0_pay198 (WO I c) (cM.view.readAt (Elt F) (Rect.unit (s := S2x512x512) (k0_off1 c 1#32) S1x128x512.size (k0_off1_inb c 0)).toLoadRect f) = _
    rw [read_c 0 (c + 1) (off1_1 c), h0]; rfl
  have e2 : st6_spec.sl.v960 I c f = k0_pay199 (WO I c) (box (rC 1 (c + 1)) (CX I c)) := by
    show k0_pay199 (WO I c) (cM.view.readAt (Elt F) (Rect.unit (s := S2x512x512) (k0_off3 c 1#32) S1x128x512.size (k0_off3_inb c 0)).toLoadRect (cM.view.writes (Elt F) f (st6_spec.sl.Hc_2 I c))) = _
    rw [hC, read_c 1 (c + 1) (off3_1 c)]
  unfold st6_spec.sl.Ha_w1
  rw [hC, e1, e2]
  iapply Hκ
  isplitl [Hv]; · iexact Hv
  isplitl [Hc]; · iexact Hc
  iexists _
  isplitr [Ha]
  · ipureintro; exact half_of I c (c + 1) (ne1 c) (off2_1 c) (p := k0_off2_inb c 0) rfl g
  · iexact Ha

set_option maxHeartbeats 4000000 in
theorem st7_spec (K : GSem nD τ sig → ℕ) (c : Dev nD) (v2 v : BitVec 32)
    {R : Type} {κ : _} {Q : R → sProp 𝕄} :
    iprop(allInv I K ∗ ownR c ∗ reached ER (dc (c + 1) 15) 0 ∗ pt c cM (CX I c) ∗ (∃ f, ⌜Half I c (c + 1) f⌝ ∗ pv c (aS (c + 1)) fullShare f) ∗ (∃ f, pv c (aS (c + 2)) fullShare f) ∗ (∃ f, pv (c + 1) (rsS 0) fullShare f)
      ∗ tk c 12 ∗ tk (c + 1) 15 ∗ ow c (ORS1 c))
      ⊢ iprop(((pt c cM (CX I c) ∗ pv c (aS (c + 2)) fullShare (ARF I c) ∗ cr c 12 ∗ ow c (ORS2 c)) -∗
            wp frame (wpE (defs₀ (F := F)) 𝒱₀ (c : Thread nD τ) none) Set.univ
              (κ (Scalar.remsi (Scalar.addi v2 2#32) 4#32)) Q)
          -∗ wp frame (wpE (defs₀ (F := F)) 𝒱₀ (c : Thread nD τ) none) Set.univ
              (st7 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 (WO I c) v (k0_pay199 (WO I c) (box (rC 1 (c + 1)) (CX I c))) κ) Q) := by
  iintro ⟨#HI, #HR, #Hr, Hc, ⟨%g, %hg, Ha⟩, ⟨%f, Hb⟩, ⟨%fd, Hd⟩, Ht, Ht', HO⟩ Hκ
  unfold st7
  sl_exec
  ihave Ha := (full_of I c (c + 1) (ne1 c) (off4_1 c) (p := k0_off4_inb c 0) rfl g hg) $$ [Ha]
  · iexact Ha
  iapply (send_step' I K c (c + 1) 12 15 (used_ge _ (by decide) (by decide)) (used_ge _ (by decide) (by decide)) (Fin.ext (k0_dev12_eq c)) (sem_at 3 16 0 _ _ _) (sem_at 3 19 0 _ _ _)
      (aS (c + 1)) (Memref.slice_unit_congr aM (off5_1 c) _ _ _ _) (rsS 0) (amt_R (by decide)) rfl fullShare (ARF I c) fd (pay12 I c) (land_rs I c (c + 1) 0 (frm0 c) (ne1 c) fd) (ORS2 c) rfl) $$ [Ha Hd Ht Ht' HO]
  · iframe HI HR Hr Ha Hd Ht Ht' HO
  iintro ⟨Hcr, HO⟩
  sl_exec
  have e1 : st7_spec.sl.v985 I c = prj (CX I c) (WO I c) (c + 2) 0 := by
    show k0_pay201 (WO I c) (cM.view.readAt (Elt F) (Rect.unit (s := S2x512x512) (k0_off1 c 2#32) S1x128x512.size (k0_off1_inb c 1)).toLoadRect (CX I c)) = _
    rw [read_c 0 (c + 2) (off1_2 c)]; rfl
  have e2 : st7_spec.sl.v994 I c = prj (CX I c) (WO I c) (c + 2) 1 := by
    show k0_pay202 (WO I c) (cM.view.readAt (Elt F) (Rect.unit (s := S2x512x512) (k0_off3 c 2#32) S1x128x512.size (k0_off3_inb c 1)).toLoadRect (CX I c)) = _
    rw [read_c 1 (c + 2) (off3_2 c)]; rfl
  unfold st7_spec.sl.Hb_w2 st7_spec.sl.Hb_w1
  rw [e1, e2]
  ihave Hb := (full_of I c (c + 2) (ne2 c) (off4_2 c) (p := k0_off4_inb c 1) rfl _ (half_of I c (c + 2) (ne2 c) (off2_2 c) (p := k0_off2_inb c 1) rfl f)) $$ [Hb]
  · iexact Hb
  iapply Hκ
  iframe Hc Hb Hcr HO

set_option maxHeartbeats 4000000 in
theorem st8_spec (K : GSem nD τ sig → ℕ) (c : Dev nD) (v2 v : BitVec 32)
    {R : Type} {κ : _} {Q : R → sProp 𝕄} :
    iprop(allInv I K ∗ ownR c ∗ reached ER (dc (c + 2) 16) 0 ∗ pt c cM (CX I c) ∗ pv c (aS (c + 2)) fullShare (ARF I c) ∗ (∃ f, pv c (aS (c + 3)) fullShare f) ∗ (∃ f, pv (c + 2) (rsS 1) fullShare f)
      ∗ tk c 13 ∗ tk (c + 2) 16 ∗ ow c (ORS2 c))
      ⊢ iprop(((pt c cM (CX I c) ∗ pv c (aS (c + 3)) fullShare (ARF I c) ∗ cr c 13 ∗ ow c (ORS3 c)) -∗
            wp frame (wpE (defs₀ (F := F)) 𝒱₀ (c : Thread nD τ) none) Set.univ
              (κ (Scalar.muli (Scalar.remsi (Scalar.addi v2 3#32) 4#32) 1#32) 0#32) Q)
          -∗ wp frame (wpE (defs₀ (F := F)) 𝒱₀ (c : Thread nD τ) none) Set.univ
              (st8 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 (WO I c) v κ) Q) := by
  iintro ⟨#HI, #HR, #Hr, Hc, Ha, ⟨%f, Hb⟩, ⟨%fd, Hd⟩, Ht, Ht', HO⟩ Hκ
  unfold st8
  sl_exec
  iapply (send_step' I K c (c + 2) 13 16 (used_ge _ (by decide) (by decide)) (used_ge _ (by decide) (by decide)) (Fin.ext (k0_dev13_eq c)) (sem_at 3 16 1 _ _ _) (sem_at 3 19 1 _ _ _)
      (aS (c + 2)) (Memref.slice_unit_congr aM (off5_2 c) _ _ _ _) (rsS 1) (amt_R (by decide)) rfl fullShare (ARF I c) fd (pay13 I c) (land_rs I c (c + 2) 1 (frm1 c) (ne2 c) fd) (ORS3 c) rfl) $$ [Ha Hd Ht Ht' HO]
  · iframe HI HR Hr Ha Hd Ht Ht' HO
  iintro ⟨Hcr, HO⟩
  sl_exec
  have e1 : st8_spec.sl.v1015 I c = prj (CX I c) (WO I c) (c + 3) 0 := by
    show k0_pay203 (WO I c) (cM.view.readAt (Elt F) (Rect.unit (s := S2x512x512) (k0_off1 c 3#32) S1x128x512.size (k0_off1_inb c 2)).toLoadRect (CX I c)) = _
    rw [read_c 0 (c + 3) (off1_3 c)]; rfl
  have e2 : st8_spec.sl.v1024 I c = prj (CX I c) (WO I c) (c + 3) 1 := by
    show k0_pay204 (WO I c) (cM.view.readAt (Elt F) (Rect.unit (s := S2x512x512) (k0_off3 c 3#32) S1x128x512.size (k0_off3_inb c 2)).toLoadRect (CX I c)) = _
    rw [read_c 1 (c + 3) (off3_3 c)]; rfl
  unfold st8_spec.sl.Hb_w2 st8_spec.sl.Hb_w1
  rw [e1, e2]
  ihave Hb := (full_of I c (c + 3) (ne3 c) (off4_3 c) (p := k0_off4_inb c 2) rfl _ (half_of I c (c + 3) (ne3 c) (off2_3 c) (p := k0_off2_inb c 2) rfl f)) $$ [Hb]
  · iexact Hb
  iapply Hκ
  iframe Hc Hb Hcr HO

set_option maxHeartbeats 4000000 in
theorem st9_spec (K : GSem nD τ sig → ℕ) (c : Dev nD) (v2 v w : BitVec 32) (S : Finset (Fin 24)) (h15 : 15 ∉ S)
    {R : Type} {κ : _} {Q : R → sProp 𝕄} :
    iprop(allInv I K ∗ ownR c ∗ levAts L lv ∗ reached ER (dc (c + 3) 17) 0 ∗ pt c cM (CX I c) ∗ pv c (aS (c + 3)) fullShare (ARF I c) ∗ (∃ f, pv (c + 3) (rsS 2) fullShare f)
      ∗ tk c 14 ∗ tk (c + 3) 17 ∗ posns c S ∗ cr c 15 ∗ ow c (ORS3 c))
      ⊢ iprop(((pt c cM (CX I c) ∗ cr c 14 ∗ posns c (insert 15 S) ∗ pv c (rsS 0) fullShare (RSF I c) ∗ ow c (OAG1 c)) -∗
            wp frame (wpE (defs₀ (F := F)) 𝒱₀ (c : Thread nD τ) none) Set.univ
              (κ (Scalar.muli v2 128#32) (own (CX I c) (WO I c) c) (asSlot (PR I (c + 3) c))) Q)
          -∗ wp frame (wpE (defs₀ (F := F)) 𝒱₀ (c : Thread nD τ) none) Set.univ
              (st9 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 (WO I c) v w κ) Q) := by
  iintro ⟨#HI, #HR, #Hlev, #Hr, Hc, Ha, ⟨%fd, Hd⟩, Ht, Ht', Hp, H15, HO⟩ Hκ
  unfold st9
  sl_exec
  iapply (send_step' I K c (c + 3) 14 17 (used_ge _ (by decide) (by decide)) (used_ge _ (by decide) (by decide)) (Fin.ext (k0_dev14_eq c)) (sem_at 3 16 2 _ _ _) (sem_at 3 19 2 _ _ _)
      (aS (c + 3)) (Memref.slice_unit_congr aM (off5_3 c) _ _ _ _) (rsS 2) (amt_R (by decide)) rfl fullShare (ARF I c) fd (pay14 I c) (land_rs I c (c + 3) 2 (frm2 c) (ne3 c) fd) (OAG1 c) rfl) $$ [Ha Hd Ht Ht' HO]
  · iframe HI HR Hr Ha Hd Ht Ht' HO
  iintro ⟨Hcr, HO⟩
  sl_exec
  iapply (wait_step I K c 15 (used_ge _ (by decide) (by decide)) (sem_at 3 19 0 _ _ _) (rsS 0) (rsS 0) (amt_R (by decide)) (S := S) h15 (above_OAG1 c)) $$ [Hp H15 HO]
  · iframe HI Hlev Hp HO H15
  iintro ⟨HO, Hp, H15⟩
  iapply (rs_load c 0 (RSF I c) rfl) $$ [H15]
  · iapply (unpay15 I c) $$ H15
  iintro H15
  rw [box_RSF]
  first | sl_exec | (rw [ret_bnd]; sl_exec)
  have ho : st9_spec.sl.v1045 I c = own (CX I c) (WO I c) c := by
    show k0_pay205 (WO I c) (cM.view.readAt (Elt F) (Rect.unit (s := S2x512x512) (k0_off6 c) S1x128x512.size (k0_off6_inb c)).toLoadRect (CX I c))
      (cM.view.readAt (Elt F) (Rect.unit (s := S2x512x512) (k0_off7 c) S1x128x512.size (k0_off7_inb c)).toLoadRect (CX I c)) = _
    rw [read_c 0 c (off6_ c), read_c 1 c (off7_ c)]; rfl
  rw [ho]
  iapply Hκ
  iframe Hc Hcr Hp H15 HO

set_option maxHeartbeats 4000000 in
theorem st10_spec (K : GSem nD τ sig → ℕ) (c : Dev nD) (o : FVec F S2x128x768 .f32) (s : S2x128x768.Idx → Elt F .bf16) (S : Finset (Fin 24)) (h16 : 16 ∉ S) (h17 : 17 ∉ S)
    {R : Type} {κ : _} {Q : R → sProp 𝕄} :
    iprop(allInv I K ∗ levAts L lv ∗ posns c S ∗ cr c 16 ∗ cr c 17 ∗ ow c (OAG1 c))
      ⊢ iprop(((posns c (insert 17 (insert 16 S)) ∗ pv c (rsS 1) fullShare (RSF I c) ∗ pv c (rsS 2) fullShare (RSF I c) ∗ ow c (OAG1 c)) -∗
            wp frame (wpE (defs₀ (F := F)) 𝒱₀ (c : Thread nD τ) none) Set.univ
              (κ (k0_pay206 o (asSlot s) (asSlot (PR I (c + 2) c))) (asSlot (PR I (c + 1) c))) Q)
          -∗ wp frame (wpE (defs₀ (F := F)) 𝒱₀ (c : Thread nD τ) none) Set.univ
              (st10 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                o (asSlot s) κ) Q) := by
  iintro ⟨#HI, #Hlev, Hp, H16, H17, HO⟩ Hκ
  unfold st10
  sl_exec
  iapply (wait_step I K c 16 (used_ge _ (by decide) (by decide)) (sem_at 3 19 1 _ _ _) (rsS 1) (rsS 1) (amt_R (by decide)) (S := S) h16 (above_OAG1 c)) $$ [Hp H16 HO]
  · iframe HI Hlev Hp HO H16
  iintro ⟨HO, Hp, H16⟩
  iapply (rs_load c 1 (RSF I c) rfl) $$ [H16]
  · iapply (unpay16 I c) $$ H16
  iintro H16
  rw [box_RSF]
  first | sl_exec | (rw [ret_bnd]; sl_exec)
  iapply (wait_step I K c 17 (used_ge _ (by decide) (by decide)) (sem_at 3 19 2 _ _ _) (rsS 2) (rsS 2) (amt_R (by decide)) (S := insert 16 S) (by simp [h17]) (above_OAG1 c)) $$ [Hp H17 HO]
  · iframe HI Hlev Hp HO H17
  iintro ⟨HO, Hp, H17⟩
  iapply (rs_load c 2 (RSF I c) rfl) $$ [H17]
  · iapply (unpay17 I c) $$ H17
  iintro H17
  rw [box_RSF]
  first | sl_exec | (rw [ret_bnd]; sl_exec)
  iapply Hκ
  iframe Hp H16 H17 HO

set_option maxHeartbeats 4000000 in
theorem st11_spec (K : GSem nD τ sig → ℕ) (c : Dev nD) (v2 v : BitVec 32)
    {R : Type} {κ : _} {Q : R → sProp 𝕄} :
    iprop(allInv I K ∗ ownR c ∗ reached ER (dc (c + 1) 21) 0 ∗ reached ER (dc (c + 2) 22) 0 ∗ (∃ f, pv c (aS c) fullShare f) ∗ (∃ f, pv (c + 1) (agS 0) fullShare f) ∗ (∃ f, pv (c + 2) (agS 1) fullShare f)
      ∗ tk c 18 ∗ tk (c + 1) 21 ∗ tk c 19 ∗ tk (c + 2) 22 ∗ ow c (OAG1 c))
      ⊢ iprop(((cr c 18 ∗ cr c 19 ∗ pv c (aS c) sh2 (ARF I c) ∗ ow c (OAG3 c)) -∗
            wp frame (wpE (defs₀ (F := F)) 𝒱₀ (c : Thread nD τ) none) Set.univ
              (κ (RD I c) 3#32) Q)
          -∗ wp frame (wpE (defs₀ (F := F)) 𝒱₀ (c : Thread nD τ) none) Set.univ
              (st11 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 v (k0_pay206 (own (CX I c) (WO I c) c) (asSlot (PR I (c + 3) c)) (asSlot (PR I (c + 2) c))) (asSlot (PR I (c + 1) c)) κ) Q) := by
  iintro ⟨#HI, #HR, #Hr1, #Hr2, ⟨%f, Ha⟩, ⟨%fd1, Hd1⟩, ⟨%fd2, Hd2⟩, Ht1, Hu1, Ht2, Hu2, HO⟩ Hκ
  unfold st11
  sl_exec
  ihave Ha := (own_of I c (off8_ c) (p := k0_off8_inb c) rfl f) $$ [Ha]
  · iexact Ha
  ihave Ha := (shares c _) $$ Ha
  icases Ha with ⟨Ha1, Ha2, Ha3⟩
  iapply (send_step' I K c (c + 1) 18 21 (used_ge _ (by decide) (by decide)) (used_ge _ (by decide) (by decide)) (Fin.ext (k0_dev15_eq c)) (sem_at 3 22 0 _ _ _) (sem_at 3 25 0 _ _ _)
      (aS c) (Memref.slice_unit_congr aM (off9_ c) _ _ _ _) (agS 0) (amt_R (by decide)) rfl sh0 (ARF I c) fd1 (Entails.of_eq rfl) (land_ag I c (c + 1) 0 (frm0 c) fd1) (OAG2 c) rfl) $$ [Ha1 Hd1 Ht1 Hu1 HO]
  · iframe HI HR Hr1 Ha1 Hd1 Ht1 Hu1 HO
  iintro ⟨Hc1, HO⟩
  sl_exec
  iapply (send_step' I K c (c + 2) 19 22 (used_ge _ (by decide) (by decide)) (used_ge _ (by decide) (by decide)) (Fin.ext (k0_dev16_eq c)) (sem_at 3 22 1 _ _ _) (sem_at 3 25 1 _ _ _)
      (aS c) (Memref.slice_unit_congr aM (off9_ c) _ _ _ _) (agS 1) (amt_R (by decide)) rfl sh1 (ARF I c) fd2 (Entails.of_eq rfl) (land_ag I c (c + 2) 1 (frm1 c) fd2) (OAG3 c) rfl) $$ [Ha2 Hd2 Ht2 Hu2 HO]
  · iframe HI HR Hr2 Ha2 Hd2 Ht2 Hu2 HO
  iintro ⟨Hc2, HO⟩
  sl_exec
  iapply Hκ
  iframe Hc1 Hc2 Ha3 HO

set_option maxHeartbeats 4000000 in
theorem st12_spec (K : GSem nD τ sig → ℕ) (c : Dev nD) (v2 v w : BitVec 32) (S : Finset (Fin 24)) (h21 : 21 ∉ S)
    {R : Type} {κ : _} {Q : R → sProp 𝕄} :
    iprop(allInv I K ∗ ownR c ∗ levAts L lv ∗ reached ER (dc (c + 3) 23) 0 ∗ pv c (aS c) sh2 (ARF I c) ∗ (∃ f, pv (c + 3) (agS 2) fullShare f) ∗ (∃ f, pt c oM f)
      ∗ tk c 20 ∗ tk (c + 3) 23 ∗ posns c S ∗ cr c 21 ∗ ow c (OAG3 c))
      ⊢ iprop(((cr c 20 ∗ posns c (insert 21 S) ∗ pv c (agS 0) fullShare (AGF I c) ∗ (∃ f, ⌜OutOn I c (insert c ∅) f⌝ ∗ pt c oM f) ∗ ow c 0) -∗
            wp frame (wpE (defs₀ (F := F)) 𝒱₀ (c : Thread nD τ) none) Set.univ
              (κ (Scalar.remsi (Scalar.addi v2 3#32) 4#32) (k0_pay209 (asSlot (RB I (c + 3))))) Q)
          -∗ wp frame (wpE (defs₀ (F := F)) 𝒱₀ (c : Thread nD τ) none) Set.univ
              (st12 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 v (RD I c) w κ) Q) := by
  iintro ⟨#HI, #HR, #Hlev, #Hr3, Ha3, ⟨%fd3, Hd3⟩, ⟨%f, Ho⟩, Ht3, Hu3, Hp, H21, HO⟩ Hκ
  unfold st12
  sl_exec
  iapply (send_step' I K c (c + 3) 20 23 (used_ge _ (by decide) (by decide)) (used_ge _ (by decide) (by decide)) (Fin.ext (k0_dev17_eq c)) (sem_at 3 22 2 _ _ _) (sem_at 3 25 2 _ _ _)
      (aS c) (Memref.slice_unit_congr aM (off9_ c) _ _ _ _) (agS 2) (amt_R (by decide)) rfl sh2 (ARF I c) fd3 (Entails.of_eq rfl) (land_ag I c (c + 3) 2 (frm2 c) fd3) 0 rfl) $$ [Ha3 Hd3 Ht3 Hu3 HO]
  · iframe HI HR Hr3 Ha3 Hd3 Ht3 Hu3 HO
  iintro ⟨Hc3, HO⟩
  sl_exec
  iapply (wait_step I K c 21 (used_ge _ (by decide) (by decide)) (sem_at 3 25 0 _ _ _) (agS 0) (agS 0) (amt_R (by decide)) (S := S) h21 (above_zero _)) $$ [Hp H21 HO]
  · iframe HI Hlev Hp HO H21
  iintro ⟨HO, Hp, H21⟩
  sl_exec
  iapply (ag_load c 0 (AGF I c) rfl) $$ [H21]
  · iapply (unpay21 I c) $$ H21
  iintro H21
  rw [box_AGF]
  first | sl_exec | (rw [ret_bnd]; sl_exec)
  have ho := OutOn.step I (S := ∅) (f := f) (L := []) c (off8_ c) (p := k0_off8_inb c) (w := RD I c) (by rw [if_pos rfl]) (fun y hy => absurd hy (Finset.notMem_empty _))
  iapply Hκ
  iframe Hc3 Hp H21 HO
  iexists _
  isplitr [Ho]
  · ipureintro; exact ho
  · iexact Ho

set_option maxHeartbeats 4000000 in
theorem st13_spec (K : GSem nD τ sig → ℕ) (c : Dev nD) (v2 v : BitVec 32) (S : Finset (Fin 24)) (h22 : 22 ∉ S)
    {R : Type} {κ : _} {Q : R → sProp 𝕄} :
    iprop(allInv I K ∗ levAts L lv ∗ (∃ f, ⌜OutOn I c (insert c ∅) f⌝ ∗ pt c oM f) ∗ posns c S ∗ cr c 22 ∗ ow c 0)
      ⊢ iprop(((posns c (insert 22 S) ∗ pv c (agS 1) fullShare (AGF I c) ∗ (∃ f, ⌜OutOn I c (insert (c + 2) (insert (c + 3) (insert c ∅))) f⌝ ∗ pt c oM f) ∗ ow c 0) -∗
            wp frame (wpE (defs₀ (F := F)) 𝒱₀ (c : Thread nD τ) none) Set.univ
              κ Q)
          -∗ wp frame (wpE (defs₀ (F := F)) 𝒱₀ (c : Thread nD τ) none) Set.univ
              (st13 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c v2 v (k0_pay209 (asSlot (RB I (c + 3)))) κ) Q) := by
  iintro ⟨#HI, #Hlev, ⟨%f, %hf, Ho⟩, Hp, H22, HO⟩ Hκ
  unfold st13
  sl_exec
  iapply (wait_step I K c 22 (used_ge _ (by decide) (by decide)) (sem_at 3 25 1 _ _ _) (agS 1) (agS 1) (amt_R (by decide)) (S := S) h22 (above_zero _)) $$ [Hp H22 HO]
  · iframe HI Hlev Hp HO H22
  iintro ⟨HO, Hp, H22⟩
  iapply (ag_load c 1 (AGF I c) rfl) $$ [H22]
  · iapply (unpay22 I c) $$ H22
  iintro H22
  rw [box_AGF]
  first | sl_exec | (rw [ret_bnd]; sl_exec)
  have h1 := OutOn.step I (f := f) (L := []) (c + 3) (off10_3 c) (p := k0_off10_inb c 2) (w := k0_pay210 (k0_pay209 (asSlot (RB I (c + 3))))) (by rw [if_neg (ne3 c)]; rfl) hf
  have h2 := OutOn.step I (f := f) (c + 2) (off10_2 c) (p := k0_off10_inb c 1) (w := k0_pay211 (asSlot (RB I (c + 2)))) (by rw [if_neg (ne2 c)]; rfl) h1
  iapply Hκ
  iframe Hp H22 HO
  iexists _
  isplitr [Ho]
  · ipureintro; exact h2
  · iexact Ho

set_option maxHeartbeats 4000000 in
theorem st15_spec (K : GSem nD τ sig → ℕ) (c : Dev nD) (S : Finset (Fin 24)) (h12 : 12 ∉ S) (h18 : 18 ∉ S) (h13 : 13 ∉ S) (h19 : 19 ∉ S)
    {R : Type} {κ : _} {Q : R → sProp 𝕄} :
    iprop(allInv I K ∗ levAts L lv ∗ posns c S ∗ cr c 12 ∗ cr c 18 ∗ cr c 13 ∗ cr c 19 ∗ ow c 0)
      ⊢ iprop(((posns c (insert 19 (insert 13 (insert 18 (insert 12 S)))) ∗ ow c 0 ∗ pay I c 12 ∗ pay I c 13 ∗ pay I c 18 ∗ pay I c 19) -∗
            wp frame (wpE (defs₀ (F := F)) 𝒱₀ (c : Thread nD τ) none) Set.univ
              κ Q)
          -∗ wp frame (wpE (defs₀ (F := F)) 𝒱₀ (c : Thread nD τ) none) Set.univ
              (st15 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                κ) Q) := by
  iintro ⟨#HI, #Hlev, Hp, H12, H18, H13, H19, HO⟩ Hκ
  unfold st15
  sl_exec
  iapply (wait_step I K c 12 (used_ge _ (by decide) (by decide)) (sem_at 3 16 0 _ _ _) (rsS 0) (rsS 0) (amt_R (by decide)) (S := S) h12 (above_zero _)) $$ [Hp H12 HO]
  · iframe HI Hlev Hp HO H12
  iintro ⟨HO, Hp, H12⟩
  sl_exec
  iapply (wait_step I K c 18 (used_ge _ (by decide) (by decide)) (sem_at 3 22 0 _ _ _) (agS 0) (agS 0) (amt_R (by decide)) (S := insert 12 S) (by simp [h18]) (above_zero _)) $$ [Hp H18 HO]
  · iframe HI Hlev Hp HO H18
  iintro ⟨HO, Hp, H18⟩
  sl_exec
  iapply (wait_step I K c 13 (used_ge _ (by decide) (by decide)) (sem_at 3 16 1 _ _ _) (rsS 1) (rsS 1) (amt_R (by decide)) (S := insert 18 (insert 12 S)) (by simp [h13]) (above_zero _)) $$ [Hp H13 HO]
  · iframe HI Hlev Hp HO H13
  iintro ⟨HO, Hp, H13⟩
  sl_exec
  iapply (wait_step I K c 19 (used_ge _ (by decide) (by decide)) (sem_at 3 22 1 _ _ _) (agS 1) (agS 1) (amt_R (by decide)) (S := insert 13 (insert 18 (insert 12 S))) (by simp [h19]) (above_zero _)) $$ [Hp H19 HO]
  · iframe HI Hlev Hp HO H19
  iintro ⟨HO, Hp, H19⟩
  sl_exec

  iapply Hκ
  iframe Hp HO H12 H13 H18 H19

end Cert.KernelIdeal.Attn
-- ==== Proof.AttnIdeal.Device.lean ====
/- The stages that depend on the device: the receipt of K and its relay, of V, and the last waits. -/
module

public import proofs.«01_k».proof.Proof.AttnIdeal.Reduce

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

theorem dev_cases (c : Dev nD) : c = 0 ∨ c = 1 ∨ c = 2 ∨ c = 3 := by revert c; decide

/-- The device's number as the body computes it. -/
abbrev vv (c : Dev nD) : BitVec 32 := Scalar.remsi (Scalar.divsi (Dev.word c) 1#32) 4#32

/-! ## The last waits -/

/-- The credits of the scatter's and the relay's sends, what they bring back, and the cells waited for. -/
def D14 (c : Dev nD) : sProp 𝕄 :=
  if c = 0 then iprop(cr 0 2 ∗ cr 0 3 ∗ cr 0 4 ∗ cr 0 5 ∗ cr 0 6 ∗ cr 0 7) else if c = 2 then iprop(emp) else cr c 10
def E14 (c : Dev nD) : sProp 𝕄 :=
  if c = 0 then iprop(pay I 0 2 ∗ pay I 0 3 ∗ pay I 0 4 ∗ pay I 0 5 ∗ pay I 0 6 ∗ pay I 0 7) else if c = 2 then iprop(emp) else pay I c 10
def S14 (c : Dev nD) (S : Finset (Fin 24)) : Finset (Fin 24) :=
  if c = 0 then insert 7 (insert 6 (insert 5 (insert 4 (insert 3 (insert 2 S))))) else if c = 2 then S else insert 10 S

theorem all4 (c d : Dev nD) : d ∈ insert (c + 1) (insert (c + 2) (insert (c + 3) (insert c (∅ : Finset (Dev nD))))) := by revert c d; decide
theorem D14_0 : (D14 0 : sProp 𝕄) = iprop(cr 0 2 ∗ cr 0 3 ∗ cr 0 4 ∗ cr 0 5 ∗ cr 0 6 ∗ cr 0 7) := if_pos rfl
theorem D14_1 : (D14 1 : sProp 𝕄) = cr 1 10 := (if_neg (by decide)).trans (if_neg (by decide))
theorem D14_2 : (D14 2 : sProp 𝕄) = iprop(emp) := (if_neg (by decide)).trans (if_pos rfl)
theorem D14_3 : (D14 3 : sProp 𝕄) = cr 3 10 := (if_neg (by decide)).trans (if_neg (by decide))
theorem E14_0 : (E14 I 0 : sProp 𝕄) = iprop(pay I 0 2 ∗ pay I 0 3 ∗ pay I 0 4 ∗ pay I 0 5 ∗ pay I 0 6 ∗ pay I 0 7) := if_pos rfl
theorem E14_1 : (E14 I 1 : sProp 𝕄) = pay I 1 10 := (if_neg (by decide)).trans (if_neg (by decide))
theorem E14_2 : (E14 I 2 : sProp 𝕄) = iprop(emp) := (if_neg (by decide)).trans (if_pos rfl)
theorem E14_3 : (E14 I 3 : sProp 𝕄) = pay I 3 10 := (if_neg (by decide)).trans (if_neg (by decide))
theorem S14_0 (S : Finset (Fin 24)) : S14 0 S = insert 7 (insert 6 (insert 5 (insert 4 (insert 3 (insert 2 S))))) := if_pos rfl
theorem S14_1 (S : Finset (Fin 24)) : S14 1 S = insert 10 S := (if_neg (by decide)).trans (if_neg (by decide))
theorem S14_2 (S : Finset (Fin 24)) : S14 2 S = S := (if_neg (by decide)).trans (if_pos rfl)
theorem S14_3 (S : Finset (Fin 24)) : S14 3 S = insert 10 S := (if_neg (by decide)).trans (if_neg (by decide))

/-! ## The values' arrival -/

/-- The cell a device's values, or keys, arrive on: device 0 copies its own, the others receive theirs. -/
def jV (c : Dev nD) : Fin 24 := if c = 0 then 1 else 9
def jK (c : Dev nD) : Fin 24 := if c = 0 then 0 else 8

/-- What a device's own copy brings back beside the block. -/
def E4 (c : Dev nD) : sProp 𝕄 := if c = 0 then pv 0 (vgS 0) fullShare (I.vg 0) else iprop(emp)
theorem E4_0 : (E4 I 0 : sProp 𝕄) = pv 0 (vgS 0) fullShare (I.vg 0) := if_pos rfl
theorem E4_n (c : Dev nD) (h : c ≠ 0) : (E4 I c : sProp 𝕄) = iprop(emp) := if_neg h

theorem unpay1 : (pay I 0 (1 : Fin 24).val : sProp 𝕄) ⊢ iprop(pt 0 vM (colV I 0) ∗ pv 0 (vgS 0) fullShare (I.vg 0)) := Entails.of_eq rfl
theorem unpay0 : (pay I 0 (0 : Fin 24).val : sProp 𝕄) ⊢ iprop(pt 0 kM (colK I 0) ∗ pv 0 (kgS 0) fullShare (I.kg 0)) := Entails.of_eq rfl
theorem unpay9 (c : Dev nD) : (pay I c (9 : Fin 24).val : sProp 𝕄) ⊢ pt c vM (colV I c) := Entails.of_eq rfl
theorem unpay8 (c : Dev nD) : (pay I c (8 : Fin 24).val : sProp 𝕄) ⊢ pt c kM (colK I c) := Entails.of_eq rfl
theorem unpay11_1 : (pay I 1 (11 : Fin 24).val : sProp 𝕄) ⊢ pv 1 yM fullShare (colK I 2) := Entails.of_eq (pv_whole 1 cc0_scratch2 (colK I 2)).symm
theorem unpay11_3 : (pay I 3 (11 : Fin 24).val : sProp 𝕄) ⊢ pv 3 yM fullShare (colV I 2) := Entails.of_eq (pv_whole 3 cc0_scratch2 (colV I 2)).symm

/-! ## The relay and the keys' arrival -/

def D2 (c : Dev nD) : sProp 𝕄 :=
  if c = 1 then iprop(cr 1 11 ∗ tk 1 10 ∗ tk 2 8 ∗ (∃ f, pt 2 kM f) ∗ reached ER (dc 2 8) 0)
  else if c = 3 then iprop(cr 3 11 ∗ tk 3 10 ∗ tk 2 9 ∗ (∃ f, pt 2 vM f) ∗ reached ER (dc 2 9) 0) else iprop(emp)
def E2 (c : Dev nD) : sProp 𝕄 :=
  if c = 0 then pv 0 (kgS 0) fullShare (I.kg 0) else if c = 2 then iprop(emp) else cr c 10
def S2 (c : Dev nD) (S : Finset (Fin 24)) : Finset (Fin 24) := if c = 1 ∨ c = 3 then insert 11 S else S
theorem D2_1 : (D2 1 : sProp 𝕄) = iprop(cr 1 11 ∗ tk 1 10 ∗ tk 2 8 ∗ (∃ f, pt 2 kM f) ∗ reached ER (dc 2 8) 0) := if_pos rfl
theorem D2_3 : (D2 3 : sProp 𝕄) = iprop(cr 3 11 ∗ tk 3 10 ∗ tk 2 9 ∗ (∃ f, pt 2 vM f) ∗ reached ER (dc 2 9) 0) := (if_neg (by decide)).trans (if_pos rfl)
theorem D2_0 : (D2 0 : sProp 𝕄) = iprop(emp) := (if_neg (by decide)).trans (if_neg (by decide))
theorem D2_2 : (D2 2 : sProp 𝕄) = iprop(emp) := (if_neg (by decide)).trans (if_neg (by decide))
theorem E2_0 : (E2 I 0 : sProp 𝕄) = pv 0 (kgS 0) fullShare (I.kg 0) := if_pos rfl
theorem E2_1 : (E2 I 1 : sProp 𝕄) = cr 1 10 := (if_neg (by decide)).trans (if_neg (by decide))
theorem E2_2 : (E2 I 2 : sProp 𝕄) = iprop(emp) := (if_neg (by decide)).trans (if_pos rfl)
theorem E2_3 : (E2 I 3 : sProp 𝕄) = cr 3 10 := (if_neg (by decide)).trans (if_neg (by decide))
theorem S2_0 (S : Finset (Fin 24)) : S2 0 S = S := if_neg (by decide)
theorem S2_1 (S : Finset (Fin 24)) : S2 1 S = insert 11 S := if_pos (by decide)
theorem S2_2 (S : Finset (Fin 24)) : S2 2 S = S := if_neg (by decide)
theorem S2_3 (S : Finset (Fin 24)) : S2 3 S = insert 11 S := if_pos (by decide)
theorem OREL_0 : OREL 0 = ORS1 0 := by unfold OREL; rw [if_neg (by decide), if_neg (by decide), add_zero]
theorem OREL_1 : OREL 1 = ORS1 1 + own1 2 8 := by unfold OREL; rw [if_pos rfl]
theorem OREL_2 : OREL 2 = ORS1 2 := by unfold OREL; rw [if_neg (by decide), if_neg (by decide), add_zero]
theorem OREL_3 : OREL 3 = ORS1 3 + own1 2 9 := by unfold OREL; rw [if_neg (by decide), if_pos rfl]
theorem pay10_1 (f : Buf (Elt F) (yM.view.loc ((1 : Dev nD) : Thread nD τ))) : (pv 1 yM fullShare f : sProp 𝕄) ⊢ pay I 1 (10 : Fin 24).val := by
  rw [pv_whole]; show _ ⊢ iprop(∃ f, pt 1 yM f); iintro H; iexists _; iexact H
theorem pay10_3 (f : Buf (Elt F) (yM.view.loc ((3 : Dev nD) : Thread nD τ))) : (pv 3 yM fullShare f : sProp 𝕄) ⊢ pay I 3 (10 : Fin 24).val := by
  rw [pv_whole]; show _ ⊢ iprop(∃ f, pt 3 yM f); iintro H; iexists _; iexact H

set_option maxHeartbeats 4000000 in
theorem st2_spec (K : GSem nD τ sig → ℕ) (c : Dev nD) (S : Finset (Fin 24)) (hj : jK c ∉ S) (h11 : 11 ∉ S)
    {R : Type} {κ : _} {Q : R → sProp 𝕄} :
    iprop(allInv I K ∗ ownR c ∗ levAts L lv ∗ posns c S ∗ D2 c ∗ cr c (jK c) ∗ ow c (OREL c))
      ⊢ iprop(((pt c kM (colK I c) ∗ E2 I c ∗ posns c (insert (jK c) (S2 c S)) ∗ ow c (ORS1 c)) -∗
            wp frame (wpE (defs₀ (F := F)) 𝒱₀ (c : Thread nD τ) none) Set.univ
              (κ mT mB (k0_pay13 (QQ I c 0)) (kh (colK I c) 0 0)) Q)
          -∗ wp frame (wpE (defs₀ (F := F)) 𝒱₀ (c : Thread nD τ) none) Set.univ
              (st2 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c (vv c) (QQ I c 0) k0_pay6 (iota .tc S512x512 32 [1] iota_S512x512_d1_w32) 64#32 k0_pay7 k0_pay8 k0_pay9 κ) Q) := by
  iintro ⟨#HI, #HR, #Hlev, Hp, HD, Hcr, HO⟩ Hκ
  unfold st2
  obtain rfl | rfl | rfl | rfl := dev_cases c
  · rw [E2_0, S2_0, OREL_0]
    sl_exec
    iapply (wait_step I K 0 0 (by decide) (sem_at 2 4 0 _ _ _) (kgS 0) kM (amt_K (by decide)) (S := S) hj ((above_ORS1 _).mono (by decide))) $$ [Hp Hcr HO]
    · iframe HI Hlev Hp HO Hcr
    iintro ⟨HO, Hp, Hcr⟩
    ihave Hcr := (unpay0 I) $$ Hcr
    icases Hcr with ⟨Hk, Hg⟩
    sl_exec
    iapply Hκ
    iframe Hk Hg Hp HO
  · rw [E2_1, S2_1, OREL_1]
    ihave HD := (Entails.of_eq D2_1) $$ HD
    icases HD with ⟨H11, Ht, Ht', ⟨%fd, Hd⟩, #Hr⟩
    sl_exec
    iapply (wait_step I K 1 11 (by decide) (sem_at 1 15 0 _ _ _) yM yM (amt_K (by decide)) (S := S) h11 (OREL_1 ▸ above_OREL 1)) $$ [Hp H11 HO]
    · iframe HI Hlev Hp HO H11
    iintro ⟨HO, Hp, H11⟩
    sl_exec
    ihave H11 := (unpay11_1 I) $$ H11
    ihave Hd := (Entails.of_eq (pv_whole 2 kM.view.ref fd).symm) $$ [Hd]
    · iexact Hd
    iapply (send_step I K 1 2 10 8 (by decide) (by decide) (Fin.ext (show k0_dev10 = 2 from k0_dev10_eq)) (sem_at 1 14 0 _ _ _) (sem_at 2 12 0 _ _ _) yM kM (amt_K (by decide)) rfl
      fullShare (colK I 2) fd (pay10_1 I _) (land_yk 2 (colK I 2) fd) (ORS1 1) rfl) $$ [H11 Hd Ht Ht' HO]
    · iframe HI HR Hr H11 Hd Ht Ht' HO
    iintro ⟨H10, HO⟩
    sl_exec
    iapply (wait_step I K 1 8 (by decide) (sem_at 2 12 0 _ _ _) kM kM (amt_K (by decide)) (S := (insert 11 S)) (by simp; exact hj) ((above_ORS1 _).mono (by decide))) $$ [Hp Hcr HO]
    · iframe HI Hlev Hp HO Hcr
    iintro ⟨HO, Hp, Hcr⟩
    ihave Hk := (unpay8 I 1) $$ Hcr
    sl_exec
    iapply Hκ
    iframe Hk Hp HO H10
  · rw [E2_2, S2_2, OREL_2]
    sl_exec
    iapply (wait_step I K 2 8 (by decide) (sem_at 2 12 0 _ _ _) kM kM (amt_K (by decide)) (S := (S)) hj ((above_ORS1 _).mono (by decide))) $$ [Hp Hcr HO]
    · iframe HI Hlev Hp HO Hcr
    iintro ⟨HO, Hp, Hcr⟩
    ihave Hk := (unpay8 I 2) $$ Hcr
    sl_exec
    iapply Hκ
    iframe Hk Hp HO
  · rw [E2_3, S2_3, OREL_3]
    ihave HD := (Entails.of_eq D2_3) $$ HD
    icases HD with ⟨H11, Ht, Ht', ⟨%fd, Hd⟩, #Hr⟩
    sl_exec
    iapply (wait_step I K 3 11 (by decide) (sem_at 1 15 0 _ _ _) yM yM (amt_K (by decide)) (S := S) h11 (OREL_3 ▸ above_OREL 3)) $$ [Hp H11 HO]
    · iframe HI Hlev Hp HO H11
    iintro ⟨HO, Hp, H11⟩
    sl_exec
    ihave H11 := (unpay11_3 I) $$ H11
    ihave Hd := (Entails.of_eq (pv_whole 2 vM.view.ref fd).symm) $$ [Hd]
    · iexact Hd
    iapply (send_step I K 3 2 10 9 (by decide) (by decide) (Fin.ext (show k0_dev11 = 2 from k0_dev11_eq)) (sem_at 1 14 0 _ _ _) (sem_at 2 12 1 _ _ _) yM vM (amt_K (by decide)) rfl
      fullShare (colV I 2) fd (pay10_3 I _) (land_yv 2 (colV I 2) fd) (ORS1 3) rfl) $$ [H11 Hd Ht Ht' HO]
    · iframe HI HR Hr H11 Hd Ht Ht' HO
    iintro ⟨H10, HO⟩
    sl_exec
    iapply (wait_step I K 3 8 (by decide) (sem_at 2 12 0 _ _ _) kM kM (amt_K (by decide)) (S := (insert 11 S)) (by simp; exact hj) ((above_ORS1 _).mono (by decide))) $$ [Hp Hcr HO]
    · iframe HI Hlev Hp HO Hcr
    iintro ⟨HO, Hp, Hcr⟩
    ihave Hk := (unpay8 I 3) $$ Hcr
    sl_exec
    iapply Hκ
    iframe Hk Hp HO H10

set_option maxHeartbeats 4000000 in
theorem st4_spec (K : GSem nD τ sig → ℕ) (c : Dev nD) (S : Finset (Fin 24)) (hj : jV c ∉ S)
    {R : Type} {κ : _} {Q : R → sProp 𝕄} :
    iprop(allInv I K ∗ levAts L lv ∗ pt c wtM (wT (QQ I c) (colK I c)) ∗ pt c wbM (wB (QQ I c) (colK I c)) ∗ (∃ f, pt c cM f) ∗ posns c S ∗ cr c (jV c) ∗ ow c (ORS1 c))
      ⊢ iprop(((pt c vM (colV I c) ∗ pt c wtM (wT (QQ I c) (colK I c)) ∗ pt c wbM (wB (QQ I c) (colK I c)) ∗ (∃ f, ⌜Agree (QQ I c) (colK I c) (colV I c) 1 f⌝ ∗ pt c cM f) ∗ posns c (insert (jV c) S) ∗ E4 I c ∗ ow c (ORS1 c)) -∗
            wp frame (wpE (defs₀ (F := F)) 𝒱₀ (c : Thread nD τ) none) Set.univ
              κ Q)
          -∗ wp frame (wpE (defs₀ (F := F)) 𝒱₀ (c : Thread nD τ) none) Set.univ
              (st4 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                (vv c) (rT (QQ I c) (colK I c) 0 0) (rB (QQ I c) (colK I c) 0 0) (Scalar.cmpi .eq (vv c) 0#32) κ) Q) := by
  iintro ⟨#HI, #Hlev, Hwt, Hwb, ⟨%f, Hc⟩, Hp, HD, HO⟩ Hκ
  unfold st4
  obtain rfl | rfl | rfl | rfl := dev_cases c
  · sl_exec
    iapply (wait_step I K 0 1 (by decide) (sem_at 2 4 1 _ _ _) (vgS 0) vM (amt_K (by decide)) (S := S) hj ((above_ORS1 _).mono (by decide))) $$ [Hp HD HO]
    · iframe HI Hlev Hp HO HD
    iintro ⟨HO, Hp, HD⟩
    ihave HD := (unpay1 I) $$ HD
    icases HD with ⟨Hv, Hg⟩
    sl_exec
    rw [E4_0]
    iapply Hκ
    iframe Hv Hwt Hwb Hp HO Hg
    iexists _
    isplitr [Hc]
    · ipureintro; exact Agree.step (L := []) 0 0 rfl (f := f) (fun y hy => absurd hy (Nat.not_lt_zero _))
    · iexact Hc
  · sl_exec
    iapply (wait_step I K 1 9 (by decide) (sem_at 2 12 1 _ _ _) vM vM (amt_K (by decide)) (S := S) hj ((above_ORS1 _).mono (by decide))) $$ [Hp HD HO]
    · iframe HI Hlev Hp HO HD
    iintro ⟨HO, Hp, HD⟩
    ihave Hv := (unpay9 I 1) $$ HD
    sl_exec
    rw [E4_n I 1 (by decide)]
    iapply Hκ
    iframe Hv Hwt Hwb Hp HO
    iexists _
    isplitr [Hc]
    · ipureintro; exact Agree.step (L := []) 0 0 rfl (f := f) (fun y hy => absurd hy (Nat.not_lt_zero _))
    · iexact Hc
  · sl_exec
    iapply (wait_step I K 2 9 (by decide) (sem_at 2 12 1 _ _ _) vM vM (amt_K (by decide)) (S := S) hj ((above_ORS1 _).mono (by decide))) $$ [Hp HD HO]
    · iframe HI Hlev Hp HO HD
    iintro ⟨HO, Hp, HD⟩
    ihave Hv := (unpay9 I 2) $$ HD
    sl_exec
    rw [E4_n I 2 (by decide)]
    iapply Hκ
    iframe Hv Hwt Hwb Hp HO
    iexists _
    isplitr [Hc]
    · ipureintro; exact Agree.step (L := []) 0 0 rfl (f := f) (fun y hy => absurd hy (Nat.not_lt_zero _))
    · iexact Hc
  · sl_exec
    iapply (wait_step I K 3 9 (by decide) (sem_at 2 12 1 _ _ _) vM vM (amt_K (by decide)) (S := S) hj ((above_ORS1 _).mono (by decide))) $$ [Hp HD HO]
    · iframe HI Hlev Hp HO HD
    iintro ⟨HO, Hp, HD⟩
    ihave Hv := (unpay9 I 3) $$ HD
    sl_exec
    rw [E4_n I 3 (by decide)]
    iapply Hκ
    iframe Hv Hwt Hwb Hp HO
    iexists _
    isplitr [Hc]
    · ipureintro; exact Agree.step (L := []) 0 0 rfl (f := f) (fun y hy => absurd hy (Nat.not_lt_zero _))
    · iexact Hc

set_option maxHeartbeats 4000000 in
theorem st14_spec (K : GSem nD τ sig → ℕ) (c : Dev nD) (S : Finset (Fin 24)) (h23 : 23 ∉ S) (hS : ∀ j ∈ ({2, 3, 4, 5, 6, 7, 10} : Finset (Fin 24)), j ∉ S)
    {R : Type} {κ : _} {Q : R → sProp 𝕄} :
    iprop(allInv I K ∗ levAts L lv ∗ (∃ f, ⌜OutOn I c (insert (c + 2) (insert (c + 3) (insert c ∅))) f⌝ ∗ pt c oM f) ∗ posns c S ∗ cr c 23 ∗ D14 c ∗ ow c 0)
      ⊢ iprop(((posns c (S14 c (insert 23 S)) ∗ pv c (agS 2) fullShare (AGF I c) ∗ pt c oM (OUT I c) ∗ E14 I c ∗ ow c 0) -∗
            wp frame (wpE (defs₀ (F := F)) 𝒱₀ (c : Thread nD τ) none) Set.univ
              κ Q)
          -∗ wp frame (wpE (defs₀ (F := F)) 𝒱₀ (c : Thread nD τ) none) Set.univ
              (st14 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                c (vv c) κ) Q) := by
  iintro ⟨#HI, #Hlev, ⟨%f, %hf, Ho⟩, Hp, H23, HD, HO⟩ Hκ
  unfold st14
  sl_exec
  iapply (wait_step I K c 23 (used_ge _ (by decide) (by decide)) (sem_at 3 25 2 _ _ _) (agS 2) (agS 2) (amt_R (by decide)) (S := S) h23 (above_zero _)) $$ [Hp H23 HO]
  · iframe HI Hlev Hp HO H23
  iintro ⟨HO, Hp, H23⟩
  iapply (ag_load c 2 (AGF I c) rfl) $$ [H23]
  · iapply (unpay23 I c) $$ H23
  iintro H23
  rw [box_AGF]
  first | sl_exec | (rw [ret_bnd]; sl_exec)
  have h1 := OutOn.step I (f := f) (L := []) (c + 1) (off10_1 c) (p := k0_off10_inb c 0) (w := k0_pay212 (asSlot (RB I (c + 1)))) (by rw [if_neg (ne1 c)]; rfl) hf
  ihave Ho := (Entails.of_eq (congrArg (fun g => (pt c oM g : sProp 𝕄)) (h1.all I (all4 c)))) $$ [Ho]
  · iexact Ho
  obtain rfl | rfl | rfl | rfl := dev_cases c
  · ihave HD := (Entails.of_eq D14_0) $$ HD
    rw [E14_0, S14_0]
    icases HD with ⟨H2, H3, H4, H5, H6, H7⟩
    rw [dif_pos (show st14_spec.sl.v1172 0 = 1#1 by decide), k0_part2_eq_skeleton]
    unfold k0_part2_skel
    sl_exec
    iapply (wait_step I K 0 2 (by decide) (sem_at 6 6 0 _ _ _) kM (kgS 0) (amt_K (by decide)) (S := (insert 23 S)) (by simp [hS 2 (by decide)]) (above_zero _)) $$ [Hp H2 HO]
    · iframe HI Hlev Hp HO H2
    iintro ⟨HO, Hp, H2⟩
    sl_exec
    iapply (wait_step I K 0 3 (by decide) (sem_at 6 6 1 _ _ _) kM (kgS 0) (amt_K (by decide)) (S := (insert 2 (insert 23 S))) (by simp [hS 3 (by decide)]) (above_zero _)) $$ [Hp H3 HO]
    · iframe HI Hlev Hp HO H3
    iintro ⟨HO, Hp, H3⟩
    sl_exec
    iapply (wait_step I K 0 4 (by decide) (sem_at 6 6 2 _ _ _) kM (kgS 0) (amt_K (by decide)) (S := (insert 3 (insert 2 (insert 23 S)))) (by simp [hS 4 (by decide)]) (above_zero _)) $$ [Hp H4 HO]
    · iframe HI Hlev Hp HO H4
    iintro ⟨HO, Hp, H4⟩
    sl_exec
    iapply (wait_step I K 0 5 (by decide) (sem_at 6 6 3 _ _ _) kM (kgS 0) (amt_K (by decide)) (S := (insert 4 (insert 3 (insert 2 (insert 23 S))))) (by simp [hS 5 (by decide)]) (above_zero _)) $$ [Hp H5 HO]
    · iframe HI Hlev Hp HO H5
    iintro ⟨HO, Hp, H5⟩
    sl_exec
    iapply (wait_step I K 0 6 (by decide) (sem_at 6 6 4 _ _ _) kM (kgS 0) (amt_K (by decide)) (S := (insert 5 (insert 4 (insert 3 (insert 2 (insert 23 S)))))) (by simp [hS 6 (by decide)]) (above_zero _)) $$ [Hp H6 HO]
    · iframe HI Hlev Hp HO H6
    iintro ⟨HO, Hp, H6⟩
    sl_exec
    iapply (wait_step I K 0 7 (by decide) (sem_at 6 6 5 _ _ _) kM (kgS 0) (amt_K (by decide)) (S := (insert 6 (insert 5 (insert 4 (insert 3 (insert 2 (insert 23 S))))))) (by simp [hS 7 (by decide)]) (above_zero _)) $$ [Hp H7 HO]
    · iframe HI Hlev Hp HO H7
    iintro ⟨HO, Hp, H7⟩
    sl_exec
    iapply Hκ
    iframe Hp H23 Ho H2 H3 H4 H5 H6 H7 HO
  · ihave HD := (Entails.of_eq D14_1) $$ HD
    rw [E14_1, S14_1, dif_neg (show ¬ st14_spec.sl.v1172 1 = 1#1 by decide)]
    first | sl_exec | skip
    iapply (wait_step I K 1 10 (by decide) (sem_at 1 14 0 _ _ _) yM yM (amt_K (by decide)) (S := (insert 23 S)) (by simp [hS 10 (by decide)]) (above_zero _)) $$ [Hp HD HO]
    · iframe HI Hlev Hp HO HD
    iintro ⟨HO, Hp, HD⟩
    sl_exec
    iapply Hκ
    iframe Hp H23 Ho HD HO
  · ihave HD := (Entails.of_eq D14_2) $$ HD
    rw [E14_2, S14_2, dif_neg (show ¬ st14_spec.sl.v1172 2 = 1#1 by decide)]
    first | sl_exec | skip
    iapply Hκ
    iframe Hp H23 Ho HO
  · ihave HD := (Entails.of_eq D14_3) $$ HD
    rw [E14_3, S14_3, dif_neg (show ¬ st14_spec.sl.v1172 3 = 1#1 by decide)]
    first | sl_exec | skip
    iapply (wait_step I K 3 10 (by decide) (sem_at 1 14 0 _ _ _) yM yM (amt_K (by decide)) (S := (insert 23 S)) (by simp [hS 10 (by decide)]) (above_zero _)) $$ [Hp HD HO]
    · iframe HI Hlev Hp HO HD
    iintro ⟨HO, Hp, HD⟩
    sl_exec
    iapply Hκ
    iframe Hp H23 Ho HD HO

end Cert.KernelIdeal.Attn
-- ==== Proof.AttnIdeal.Start.lean ====
/- The opening barrier, the scatter of K and V by the device that owns the first keys, and the loads of the projections. -/
module

public import proofs.«01_k».proof.Proof.AttnIdeal.Device

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

/-! ## The barrier, the scatter, the first loads -/

def D1 (c : Dev nD) : sProp 𝕄 :=
  if c = 0 then iprop((tk 0 0 ∗ tk 0 1 ∗ tk 0 2 ∗ tk 0 3 ∗ tk 0 4 ∗ tk 0 5 ∗ tk 0 6 ∗ tk 0 7)
    ∗ (tk 1 11 ∗ tk 3 11 ∗ tk 1 8 ∗ tk 3 8 ∗ tk 1 9 ∗ tk 3 9)
    ∗ (pv 0 (kgS 0) fullShare (I.kg 0) ∗ pv 0 (kgS 1) fullShare (I.kg 0) ∗ pv 0 (kgS 2) fullShare (I.kg 0) ∗ pv 0 (kgS 3) fullShare (I.kg 0))
    ∗ (pv 0 (vgS 0) fullShare (I.vg 0) ∗ pv 0 (vgS 1) fullShare (I.vg 0) ∗ pv 0 (vgS 2) fullShare (I.vg 0) ∗ pv 0 (vgS 3) fullShare (I.vg 0))
    ∗ (∃ f, pv 0 kM fullShare f) ∗ (∃ f, pv 0 vM fullShare f))
  else iprop(emp)
def E1 (c : Dev nD) : sProp 𝕄 :=
  if c = 0 then iprop(cr 0 0 ∗ cr 0 1 ∗ cr 0 2 ∗ cr 0 3 ∗ cr 0 4 ∗ cr 0 5 ∗ cr 0 6 ∗ cr 0 7)
  else if c = 1 then iprop((∃ f, pt 2 kM f) ∗ reached ER (dc 2 8) 0)
  else if c = 3 then iprop((∃ f, pt 2 vM f) ∗ reached ER (dc 2 9) 0) else iprop(emp)
theorem D1_0 : (D1 I 0 : sProp 𝕄) = iprop((tk 0 0 ∗ tk 0 1 ∗ tk 0 2 ∗ tk 0 3 ∗ tk 0 4 ∗ tk 0 5 ∗ tk 0 6 ∗ tk 0 7)
    ∗ (tk 1 11 ∗ tk 3 11 ∗ tk 1 8 ∗ tk 3 8 ∗ tk 1 9 ∗ tk 3 9)
    ∗ (pv 0 (kgS 0) fullShare (I.kg 0) ∗ pv 0 (kgS 1) fullShare (I.kg 0) ∗ pv 0 (kgS 2) fullShare (I.kg 0) ∗ pv 0 (kgS 3) fullShare (I.kg 0))
    ∗ (pv 0 (vgS 0) fullShare (I.vg 0) ∗ pv 0 (vgS 1) fullShare (I.vg 0) ∗ pv 0 (vgS 2) fullShare (I.vg 0) ∗ pv 0 (vgS 3) fullShare (I.vg 0))
    ∗ (∃ f, pv 0 kM fullShare f) ∗ (∃ f, pv 0 vM fullShare f)) := if_pos rfl
theorem E1_0 : (E1 0 : sProp 𝕄) = iprop(cr 0 0 ∗ cr 0 1 ∗ cr 0 2 ∗ cr 0 3 ∗ cr 0 4 ∗ cr 0 5 ∗ cr 0 6 ∗ cr 0 7) := if_pos rfl
theorem E1_1 : (E1 1 : sProp 𝕄) = iprop((∃ f, pt 2 kM f) ∗ reached ER (dc 2 8) 0) := (if_neg (by decide)).trans (if_pos rfl)
theorem E1_2 : (E1 2 : sProp 𝕄) = iprop(emp) := (if_neg (by decide)).trans ((if_neg (by decide)).trans (if_neg (by decide)))
theorem E1_3 : (E1 3 : sProp 𝕄) = iprop((∃ f, pt 2 vM f) ∗ reached ER (dc 2 9) 0) := (if_neg (by decide)).trans ((if_neg (by decide)).trans (if_pos rfl))

theorem extra_01 : (extra 0 1 : sProp 𝕄) = iprop(((∃ f, pt 1 kM f) ∗ (∃ f, pt 1 vM f) ∗ (∃ f, pt 1 yM f)) ∗ reached ER (dc 1 8) 0 ∗ reached ER (dc 1 9) 0 ∗ reached ER (dc 1 11) 0) := if_pos (by decide)
theorem extra_03 : (extra 0 3 : sProp 𝕄) = iprop(((∃ f, pt 3 kM f) ∗ (∃ f, pt 3 vM f) ∗ (∃ f, pt 3 yM f)) ∗ reached ER (dc 3 8) 0 ∗ reached ER (dc 3 9) 0 ∗ reached ER (dc 3 11) 0) := if_pos (by decide)
theorem extra_12 : (extra 1 2 : sProp 𝕄) = iprop((∃ f, pt 2 kM f) ∗ reached ER (dc 2 8) 0) := (if_neg (by decide)).trans (if_pos (by decide))
theorem extra_32 : (extra 3 2 : sProp 𝕄) = iprop((∃ f, pt 2 vM f) ∗ reached ER (dc 2 9) 0) := (if_neg (by decide)).trans ((if_neg (by decide)).trans (if_pos (by decide)))
theorem OSC_0 : OSC 0 = OREL 0 + own1 3 9 + own1 1 9 + own1 3 8 + own1 1 8 + own1 3 11 + own1 1 11 := if_pos rfl
theorem OSC_n (c : Dev nD) (h : c ≠ 0) : OSC c = OREL c := if_neg h

/-- The places device `c` may write on the device at distance `o`. -/
def dest (c : Dev nD) (o : Fin 4) : sProp 𝕄 :=
  iprop((∃ f, pv (c + o) (rsS (slot o)) fullShare f) ∗ (∃ f, pv (c + o) (agS (slot o)) fullShare f)
    ∗ reached ER (dc (c + o) (rsj o)) 0 ∗ reached ER (dc (c + o) (agj o)) 0)
theorem barPay_dest (c : Dev nD) (o : Fin 4) : (barPay c o : sProp 𝕄) ⊢ iprop(dest c o ∗ extra c (c + o)) := by
  unfold barPay dest
  iintro ⟨H1, H2, H3, H4, H5⟩
  iframe H1 H2 H3 H4 H5
theorem sep_mono_l {A B C : sProp 𝕄} (h : A ⊢ B) : iprop(A ∗ C) ⊢ iprop(B ∗ C) := by
  iintro ⟨HA, HC⟩
  isplitl [HA]
  · iapply h $$ HA
  iexact HC

theorem rd_wq (p : ∀ a, (![0, 0] : Fin 2 → ℕ) a + S768x512.size a ≤ S768x512.size a) (f : S768x512.Idx → Elt F .f32) :
    wqM.view.readAt (Elt F) (Rect.unit (s := S768x512) ![0, 0] S768x512.size p).toLoadRect f = f :=
  Memref.readAt_unit_zero (Elt F) cc0_stg1_0 (off := ![0, 0]) (by funext a; revert a; exact (by decide : ∀ a : Fin 2, (![0, 0] : Fin 2 → ℕ) a = 0)) p f
theorem rd_wo (p : ∀ a, (![0, 0] : Fin 2 → ℕ) a + S512x768.size a ≤ S512x768.size a) (f : S512x768.Idx → Elt F .f32) :
    woM.view.readAt (Elt F) (Rect.unit (s := S512x768) ![0, 0] S512x768.size p).toLoadRect f = f :=
  Memref.readAt_unit_zero (Elt F) cc0_stg2_0 (off := ![0, 0]) (by funext a; revert a; exact (by decide : ∀ a : Fin 2, (![0, 0] : Fin 2 → ℕ) a = 0)) p f

set_option maxHeartbeats 4000000 in
theorem st1_spec (K : GSem nD τ sig → ℕ) (c : Dev nD)
    {R : Type} {κ : _} {Q : R → sProp 𝕄} :
    iprop(allInv I K ∗ ownR c ∗ levAts L lv ∗ reached ER (bc (c + 1)) 0 ∗ reached ER (bc (c + 2)) 0 ∗ reached ER (bc (c + 3)) 0
      ∗ dutyTok ER (bc (c + 1)) 0 3 ∗ dutyTok ER (bc (c + 2)) 0 2 ∗ dutyTok ER (bc (c + 3)) 0 1
      ∗ barPay (c + 1) 3 ∗ barPay (c + 2) 2 ∗ barPay (c + 3) 1 ∗ atPos ER (bc c) 0 ∅ 0 ∗ cred (tallyAt (bc c) () 3)
      ∗ pt c xM (I.x c) ∗ pt c wqM (I.wq c) ∗ pt c woM (I.wo c) ∗ D1 I c ∗ ow c (O₀ c))
      ⊢ iprop(((atPos ER (bc c) 1 ∅ 0 ∗ dest c 1 ∗ dest c 2 ∗ dest c 3 ∗ pt c xM (I.x c) ∗ pt c wqM (I.wq c) ∗ pt c woM (I.wo c) ∗ E1 c ∗ ow c (OREL c)) -∗
            wp frame (wpE (defs₀ (F := F)) 𝒱₀ (c : Thread nD τ) none) Set.univ
              (κ c (vv c) (QQ I c 0) (QQ I c 1) (WO I c) k0_pay6 (iota .tc S512x512 32 [1] iota_S512x512_d1_w32) 64#32 k0_pay7 k0_pay8 k0_pay9) Q)
          -∗ wp frame (wpE (defs₀ (F := F)) 𝒱₀ (c : Thread nD τ) none) Set.univ
              (st1 xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17
                κ) Q) := by
  iintro ⟨#HI, #HR, #Hlev, #Hr1, #Hr2, #Hr3, Ht1, Ht2, Ht3, Hb1, Hb2, Hb3, Hat, Hcb, Hx, Hwq, Hwo, HD, HO⟩ Hκ
  unfold st1
  sl_exec
  iapply (signal_step I K c (c + 1) 3 (by decide) (Fin.ext (k0_dev1_eq c)) (OB2 c) rfl) $$ [Ht1 Hb1 HO]
  · iframe HI Hr1 Ht1 Hb1 HO
  iintro HO
  sl_exec
  iapply (signal_step I K c (c + 2) 2 (by decide) (Fin.ext (k0_dev2_eq c)) (OB1 c) rfl) $$ [Ht2 Hb2 HO]
  · iframe HI Hr2 Ht2 Hb2 HO
  iintro HO
  sl_exec
  iapply (signal_step I K c (c + 3) 1 (by decide) (Fin.ext (k0_dev3_eq c)) (OSC c) rfl) $$ [Ht3 Hb3 HO]
  · iframe HI Hr3 Ht3 Hb3 HO
  iintro HO
  sl_exec
  iapply (barrier_step I K c (above_OSC c)) $$ [Hat Hcb HO]
  · iframe HI Hlev Hat Hcb HO
  iintro ⟨HO, Hat, Hb1, Hb2, Hb3⟩
  ihave Hb1 := (barPay_dest c 1) $$ Hb1
  icases Hb1 with ⟨Hd1, Hx1⟩
  ihave Hb2 := (barPay_dest c 2) $$ Hb2
  icases Hb2 with ⟨Hd2, Hx2⟩
  ihave Hb3 := (barPay_dest c 3) $$ Hb3
  icases Hb3 with ⟨Hd3, Hx3⟩
  obtain rfl | rfl | rfl | rfl := dev_cases c
  · ihave HD := (Entails.of_eq (D1_0 I)) $$ HD
    icases HD with ⟨⟨T0, T1, T2, T3, T4, T5, T6, T7⟩, ⟨U4, U5, U6, U7, U8, U9⟩, ⟨K0, K1, K2, K3⟩, ⟨V0, V1, V2, V3⟩, ⟨%fk, Hk⟩, ⟨%fv, Hv⟩⟩
    ihave Hx1 := (Entails.of_eq (extra_01 (F := F))) $$ [Hx1]
    · iexact Hx1
    icases Hx1 with ⟨⟨⟨%k1, P1⟩, ⟨%v1, Q1⟩, ⟨%y1, Y1⟩⟩, #R18, #R19, #R111⟩
    ihave Hx3 := (Entails.of_eq (extra_03 (F := F))) $$ [Hx3]
    · iexact Hx3
    icases Hx3 with ⟨⟨⟨%k3, P3⟩, ⟨%v3, Q3⟩, ⟨%y3, Y3⟩⟩, #R38, #R39, #R311⟩
    rw [E1_0, OSC_0]
    first | rw [dif_pos (show k0_cond1 0 = 1#1 by decide)] | skip
    rw [k0_part1_eq_skeleton]
    unfold k0_part1_skel
    sl_exec
    ihave Y1 := (Entails.of_eq (pv_whole 1 yM.view.ref y1).symm) $$ [Y1]
    · iexact Y1
    iapply (send_step I K 0 1 2 11 (by decide) (by decide) (Fin.ext (show k0_dev4 = 1 from k0_dev4_eq)) (sem_at 6 6 0 _ _ _) (sem_at 1 15 0 _ _ _) (kgS 2) yM (amt_K (by decide)) rfl
      fullShare (I.kg 0) y1 (Entails.of_eq rfl) (land_ky 1 2 (I.kg 0) y1) (OREL 0 + own1 3 9 + own1 1 9 + own1 3 8 + own1 1 8 + own1 3 11) rfl) $$ [K2 Y1 T2 U4 HO]
    · iframe HI HR R111 K2 Y1 T2 U4 HO
    iintro ⟨C2, HO⟩
    sl_exec
    ihave Y3 := (Entails.of_eq (pv_whole 3 yM.view.ref y3).symm) $$ [Y3]
    · iexact Y3
    iapply (send_step I K 0 3 3 11 (by decide) (by decide) (Fin.ext (show k0_dev5 = 3 from k0_dev5_eq)) (sem_at 6 6 1 _ _ _) (sem_at 1 15 0 _ _ _) (vgS 2) yM (amt_K (by decide)) rfl
      fullShare (I.vg 0) y3 (Entails.of_eq rfl) (land_vy 3 2 (I.vg 0) y3) (OREL 0 + own1 3 9 + own1 1 9 + own1 3 8 + own1 1 8) rfl) $$ [V2 Y3 T3 U5 HO]
    · iframe HI HR R311 V2 Y3 T3 U5 HO
    iintro ⟨C3, HO⟩
    sl_exec
    ihave P1 := (Entails.of_eq (pv_whole 1 kM.view.ref k1).symm) $$ [P1]
    · iexact P1
    iapply (send_step I K 0 1 4 8 (by decide) (by decide) (Fin.ext (show k0_dev6 = 1 from k0_dev6_eq)) (sem_at 6 6 2 _ _ _) (sem_at 2 12 0 _ _ _) (kgS 1) kM (amt_K (by decide)) rfl
      fullShare (I.kg 0) k1 (Entails.of_eq rfl) (land_kk 1 1 (I.kg 0) k1) (OREL 0 + own1 3 9 + own1 1 9 + own1 3 8) rfl) $$ [K1 P1 T4 U6 HO]
    · iframe HI HR R18 K1 P1 T4 U6 HO
    iintro ⟨C4, HO⟩
    sl_exec
    ihave P3 := (Entails.of_eq (pv_whole 3 kM.view.ref k3).symm) $$ [P3]
    · iexact P3
    iapply (send_step I K 0 3 5 8 (by decide) (by decide) (Fin.ext (show k0_dev7 = 3 from k0_dev7_eq)) (sem_at 6 6 3 _ _ _) (sem_at 2 12 0 _ _ _) (kgS 3) kM (amt_K (by decide)) rfl
      fullShare (I.kg 0) k3 (Entails.of_eq rfl) (land_kk 3 3 (I.kg 0) k3) (OREL 0 + own1 3 9 + own1 1 9) rfl) $$ [K3 P3 T5 U7 HO]
    · iframe HI HR R38 K3 P3 T5 U7 HO
    iintro ⟨C5, HO⟩
    sl_exec
    ihave Q1 := (Entails.of_eq (pv_whole 1 vM.view.ref v1).symm) $$ [Q1]
    · iexact Q1
    iapply (send_step I K 0 1 6 9 (by decide) (by decide) (Fin.ext (show k0_dev8 = 1 from k0_dev8_eq)) (sem_at 6 6 4 _ _ _) (sem_at 2 12 1 _ _ _) (vgS 1) vM (amt_K (by decide)) rfl
      fullShare (I.vg 0) v1 (Entails.of_eq rfl) (land_vv 1 1 (I.vg 0) v1) (OREL 0 + own1 3 9) rfl) $$ [V1 Q1 T6 U8 HO]
    · iframe HI HR R19 V1 Q1 T6 U8 HO
    iintro ⟨C6, HO⟩
    sl_exec
    ihave Q3 := (Entails.of_eq (pv_whole 3 vM.view.ref v3).symm) $$ [Q3]
    · iexact Q3
    iapply (send_step I K 0 3 7 9 (by decide) (by decide) (Fin.ext (show k0_dev9 = 3 from k0_dev9_eq)) (sem_at 6 6 5 _ _ _) (sem_at 2 12 1 _ _ _) (vgS 3) vM (amt_K (by decide)) rfl
      fullShare (I.vg 0) v3 (Entails.of_eq rfl) (land_vv 3 3 (I.vg 0) v3) (OREL 0) rfl) $$ [V3 Q3 T7 U9 HO]
    · iframe HI HR R39 V3 Q3 T7 U9 HO
    iintro ⟨C7, HO⟩
    sl_exec
    iapply (copy_step I K 0 0 (by decide) (sem_at 2 4 0 _ _ _) (kgS 0) kM (amt_K (by decide)) (I.kg 0) fk (sep_mono_l (land_kk 0 0 (I.kg 0) fk))) $$ [K0 Hk T0]
    · iframe HI HR K0 Hk T0
    iintro C0
    sl_exec
    iapply (copy_step I K 0 1 (by decide) (sem_at 2 4 1 _ _ _) (vgS 0) vM (amt_K (by decide)) (I.vg 0) fv (sep_mono_l (land_vv 0 0 (I.vg 0) fv))) $$ [V0 Hv T1]
    · iframe HI HR V0 Hv T1
    iintro C1
    sl_exec
    rw [show vv 0 = 0#32 by decide]
    have e0 : st1_spec.sl.v28 I = QQ I 0 0 := by
      show k0_pay3 (k0_pay1 (wqM.view.readAt (Elt F) (Rect.unit (s := S768x512) ![0, 0] S768x512.size inb_S768x512_S768x512_0_0).toLoadRect (I.wq 0))) (k0_pay2 (xM.view.readAt (Elt F) (Rect.unit (s := S2x512x768) ![0, 0, 0] S1x512x768.size inb_S2x512x768_S1x512x768_0_0_0).toLoadRect (I.x 0))) = _
      rw [rd_wq]; rfl
    have e1 : st1_spec.sl.v33 I = QQ I 0 1 := by
      show k0_pay4 (k0_pay1 (wqM.view.readAt (Elt F) (Rect.unit (s := S768x512) ![0, 0] S768x512.size inb_S768x512_S768x512_0_0).toLoadRect (I.wq 0))) (xM.view.readAt (Elt F) (Rect.unit (s := S2x512x768) ![1, 0, 0] S1x512x768.size inb_S2x512x768_S1x512x768_1_0_0).toLoadRect (I.x 0)) = _
      rw [rd_wq]; rfl
    have e2 : st1_spec.sl.v36 I = WO I 0 := by
      show k0_pay5 (woM.view.readAt (Elt F) (Rect.unit (s := S512x768) ![0, 0] S512x768.size inb_S512x768_S512x768_0_0).toLoadRect (I.wo 0)) = _
      rw [rd_wo]; rfl
    have e3 : st1_spec.sl.v61 = k0_pay6 := rfl
    have e4 : st1_spec.sl.v67 = k0_pay8 := rfl
    have e5 : divsi st1_spec.sl.v62 st1_spec.sl.v38 = k0_pay7 := rfl
    have e6 : cmpi CmpIPredicate.slt st1_spec.sl.v62 st1_spec.sl.v40 = k0_pay9 := rfl
    rw [e0, e1, e2, e3, e4, e5, e6]
    unfold st1_spec.sl.v62
    iapply  Hκ
    iframe Hat Hd1 Hd2 Hd3 Hx Hwq Hwo HO C0 C1 C2 C3 C4 C5 C6 C7
  · ihave Hx1 := (Entails.of_eq (extra_12 (F := F))) $$ [Hx1]
    · iexact Hx1
    rw [E1_1, OSC_n 1 (by decide)]
    sl_exec
    rw [show vv 1 = 1#32 by decide]
    have e0 : st1_spec.sl.v28_1 I = QQ I 1 0 := by
      show k0_pay3 (k0_pay1 (wqM.view.readAt (Elt F) (Rect.unit (s := S768x512) ![0, 0] S768x512.size inb_S768x512_S768x512_0_0).toLoadRect (I.wq 1))) (k0_pay2 (xM.view.readAt (Elt F) (Rect.unit (s := S2x512x768) ![0, 0, 0] S1x512x768.size inb_S2x512x768_S1x512x768_0_0_0).toLoadRect (I.x 1))) = _
      rw [rd_wq]; rfl
    have e1 : st1_spec.sl.v33_1 I = QQ I 1 1 := by
      show k0_pay4 (k0_pay1 (wqM.view.readAt (Elt F) (Rect.unit (s := S768x512) ![0, 0] S768x512.size inb_S768x512_S768x512_0_0).toLoadRect (I.wq 1))) (xM.view.readAt (Elt F) (Rect.unit (s := S2x512x768) ![1, 0, 0] S1x512x768.size inb_S2x512x768_S1x512x768_1_0_0).toLoadRect (I.x 1)) = _
      rw [rd_wq]; rfl
    have e2 : st1_spec.sl.v36_1 I = WO I 1 := by
      show k0_pay5 (woM.view.readAt (Elt F) (Rect.unit (s := S512x768) ![0, 0] S512x768.size inb_S512x768_S512x768_0_0).toLoadRect (I.wo 1)) = _
      rw [rd_wo]; rfl
    have e3 : st1_spec.sl.v61_1 = k0_pay6 := rfl
    have e4 : st1_spec.sl.v67_1 = k0_pay8 := rfl
    have e5 : divsi st1_spec.sl.v62_1 st1_spec.sl.v38_1 = k0_pay7 := rfl
    have e6 : cmpi CmpIPredicate.slt st1_spec.sl.v62_1 st1_spec.sl.v40_1 = k0_pay9 := rfl
    rw [e0, e1, e2, e3, e4, e5, e6]
    unfold st1_spec.sl.v62_1
    iapply  Hκ
    iframe Hat Hd1 Hd2 Hd3 Hx Hwq Hwo HO Hx1
  · rw [E1_2, OSC_n 2 (by decide)]
    sl_exec
    rw [show vv 2 = 2#32 by decide]
    have e0 : st1_spec.sl.v28_2 I = QQ I 2 0 := by
      show k0_pay3 (k0_pay1 (wqM.view.readAt (Elt F) (Rect.unit (s := S768x512) ![0, 0] S768x512.size inb_S768x512_S768x512_0_0).toLoadRect (I.wq 2))) (k0_pay2 (xM.view.readAt (Elt F) (Rect.unit (s := S2x512x768) ![0, 0, 0] S1x512x768.size inb_S2x512x768_S1x512x768_0_0_0).toLoadRect (I.x 2))) = _
      rw [rd_wq]; rfl
    have e1 : st1_spec.sl.v33_2 I = QQ I 2 1 := by
      show k0_pay4 (k0_pay1 (wqM.view.readAt (Elt F) (Rect.unit (s := S768x512) ![0, 0] S768x512.size inb_S768x512_S768x512_0_0).toLoadRect (I.wq 2))) (xM.view.readAt (Elt F) (Rect.unit (s := S2x512x768) ![1, 0, 0] S1x512x768.size inb_S2x512x768_S1x512x768_1_0_0).toLoadRect (I.x 2)) = _
      rw [rd_wq]; rfl
    have e2 : st1_spec.sl.v36_2 I = WO I 2 := by
      show k0_pay5 (woM.view.readAt (Elt F) (Rect.unit (s := S512x768) ![0, 0] S512x768.size inb_S512x768_S512x768_0_0).toLoadRect (I.wo 2)) = _
      rw [rd_wo]; rfl
    have e3 : st1_spec.sl.v61_2 = k0_pay6 := rfl
    have e4 : st1_spec.sl.v67_2 = k0_pay8 := rfl
    have e5 : divsi st1_spec.sl.v62_2 st1_spec.sl.v38_2 = k0_pay7 := rfl
    have e6 : cmpi CmpIPredicate.slt st1_spec.sl.v62_2 st1_spec.sl.v40_2 = k0_pay9 := rfl
    rw [e0, e1, e2, e3, e4, e5, e6]
    unfold st1_spec.sl.v62_2
    iapply  Hκ
    iframe Hat Hd1 Hd2 Hd3 Hx Hwq Hwo HO
  · ihave Hx3 := (Entails.of_eq (extra_32 (F := F))) $$ [Hx3]
    · iexact Hx3
    rw [E1_3, OSC_n 3 (by decide)]
    sl_exec
    rw [show vv 3 = 3#32 by decide]
    have e0 : st1_spec.sl.v28_3 I = QQ I 3 0 := by
      show k0_pay3 (k0_pay1 (wqM.view.readAt (Elt F) (Rect.unit (s := S768x512) ![0, 0] S768x512.size inb_S768x512_S768x512_0_0).toLoadRect (I.wq 3))) (k0_pay2 (xM.view.readAt (Elt F) (Rect.unit (s := S2x512x768) ![0, 0, 0] S1x512x768.size inb_S2x512x768_S1x512x768_0_0_0).toLoadRect (I.x 3))) = _
      rw [rd_wq]; rfl
    have e1 : st1_spec.sl.v33_3 I = QQ I 3 1 := by
      show k0_pay4 (k0_pay1 (wqM.view.readAt (Elt F) (Rect.unit (s := S768x512) ![0, 0] S768x512.size inb_S768x512_S768x512_0_0).toLoadRect (I.wq 3))) (xM.view.readAt (Elt F) (Rect.unit (s := S2x512x768) ![1, 0, 0] S1x512x768.size inb_S2x512x768_S1x512x768_1_0_0).toLoadRect (I.x 3)) = _
      rw [rd_wq]; rfl
    have e2 : st1_spec.sl.v36_3 I = WO I 3 := by
      show k0_pay5 (woM.view.readAt (Elt F) (Rect.unit (s := S512x768) ![0, 0] S512x768.size inb_S512x768_S512x768_0_0).toLoadRect (I.wo 3)) = _
      rw [rd_wo]; rfl
    have e3 : st1_spec.sl.v61_3 = k0_pay6 := rfl
    have e4 : st1_spec.sl.v67_3 = k0_pay8 := rfl
    have e5 : divsi st1_spec.sl.v62_3 st1_spec.sl.v38_3 = k0_pay7 := rfl
    have e6 : cmpi CmpIPredicate.slt st1_spec.sl.v62_3 st1_spec.sl.v40_3 = k0_pay9 := rfl
    rw [e0, e1, e2, e3, e4, e5, e6]
    unfold st1_spec.sl.v62_3
    iapply  Hκ
    iframe Hat Hd1 Hd2 Hd3 Hx Hwq Hwo HO Hx3

end Cert.KernelIdeal.Attn
-- ==== Proof.AttnIdeal.Glue.lean ====
/- What a device hands over, keeps and gets back, by device. -/
module

public import proofs.«01_k».proof.Proof.AttnIdeal.Start

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

theorem add13 (c : Dev nD) : c + 1 + 3 = c := by revert c; decide
theorem add22 (c : Dev nD) : c + 2 + 2 = c := by revert c; decide
theorem add31 (c : Dev nD) : c + 3 + 1 = c := by revert c; decide

/-! ## What depends on the device -/

/-- The duties of the scatter and of the relay. -/
def TD (c : Dev nD) : sProp 𝕄 :=
  if c = 0 then iprop((tk 0 0 ∗ tk 0 1 ∗ tk 0 2 ∗ tk 0 3 ∗ tk 0 4 ∗ tk 0 5 ∗ tk 0 6 ∗ tk 0 7) ∗ (tk 1 11 ∗ tk 3 11 ∗ tk 1 8 ∗ tk 3 8 ∗ tk 1 9 ∗ tk 3 9))
  else if c = 1 then iprop(tk 1 10 ∗ tk 2 8) else if c = 3 then iprop(tk 3 10 ∗ tk 2 9) else iprop(emp)
/-- The credits of their arrivals. -/
def CD (c : Dev nD) : sProp 𝕄 :=
  if c = 0 then iprop(emp) else if c = 2 then iprop(cr 2 8 ∗ cr 2 9) else iprop(cr c 8 ∗ cr c 9 ∗ cr c 11)
/-- What a device keeps while the others' barriers are paid. -/
def keep (c : Dev nD) : sProp 𝕄 :=
  if c = 0 then iprop(∃ f, pt 0 yM f) else if c = 1 then iprop(pt 1 kgM (I.kg 1) ∗ pt 1 vgM (I.vg 1) ∗ tk 1 10 ∗ tk 2 8)
  else if c = 3 then iprop(pt 3 kgM (I.kg 3) ∗ pt 3 vgM (I.vg 3) ∗ tk 3 10 ∗ tk 2 9)
  else iprop((∃ f, pt 2 yM f) ∗ pt 2 kgM (I.kg 2) ∗ pt 2 vgM (I.vg 2))
/-- What it keeps from the scatter to the last waits. -/
def keep' (c : Dev nD) : sProp 𝕄 :=
  if c = 0 then iprop((cr 0 2 ∗ cr 0 3 ∗ cr 0 4 ∗ cr 0 5 ∗ cr 0 6 ∗ cr 0 7) ∗ ∃ f, pt 0 yM f) else if c = 1 then iprop(pt 1 kgM (I.kg 1) ∗ pt 1 vgM (I.vg 1))
  else if c = 3 then iprop(pt 3 kgM (I.kg 3) ∗ pt 3 vgM (I.vg 3))
  else iprop((∃ f, pt 2 yM f) ∗ pt 2 kgM (I.kg 2) ∗ pt 2 vgM (I.vg 2))
def keep'' (c : Dev nD) : sProp 𝕄 :=
  if c = 0 then iprop((pv 0 (kgS 0) fullShare (I.kg 0) ∗ pv 0 (vgS 0) fullShare (I.vg 0)) ∗ ∃ f, pt 0 yM f) else if c = 1 then iprop(pt 1 kgM (I.kg 1) ∗ pt 1 vgM (I.vg 1))
  else if c = 3 then iprop(pt 3 kgM (I.kg 3) ∗ pt 3 vgM (I.vg 3))
  else iprop((∃ f, pt 2 yM f) ∗ pt 2 kgM (I.kg 2) ∗ pt 2 vgM (I.vg 2))

theorem TD_0 : (TD 0 : sProp 𝕄) = iprop((tk 0 0 ∗ tk 0 1 ∗ tk 0 2 ∗ tk 0 3 ∗ tk 0 4 ∗ tk 0 5 ∗ tk 0 6 ∗ tk 0 7) ∗ (tk 1 11 ∗ tk 3 11 ∗ tk 1 8 ∗ tk 3 8 ∗ tk 1 9 ∗ tk 3 9)) := if_pos rfl
theorem TD_1 : (TD 1 : sProp 𝕄) = iprop(tk 1 10 ∗ tk 2 8) := (if_neg (by decide)).trans (if_pos rfl)
theorem TD_3 : (TD 3 : sProp 𝕄) = iprop(tk 3 10 ∗ tk 2 9) := (if_neg (by decide)).trans ((if_neg (by decide)).trans (if_pos rfl))
theorem TD_2 : (TD 2 : sProp 𝕄) = iprop(emp) := (if_neg (by decide)).trans ((if_neg (by decide)).trans (if_neg (by decide)))
theorem CD_0 : (CD 0 : sProp 𝕄) = iprop(emp) := if_pos rfl
theorem CD_2 : (CD 2 : sProp 𝕄) = iprop(cr 2 8 ∗ cr 2 9) := (if_neg (by decide)).trans (if_pos rfl)
theorem CD_1 : (CD 1 : sProp 𝕄) = iprop(cr 1 8 ∗ cr 1 9 ∗ cr 1 11) := (if_neg (by decide)).trans (if_neg (by decide))
theorem CD_3 : (CD 3 : sProp 𝕄) = iprop(cr 3 8 ∗ cr 3 9 ∗ cr 3 11) := (if_neg (by decide)).trans (if_neg (by decide))
theorem keep_0 : (keep I 0 : sProp 𝕄) = iprop(∃ f, pt 0 yM f) := if_pos rfl
theorem keep_1 : (keep I 1 : sProp 𝕄) = iprop(pt 1 kgM (I.kg 1) ∗ pt 1 vgM (I.vg 1) ∗ tk 1 10 ∗ tk 2 8) := (if_neg (by decide)).trans (if_pos rfl)
theorem keep_3 : (keep I 3 : sProp 𝕄) = iprop(pt 3 kgM (I.kg 3) ∗ pt 3 vgM (I.vg 3) ∗ tk 3 10 ∗ tk 2 9) := (if_neg (by decide)).trans ((if_neg (by decide)).trans (if_pos rfl))
theorem keep_2 : (keep I 2 : sProp 𝕄) = iprop((∃ f, pt 2 yM f) ∗ pt 2 kgM (I.kg 2) ∗ pt 2 vgM (I.vg 2)) := (if_neg (by decide)).trans ((if_neg (by decide)).trans (if_neg (by decide)))
theorem keepp_0 : (keep' I 0 : sProp 𝕄) = iprop((cr 0 2 ∗ cr 0 3 ∗ cr 0 4 ∗ cr 0 5 ∗ cr 0 6 ∗ cr 0 7) ∗ ∃ f, pt 0 yM f) := if_pos rfl
theorem keepp_1 : (keep' I 1 : sProp 𝕄) = iprop(pt 1 kgM (I.kg 1) ∗ pt 1 vgM (I.vg 1)) := (if_neg (by decide)).trans (if_pos rfl)
theorem keepp_3 : (keep' I 3 : sProp 𝕄) = iprop(pt 3 kgM (I.kg 3) ∗ pt 3 vgM (I.vg 3)) := (if_neg (by decide)).trans ((if_neg (by decide)).trans (if_pos rfl))
theorem keepp_2 : (keep' I 2 : sProp 𝕄) = iprop((∃ f, pt 2 yM f) ∗ pt 2 kgM (I.kg 2) ∗ pt 2 vgM (I.vg 2)) := (if_neg (by decide)).trans ((if_neg (by decide)).trans (if_neg (by decide)))
theorem keeppp_0 : (keep'' I 0 : sProp 𝕄) = iprop((pv 0 (kgS 0) fullShare (I.kg 0) ∗ pv 0 (vgS 0) fullShare (I.vg 0)) ∗ ∃ f, pt 0 yM f) := if_pos rfl
theorem keeppp_1 : (keep'' I 1 : sProp 𝕄) = iprop(pt 1 kgM (I.kg 1) ∗ pt 1 vgM (I.vg 1)) := (if_neg (by decide)).trans (if_pos rfl)
theorem keeppp_3 : (keep'' I 3 : sProp 𝕄) = iprop(pt 3 kgM (I.kg 3) ∗ pt 3 vgM (I.vg 3)) := (if_neg (by decide)).trans ((if_neg (by decide)).trans (if_pos rfl))
theorem keeppp_2 : (keep'' I 2 : sProp 𝕄) = iprop((∃ f, pt 2 yM f) ∗ pt 2 kgM (I.kg 2) ∗ pt 2 vgM (I.vg 2)) := (if_neg (by decide)).trans ((if_neg (by decide)).trans (if_neg (by decide)))
theorem extra_02 : (extra 0 2 : sProp 𝕄) = iprop(emp) := (if_neg (by decide)).trans ((if_neg (by decide)).trans (if_neg (by decide)))
theorem extra_10 : (extra 1 0 : sProp 𝕄) = iprop(emp) := (if_neg (by decide)).trans ((if_neg (by decide)).trans (if_neg (by decide)))
theorem extra_13 : (extra 1 3 : sProp 𝕄) = iprop(emp) := (if_neg (by decide)).trans ((if_neg (by decide)).trans (if_neg (by decide)))
theorem extra_20 : (extra 2 0 : sProp 𝕄) = iprop(emp) := (if_neg (by decide)).trans ((if_neg (by decide)).trans (if_neg (by decide)))
theorem extra_21 : (extra 2 1 : sProp 𝕄) = iprop(emp) := (if_neg (by decide)).trans ((if_neg (by decide)).trans (if_neg (by decide)))
theorem extra_23 : (extra 2 3 : sProp 𝕄) = iprop(emp) := (if_neg (by decide)).trans ((if_neg (by decide)).trans (if_neg (by decide)))
theorem extra_30 : (extra 3 0 : sProp 𝕄) = iprop(emp) := (if_neg (by decide)).trans ((if_neg (by decide)).trans (if_neg (by decide)))
theorem extra_31 : (extra 3 1 : sProp 𝕄) = iprop(emp) := (if_neg (by decide)).trans ((if_neg (by decide)).trans (if_neg (by decide)))
theorem D1_n (c : Dev nD) (h : c ≠ 0) : (D1 I c : sProp 𝕄) = iprop(emp) := if_neg h

/-- The buffers a device hands to those that write into them, and what it keeps. -/
theorem give_extra (c : Dev nD) :
    iprop(ownR c ∗ (∃ f, pt c kM f) ∗ (∃ f, pt c vM f) ∗ (∃ f, pt c yM f) ∗ pt c kgM (I.kg c) ∗ pt c vgM (I.vg c) ∗ TD c)
      ⊢ (iprop(extra (c + 1) c ∗ extra (c + 2) c ∗ extra (c + 3) c ∗ D1 I c ∗ keep I c) : sProp 𝕄) := by
  iintro ⟨#HR, Hk, Hv, Hy, Hkg, Hvg, HT⟩
  ihave #R8 := (ownR_at c 8) $$ HR
  ihave #R9 := (ownR_at c 9) $$ HR
  ihave #R11 := (ownR_at c 11) $$ HR
  rcases dev_cases c with rfl | rfl | rfl | rfl
  · ihave HT := (Entails.of_eq (TD_0 (F := F))) $$ [HT]
    · iexact HT
    rw [show (0 : Dev nD) + 1 = 1 by decide, show (0 : Dev nD) + 2 = 2 by decide, show (0 : Dev nD) + 3 = 3 by decide, extra_10, extra_20, extra_30, D1_0, keep_0]
    ihave Hkg := (Entails.of_eq (kg_pieces 0 (I.kg 0))) $$ Hkg
    ihave Hvg := (Entails.of_eq (vg_pieces 0 (I.vg 0))) $$ Hvg
    icases Hkg with ⟨K0, K1, K2, K3⟩
    icases Hvg with ⟨V0, V1, V2, V3⟩
    icases HT with ⟨⟨T0, T1, T2, T3, T4, T5, T6, T7⟩, ⟨U4, U5, U6, U7, U8, U9⟩⟩
    icases Hk with ⟨%fk, Hk⟩
    icases Hv with ⟨%fv, Hv⟩
    ihave Hk := (Entails.of_eq (pv_whole 0 cc0_scratch0 fk).symm) $$ [Hk]
    · iexact Hk
    ihave Hv := (Entails.of_eq (pv_whole 0 cc0_scratch1 fv).symm) $$ [Hv]
    · iexact Hv
    iframe T0 T1 T2 T3 T4 T5 T6 T7 U4 U5 U6 U7 U8 U9 K0 K1 K2 K3 V0 V1 V2 V3 Hy
    isplitl [Hk]
    · iexists fk; iexact Hk
    iexists fv; iexact Hv
  · ihave HT := (Entails.of_eq (TD_1 (F := F))) $$ [HT]
    · iexact HT
    rw [show (1 : Dev nD) + 1 = 2 by decide, show (1 : Dev nD) + 2 = 3 by decide, show (1 : Dev nD) + 3 = 0 by decide, extra_21, extra_31, extra_01, D1_n I 1 (by decide), keep_1]
    icases HT with ⟨T0, T1⟩
    iframe R8 R9 R11 Hk Hv Hy Hkg Hvg T0 T1
  · rw [show (2 : Dev nD) + 1 = 3 by decide, show (2 : Dev nD) + 2 = 0 by decide, show (2 : Dev nD) + 3 = 1 by decide, extra_32, extra_02, extra_12, D1_n I 2 (by decide), keep_2]
    iframe R8 R9 Hk Hv Hy Hkg Hvg
  · ihave HT := (Entails.of_eq (TD_3 (F := F))) $$ [HT]
    · iexact HT
    rw [show (3 : Dev nD) + 1 = 0 by decide, show (3 : Dev nD) + 2 = 1 by decide, show (3 : Dev nD) + 3 = 2 by decide, extra_03, extra_13, extra_23, D1_n I 3 (by decide), keep_3]
    icases HT with ⟨T0, T1⟩
    iframe R8 R9 R11 Hk Hv Hy Hkg Hvg T0 T1

/-- What a device hands over with its barrier units. -/
theorem give (c : Dev nD) :
    iprop(ownR c ∗ (∃ f, pt c kM f) ∗ (∃ f, pt c vM f) ∗ (∃ f, pt c yM f) ∗ pt c kgM (I.kg c) ∗ pt c vgM (I.vg c) ∗ TD c ∗ (∃ f, pt c rsM f) ∗ (∃ f, pt c agM f))
      ⊢ (iprop(barPay (c + 1) 3 ∗ barPay (c + 2) 2 ∗ barPay (c + 3) 1 ∗ D1 I c ∗ keep I c) : sProp 𝕄) := by
  iintro ⟨#HR, Hk, Hv, Hy, Hkg, Hvg, HT, Hrs, Hag⟩
  ihave HE := (give_extra I c) $$ [Hk Hv Hy Hkg Hvg HT]
  · iframe HR Hk Hv Hy Hkg Hvg HT
  icases HE with ⟨X1, X2, X3, HD, HK⟩
  ihave Hrs := (split_rs c) $$ Hrs
  icases Hrs with ⟨A0, A1, A2⟩
  ihave Hag := (split_ag c) $$ Hag
  icases Hag with ⟨B0, B1, B2⟩
  ihave #R15 := (ownR_at c 15) $$ HR
  ihave #R16 := (ownR_at c 16) $$ HR
  ihave #R17 := (ownR_at c 17) $$ HR
  ihave #R21 := (ownR_at c 21) $$ HR
  ihave #R22 := (ownR_at c 22) $$ HR
  ihave #R23 := (ownR_at c 23) $$ HR
  unfold barPay
  rw [add13, add22, add31]
  iframe HD HK
  isplitl [A2 B2 X1]
  · isplitl [A2]; · iexact A2
    isplitl [B2]; · iexact B2
    isplitr; · iexact R17
    isplitr; · iexact R23
    iexact X1
  isplitl [A1 B1 X2]
  · isplitl [A1]; · iexact A1
    isplitl [B1]; · iexact B1
    isplitr; · iexact R16
    isplitr; · iexact R22
    iexact X2
  · isplitl [A0]; · iexact A0
    isplitl [B0]; · iexact B0
    isplitr; · iexact R15
    isplitr; · iexact R21
    iexact X3

theorem jK_n (c : Dev nD) (h : c ≠ 0) : jK c = 8 := if_neg h
theorem jV_n (c : Dev nD) (h : c ≠ 0) : jV c = 9 := if_neg h
theorem jK_0 : jK 0 = 0 := if_pos rfl
theorem jV_0 : jV 0 = 1 := if_pos rfl

/-- From the scatter to the relay. -/
theorem mid1 (c : Dev nD) : iprop(E1 c ∗ keep I c ∗ CD c) ⊢ (iprop(D2 c ∗ cr c (jK c) ∗ cr c (jV c) ∗ keep' I c) : sProp 𝕄) := by
  iintro ⟨HE, HK, HC⟩
  rcases dev_cases c with rfl | rfl | rfl | rfl
  · ihave HE := (Entails.of_eq (E1_0 (F := F))) $$ [HE]
    · iexact HE
    ihave HK := (Entails.of_eq (keep_0 I)) $$ [HK]
    · iexact HK
    rw [D2_0, jK_0, jV_0, keepp_0]
    icases HE with ⟨C0, C1, C2, C3, C4, C5, C6, C7⟩
    iframe C0 C1 C2 C3 C4 C5 C6 C7 HK
  · ihave HE := (Entails.of_eq (E1_1 (F := F))) $$ [HE]
    · iexact HE
    ihave HK := (Entails.of_eq (keep_1 I)) $$ [HK]
    · iexact HK
    ihave HC := (Entails.of_eq (CD_1 (F := F))) $$ [HC]
    · iexact HC
    rw [D2_1, jK_n 1 (by decide), jV_n 1 (by decide), keepp_1]
    icases HE with ⟨H1, #H2⟩
    icases HK with ⟨K1, K2, K3, K4⟩
    icases HC with ⟨C1, C2, C3⟩
    iframe H1 H2 K1 K2 K3 K4 C1 C2 C3
  · ihave HK := (Entails.of_eq (keep_2 I)) $$ [HK]
    · iexact HK
    ihave HC := (Entails.of_eq (CD_2 (F := F))) $$ [HC]
    · iexact HC
    rw [D2_2, jK_n 2 (by decide), jV_n 2 (by decide), keepp_2]
    icases HK with ⟨K1, K2, K3⟩
    icases HC with ⟨C1, C2⟩
    iframe K1 K2 K3 C1 C2
  · ihave HE := (Entails.of_eq (E1_3 (F := F))) $$ [HE]
    · iexact HE
    ihave HK := (Entails.of_eq (keep_3 I)) $$ [HK]
    · iexact HK
    ihave HC := (Entails.of_eq (CD_3 (F := F))) $$ [HC]
    · iexact HC
    rw [D2_3, jK_n 3 (by decide), jV_n 3 (by decide), keepp_3]
    icases HE with ⟨H1, #H2⟩
    icases HK with ⟨K1, K2, K3, K4⟩
    icases HC with ⟨C1, C2, C3⟩
    iframe H1 H2 K1 K2 K3 K4 C1 C2 C3

/-- From the arrivals to the last waits. -/
theorem mid2 (c : Dev nD) : iprop(E2 I c ∗ E4 I c ∗ keep' I c) ⊢ (iprop(D14 c ∗ keep'' I c) : sProp 𝕄) := by
  iintro ⟨HE, HF, HK⟩
  rcases dev_cases c with rfl | rfl | rfl | rfl
  · ihave HE := (Entails.of_eq (E2_0 I)) $$ [HE]
    · iexact HE
    ihave HF := (Entails.of_eq (E4_0 I)) $$ [HF]
    · iexact HF
    ihave HK := (Entails.of_eq (keepp_0 I)) $$ [HK]
    · iexact HK
    rw [D14_0, keeppp_0]
    icases HK with ⟨HC, HK⟩
    iframe HE HF HC HK
  · ihave HE := (Entails.of_eq (E2_1 I)) $$ [HE]
    · iexact HE
    ihave HK := (Entails.of_eq (keepp_1 I)) $$ [HK]
    · iexact HK
    rw [D14_1, keeppp_1]
    icases HK with ⟨K1, K2⟩
    iframe HE K1 K2
  · ihave HK := (Entails.of_eq (keepp_2 I)) $$ [HK]
    · iexact HK
    rw [D14_2, keeppp_2]
    icases HK with ⟨K1, K2, K3⟩
    iframe K1 K2 K3
  · ihave HE := (Entails.of_eq (E2_3 I)) $$ [HE]
    · iexact HE
    ihave HK := (Entails.of_eq (keepp_3 I)) $$ [HK]
    · iexact HK
    rw [D14_3, keeppp_3]
    icases HK with ⟨K1, K2⟩
    iframe HE K1 K2

/-- At the end. -/
theorem mid3 (c : Dev nD) : iprop(E14 I c ∗ keep'' I c) ⊢ (iprop(pt c kgM (I.kg c) ∗ pt c vgM (I.vg c) ∗ ∃ f, pt c yM f) : sProp 𝕄) := by
  iintro ⟨HE, HK⟩
  rcases dev_cases c with rfl | rfl | rfl | rfl
  · ihave HE := (Entails.of_eq (E14_0 I)) $$ [HE]
    · iexact HE
    ihave HK := (Entails.of_eq (keeppp_0 I)) $$ [HK]
    · iexact HK
    rw [kg_pieces, vg_pieces]
    icases HE with ⟨K2, V2, K1, K3, V1, V3⟩
    icases HK with ⟨⟨K0, V0⟩, HY⟩
    iframe HY
    isplitl [K0 K1 K2 K3]
    · isplitl [K0]; · iexact K0
      isplitl [K1]; · iapply (show pay I 0 4 ⊢ (pv 0 (kgS 1) fullShare (I.kg 0) : sProp 𝕄) from Entails.of_eq rfl) $$ K1
      isplitl [K2]; · iapply (show pay I 0 2 ⊢ (pv 0 (kgS 2) fullShare (I.kg 0) : sProp 𝕄) from Entails.of_eq rfl) $$ K2
      iapply (show pay I 0 5 ⊢ (pv 0 (kgS 3) fullShare (I.kg 0) : sProp 𝕄) from Entails.of_eq rfl) $$ K3
    · isplitl [V0]; · iexact V0
      isplitl [V1]; · iapply (show pay I 0 6 ⊢ (pv 0 (vgS 1) fullShare (I.vg 0) : sProp 𝕄) from Entails.of_eq rfl) $$ V1
      isplitl [V2]; · iapply (show pay I 0 3 ⊢ (pv 0 (vgS 2) fullShare (I.vg 0) : sProp 𝕄) from Entails.of_eq rfl) $$ V2
      iapply (show pay I 0 7 ⊢ (pv 0 (vgS 3) fullShare (I.vg 0) : sProp 𝕄) from Entails.of_eq rfl) $$ V3
  · ihave HE := (Entails.of_eq (E14_1 I)) $$ [HE]
    · iexact HE
    ihave HK := (Entails.of_eq (keeppp_1 I)) $$ [HK]
    · iexact HK
    icases HK with ⟨K1, K2⟩
    iframe K1 K2
    iapply (show pay I 1 10 ⊢ (iprop(∃ f, pt 1 yM f) : sProp 𝕄) from Entails.of_eq rfl) $$ HE
  · ihave HK := (Entails.of_eq (keeppp_2 I)) $$ [HK]
    · iexact HK
    icases HK with ⟨K1, K2, K3⟩
    iframe K1 K2 K3
  · ihave HE := (Entails.of_eq (E14_3 I)) $$ [HE]
    · iexact HE
    ihave HK := (Entails.of_eq (keeppp_3 I)) $$ [HK]
    · iexact HK
    icases HK with ⟨K1, K2⟩
    iframe K1 K2
    iapply (show pay I 3 10 ⊢ (iprop(∃ f, pt 3 yM f) : sProp 𝕄) from Entails.of_eq rfl) $$ HE

end Cert.KernelIdeal.Attn
-- ==== Proof.AttnIdeal.Body.lean ====
/- A device's whole body, from its stages. -/
module

public import proofs.«01_k».proof.Proof.AttnIdeal.Exp
public import proofs.«01_k».proof.Proof.AttnIdeal.Glue

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

/-! ## What a device brings into its body, and takes out of it -/

/-- The duties it pays. -/
def Toks (c : Dev nD) : sProp 𝕄 :=
  iprop((dutyTok ER (bc (c + 1)) 0 3 ∗ dutyTok ER (bc (c + 2)) 0 2 ∗ dutyTok ER (bc (c + 3)) 0 1) ∗ (tk c 12 ∗ tk c 13 ∗ tk c 14)
    ∗ (tk (c + 1) 15 ∗ tk (c + 2) 16 ∗ tk (c + 3) 17) ∗ (tk c 18 ∗ tk c 19 ∗ tk c 20) ∗ (tk (c + 1) 21 ∗ tk (c + 2) 22 ∗ tk (c + 3) 23) ∗ TD c)
/-- The credits of what others send it. -/
def Creds (c : Dev nD) : sProp 𝕄 :=
  iprop(cred (tallyAt (bc c) () 3) ∗ cr c 15 ∗ cr c 16 ∗ cr c 17 ∗ cr c 21 ∗ cr c 22 ∗ cr c 23 ∗ CD c)
/-- Every barrier is open. -/
def barR : sProp 𝕄 := bigSep Finset.univ fun c : Dev nD => reached ER (bc c) 0
instance barR_persistent : BI.Persistent (barR : sProp 𝕄) := by unfold barR; infer_instance
theorem barR_at (c : Dev nD) : (barR : sProp 𝕄) ⊢ reached ER (bc c) 0 := bigSep_elim (Finset.mem_univ c)
/-- The kernel's own buffers, at any contents. -/
def Scr (c : Dev nD) : sProp 𝕄 :=
  iprop((∃ f, pt c kM f) ∗ (∃ f, pt c vM f) ∗ (∃ f, pt c yM f) ∗ (∃ f, pt c cM f) ∗ (∃ f, pt c aM f) ∗ (∃ f, pt c wtM f) ∗ (∃ f, pt c wbM f)
    ∗ (∃ f, pt c rsM f) ∗ ∃ f, pt c agM f)
/-- The cells waited for by the end. -/
def SA (c : Dev nD) : Finset (Fin 24) := insert (jV c) (insert (jK c) (S2 c ∅))
def SB (c : Dev nD) : Finset (Fin 24) := insert 22 (insert 21 (insert 17 (insert 16 (insert 15 (SA c)))))
def SF (c : Dev nD) : Finset (Fin 24) :=
  insert 20 (insert 14 (insert 19 (insert 13 (insert 18 (insert 12 (S14 c (insert 23 (SB c))))))))

/-- A program that only returns. -/
theorem bind_done (c : Dev nD) (Q : PUnit → sProp 𝕄) :
    wp frame (wpE (defs₀ (F := F)) 𝒱₀ (c : Thread nD τ) none) Set.univ ((Prog.ret PUnit.unit).bind fun _ => pure PUnit.unit) Q
      = iprop(|={Set.univ}=> Q ⟨⟩) := rfl

set_option maxHeartbeats 8000000 in
/-- One device's whole body. -/
theorem body_spec (K : GSem nD τ sig → ℕ) (c : Dev nD) {Q : PUnit → sProp 𝕄} :
    iprop(allInv I K ∗ ownR c ∗ barR ∗ levAts L lv ∗ Toks c ∗ Creds c ∗ atPos ER (bc c) 0 ∅ 0 ∗ posns c ∅ ∗ ow c (O₀ c)
        ∗ pt c xM (I.x c) ∗ pt c wqM (I.wq c) ∗ pt c woM (I.wo c) ∗ (∃ f, pt c oM f) ∗ pt c kgM (I.kg c) ∗ pt c vgM (I.vg c) ∗ Scr c)
      ⊢ iprop(((atPos ER (bc c) 1 ∅ 0 ∗ posns c (SF c) ∗ ow c 0
          ∗ pt c xM (I.x c) ∗ pt c wqM (I.wq c) ∗ pt c woM (I.wo c) ∗ pt c oM (OUT I c) ∗ pt c kgM (I.kg c) ∗ pt c vgM (I.vg c) ∗ Scr c) -∗ Q ⟨⟩)
        -∗ wp frame (wpE (defs₀ (F := F)) 𝒱₀ (c : Thread nD τ) none) Set.univ
            (cc0_body xM (Memref.isWhole_whole _) wqM (Memref.isWhole_whole _) kgM (Memref.isWhole_whole _) vgM (Memref.isWhole_whole _)
                woM (Memref.isWhole_whole _) oM (Memref.isWhole_whole _) kM (Memref.isWhole_whole _) vM (Memref.isWhole_whole _)
                yM (Memref.isWhole_whole _) cM (Memref.isWhole_whole _) aM (Memref.isWhole_whole _) wtM (Memref.isWhole_whole _)
                wbM (Memref.isWhole_whole _) rsM (Memref.isWhole_whole _) agM (Memref.isWhole_whole _)
                cc0_scratch9 cc0_scratch10 cc0_scratch11 cc0_scratch12 cc0_scratch13 cc0_scratch14 cc0_scratch15 cc0_scratch16 cc0_scratch17) Q) := by
  iintro ⟨#HI, #HR, #HB, #Hlev, HT, HC, Hat, Hp, HO, Hx, Hwq, Hwo, Hout, Hkg, Hvg, HS⟩ Hκ
  unfold Toks Creds Scr
  icases HT with ⟨⟨Tb1, Tb2, Tb3⟩, ⟨T12, T13, T14⟩, ⟨T15, T16, T17⟩, ⟨T18, T19, T20⟩, ⟨T21, T22, T23⟩, HT⟩
  icases HC with ⟨Cb, C15, C16, C17, C21, C22, C23, HC⟩
  icases HS with ⟨Hk, Hv, Hy, Hc, Ha, Hwt, Hwb, Hrs, Hag⟩
  ihave HG := (give I c) $$ [Hk Hv Hy Hkg Hvg HT Hrs Hag]
  · iframe HR Hk Hv Hy Hkg Hvg HT Hrs Hag
  icases HG with ⟨P1, P2, P3, HD, HK⟩
  ihave #Rb1 := (barR_at (c + 1)) $$ HB
  ihave #Rb2 := (barR_at (c + 2)) $$ HB
  ihave #Rb3 := (barR_at (c + 3)) $$ HB
  rw [cc0_body_eq_skeleton]
  unfold cc0_body_skel
  rw [wp_bind, k0_part41_eq_skeleton, st1.eq]
  iapply (st1_spec I K c) $$ [Tb1 Tb2 Tb3 P1 P2 P3 Hat Cb Hx Hwq Hwo HD HO]
  · iframe HI HR Hlev Rb1 Rb2 Rb3 Tb1 Tb2 Tb3 P1 P2 P3 Hat Cb Hx Hwq Hwo HD HO
  iintro ⟨Hat, Hd1, Hd2, Hd3, Hx, Hwq, Hwo, HE, HO⟩
  unfold dest
  icases Hd1 with ⟨Drs1, Dag1, #Rr1, #Ra1⟩
  icases Hd2 with ⟨Drs2, Dag2, #Rr2, #Ra2⟩
  icases Hd3 with ⟨Drs3, Dag3, #Rr3, #Ra3⟩
  ihave HM := (mid1 I c) $$ [HE HK HC]
  · iframe HE HK HC
  icases HM with ⟨HD, CK, CV, HK⟩
  rw [st2.eq]
  iapply (st2_spec I K c ∅ (Finset.notMem_empty _) (Finset.notMem_empty _)) $$ [Hp HD CK HO]
  · iframe HI HR Hlev Hp HD CK HO
  iintro ⟨Hk, HE2, Hp, HO⟩
  rw [st3.eq]
  iapply (st3_spec c (vv c) (QQ I c) (colK I c)) $$ [Hk Hwt Hwb]
  · iframe Hk Hwt Hwb
  iintro ⟨Hk, Hwt, Hwb⟩
  rw [st4.eq]
  iapply (st4_spec I K c (insert (jK c) (S2 c ∅)) (by revert c; decide)) $$ [Hwt Hwb Hc Hp CV HO]
  · iframe HI Hlev Hwt Hwb Hc Hp CV HO
  iintro ⟨Hv, Hwt, Hwb, Hc, Hp, HE4, HO⟩
  ihave HM := (mid2 I c) $$ [HE2 HE4 HK]
  · iframe HE2 HE4 HK
  icases HM with ⟨HD, HK⟩
  rw [st5.eq]
  iapply (st5_spec c (QQ I c) (colK I c) (colV I c)) $$ [Hv Hwt Hwb Hc]
  · iframe Hv Hwt Hwb Hc
  iintro ⟨Hv, Hwt, Hwb, Hc⟩
  ihave HA := (split_a c) $$ Ha
  icases HA with ⟨A0, A1, A2, A3⟩
  rw [st6.eq]
  iapply (st6_spec I K c (vv c)) $$ [Hv Hc A1]
  · iframe Hv Hc A1
  iintro ⟨Hv, Hc, A1⟩
  rw [st7.eq]
  iapply (st7_spec I K c (vv c) _) $$ [Hc A1 A2 Drs1 T12 T15 HO]
  · iframe HI HR Rr1 Hc A1 A2 Drs1 T12 T15 HO
  iintro ⟨Hc, A2, C12, HO⟩
  rw [st8.eq]
  iapply (st8_spec I K c (vv c) _) $$ [Hc A2 A3 Drs2 T13 T16 HO]
  · iframe HI HR Rr2 Hc A2 A3 Drs2 T13 T16 HO
  iintro ⟨Hc, A3, C13, HO⟩
  rw [st9.eq]
  iapply (st9_spec I K c (vv c) _ _ (SA c) (by revert c; decide)) $$ [Hc A3 Drs3 T14 T17 Hp C15 HO]
  · iframe HI HR Hlev Rr3 Hc A3 Drs3 T14 T17 Hp C15 HO
  iintro ⟨Hc, C14, Hp, Hs0, HO⟩
  rw [st10.eq]
  iapply (st10_spec I K c _ _ (insert 15 (SA c)) (by revert c; decide) (by revert c; decide)) $$ [Hp C16 C17 HO]
  · iframe HI Hlev Hp C16 C17 HO
  iintro ⟨Hp, Hs1, Hs2, HO⟩
  rw [st11.eq]
  iapply (st11_spec I K c (vv c) _) $$ [A0 Dag1 Dag2 T18 T21 T19 T22 HO]
  · iframe HI HR Ra1 Ra2 A0 Dag1 Dag2 T18 T21 T19 T22 HO
  iintro ⟨C18, C19, A0, HO⟩
  rw [st12.eq]
  iapply (st12_spec I K c (vv c) _ _ (insert 17 (insert 16 (insert 15 (SA c)))) (by revert c; decide)) $$ [A0 Dag3 Hout T20 T23 Hp C21 HO]
  · iframe HI HR Hlev Ra3 A0 Dag3 Hout T20 T23 Hp C21 HO
  iintro ⟨C20, Hp, Hg0, Hout, HO⟩
  rw [st13.eq]
  iapply (st13_spec I K c (vv c) _ (insert 21 (insert 17 (insert 16 (insert 15 (SA c))))) (by revert c; decide)) $$ [Hout Hp C22 HO]
  · iframe HI Hlev Hout Hp C22 HO
  iintro ⟨Hp, Hg1, Hout, HO⟩
  rw [st14.eq]
  iapply (st14_spec I K c (SB c) (by revert c; decide) (by revert c; decide)) $$ [Hout Hp C23 HD HO]
  · iframe HI Hlev Hout Hp C23 HD HO
  iintro ⟨Hp, Hg2, Hout, HE14, HO⟩
  rw [st15.eq]
  iapply (st15_spec I K c (S14 c (insert 23 (SB c))) (by revert c; decide) (by revert c; decide) (by revert c; decide) (by revert c; decide)) $$ [Hp C12 C18 C13 C19 HO]
  · iframe HI Hlev Hp C12 C18 C13 C19 HO
  iintro ⟨Hp, HO, P12, P13, P18, P19⟩
  unfold st15.tail
  iapply (wait_step I K c 14 (used_ge c (by decide) (by decide)) (sem_at 3 16 2 _ _ _) (rsS 2) (rsS 2) (amt_R (by decide)) (S := insert 19 (insert 13 (insert 18 (insert 12 (S14 c (insert 23 (SB c))))))) (by revert c; decide) (above_zero _)) $$ [Hp C14 HO]
  · iframe HI Hlev Hp C14 HO
  iintro ⟨HO, Hp, P14⟩
  rw [bind_done]
  imodintro
  iapply (wait_step I K c 20 (used_ge c (by decide) (by decide)) (sem_at 3 22 2 _ _ _) (agS 2) (agS 2) (amt_R (by decide)) (S := insert 14 (insert 19 (insert 13 (insert 18 (insert 12 (S14 c (insert 23 (SB c)))))))) (by revert c; decide) (above_zero _)) $$ [Hp C20 HO]
  · iframe HI Hlev Hp C20 HO
  iintro ⟨HO, Hp, P20⟩
  first | rw [wp_pure] | rw [bind_done]
  imodintro
  iapply Hκ
  ihave HM := (mid3 I c) $$ [HE14 HK]
  · iframe HE14 HK
  icases HM with ⟨Hkg, Hvg, Hy⟩
  ihave A0 := (shares' c (ARF I c)) $$ [P18 P19 P20]
  · isplitl [P18]; · iapply (show pay I c 18 ⊢ (pv c (aS c) sh0 (ARF I c) : sProp 𝕄) from Entails.of_eq rfl) $$ P18
    isplitl [P19]; · iapply (show pay I c 19 ⊢ (pv c (aS c) sh1 (ARF I c) : sProp 𝕄) from Entails.of_eq rfl) $$ P19
    iapply (show pay I c (20 : Fin 24).val ⊢ (pv c (aS c) sh2 (ARF I c) : sProp 𝕄) from Entails.of_eq rfl) $$ P20
  ihave Ha := (join_a c) $$ [A0 P12 P13 P14]
  · isplitl [A0]; · iexists _; iexact A0
    isplitl [P12]; · iapply (show pay I c 12 ⊢ (iprop(∃ f, pv c (aS (c + 1)) fullShare f) : sProp 𝕄) from Entails.of_eq rfl) $$ P12
    isplitl [P13]; · iapply (show pay I c 13 ⊢ (iprop(∃ f, pv c (aS (c + 2)) fullShare f) : sProp 𝕄) from Entails.of_eq rfl) $$ P13
    iapply (show pay I c (14 : Fin 24).val ⊢ (iprop(∃ f, pv c (aS (c + 3)) fullShare f) : sProp 𝕄) from Entails.of_eq rfl) $$ P14
  ihave Hrs := (join_rs c) $$ [Hs0 Hs1 Hs2]
  · isplitl [Hs0]; · iexists _; iexact Hs0
    isplitl [Hs1]; · iexists _; iexact Hs1
    iexists _; iexact Hs2
  ihave Hag := (join_ag c) $$ [Hg0 Hg1 Hg2]
  · isplitl [Hg0]; · iexists _; iexact Hg0
    isplitl [Hg1]; · iexists _; iexact Hg1
    iexists _; iexact Hg2
  iframe Hat
  isplitl [Hp]; · iexact Hp
  iframe HO Hx Hwq Hwo Hout Hkg Hvg Hy Ha Hrs Hag
  isplitl [Hk]; · iexists _; iexact Hk
  isplitl [Hv]; · iexists _; iexact Hv
  isplitl [Hc]; · iexists _; iexact Hc
  isplitl [Hwt]; · iexists _; iexact Hwt
  iexists _; iexact Hwb

end Cert.KernelIdeal.Attn
-- ==== Proof.AttnIdeal.Deal.lean ====
/- The launch of the protocol: the cells opened and closed, every token to the device that pays its duty, the credits to the devices that wait. -/
module

public import proofs.«01_k».proof.Proof.AttnIdeal.Body

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F] [Facts]

local notation "𝕄" => MT nD τ sig Unit (Elt F) ℕ UU ℕ

variable (I : Inp F)

/-! ## Opening and closing the cells -/

/-- The kernel's own transfer semaphores. -/
abbrev osem (j : Fin 24) : SemLoc sig := .dma (dsem j)

/-- The rights to open device `c`'s transfer cells. -/
def opens (c : Dev nD) : sProp 𝕄 := bigSep Finset.univ fun j : Fin 24 => openTok ER (dc c j)

/-- The own counters at zero. -/
def zeros (c : Dev nD) : sProp 𝕄 := bigSep Finset.univ fun j : Fin 24 => semVal (dc c j) 0

theorem bigSep_pair {ι : Type} [Fintype ι] {Φ Ψ : ι → sProp 𝕄} :
    iprop(bigSep Finset.univ Φ ∗ bigSep Finset.univ Ψ) ⊢ bigSep Finset.univ (fun c => iprop(Φ c ∗ Ψ c)) := Entails.of_eq (bigSep_sep' _ _ _).symm
theorem bigSep_unpair {ι : Type} [Fintype ι] {Φ Ψ : ι → sProp 𝕄} :
    bigSep Finset.univ (fun c => iprop(Φ c ∗ Ψ c)) ⊢ iprop(bigSep Finset.univ Φ ∗ bigSep Finset.univ Ψ) := Entails.of_eq (bigSep_sep' _ _ _)

/-- The cells of a device opened at the region's entry. -/
theorem open_all (K : GSem nD τ sig → ℕ) (c : Dev nD) :
    iprop(allInv I K ∗ opens c ∗ zeros c) ⊢ (iprop(|={Set.univ}=> (ownR c ∗ posns c ∅)) : sProp 𝕄) := by
  have h1 : iprop(allInv I K ∗ bigSep Finset.univ fun j : Fin 24 => iprop(openTok ER (dc c j) ∗ semVal (dc c j) 0))
      ⊢ (bigSep Finset.univ fun j : Fin 24 => iprop(|={Set.univ}=> (atPos ER (dc c j) 0 ∅ 0 ∗ reached ER (dc c j) 0)) : sProp 𝕄) :=
    bigSep_with_persistent fun j _ => by
      iintro ⟨#HI, Ho, Hs⟩
      iapply (Rounds.cell_open ER (sched I) (g := dc c j) (Set.mem_univ (K (dc c j))))
      isplitr; · iapply (allInv_dma I K c j); iexact HI
      isplitl [Ho] <;> iassumption
  have h2 : iprop(allInv I K ∗ opens c ∗ zeros c) ⊢ (iprop(|={Set.univ}=> (bigSep Finset.univ fun j : Fin 24 => iprop(atPos ER (dc c j) 0 ∅ 0 ∗ reached ER (dc c j) 0))) : sProp 𝕄) :=
    (sep_mono_right bigSep_pair).trans (h1.trans (bigSep_fupd _ _))
  have h3 : bigSep Finset.univ (fun j : Fin 24 => iprop(atPos ER (dc c j) 0 ∅ 0 ∗ reached ER (dc c j) 0)) ⊢ (iprop(ownR c ∗ posns c ∅) : sProp 𝕄) := by
    refine bigSep_unpair.trans ?_
    unfold ownR posns
    iintro ⟨H1, H2⟩
    isplitl [H2]; · iexact H2
    iexact H1
  exact h2.trans (BI.fupd_mono h3)

theorem used_SF : ∀ (c : Dev nD) (j : Fin 24), used c j.val = true → j ∈ SF c := by decide +kernel

/-- The cells of a device closed at the body's end. -/
theorem close_all (K : GSem nD τ sig → ℕ) (c : Dev nD) :
    iprop(allInv I K ∗ posns c (SF c)) ⊢ (iprop(|={Set.univ}=> zeros c) : sProp 𝕄) := by
  have h1 : iprop(allInv I K ∗ posns c (SF c))
      ⊢ (bigSep Finset.univ fun j : Fin 24 => iprop(|={Set.univ}=> semVal (dc c j) 0) : sProp 𝕄) :=
    bigSep_with_persistent fun j _ => by
      iintro ⟨#HI, Hp⟩
      iapply (Rounds.cell_close ER (sched I) (g := dc c j) (R := if j ∈ SF c then 1 else 0) (Set.mem_univ (K (dc c j))) (fun h => h) (by
        intro r hr
        by_cases hj : j ∈ SF c
        · rw [if_pos hj] at hr; exact duties_later I _ r hr
        · rcases Nat.eq_zero_or_pos r with rfl | h
          · exact duties_none I c j fun h => hj (used_SF c j h)
          · exact duties_later I _ r h))
      isplitr; · iapply (allInv_dma I K c j); iexact HI
      iexact Hp
  exact h1.trans (bigSep_fupd _ _)

theorem close_bar (K : GSem nD τ sig → ℕ) (c : Dev nD) :
    iprop(allInv I K ∗ atPos ER (bc c) 1 ∅ 0) ⊢ (iprop(|={Set.univ}=> semVal (bc c) 0) : sProp 𝕄) := by
  iintro ⟨#HI, Hp⟩
  iapply (Rounds.cell_close ER (sched I) (g := bc c) (R := 1) (Set.mem_univ (K (bc c))) (fun h => h) (fun r hr => duties_later I _ r hr))
  isplitr; · iapply (allInv_bar I K c); iexact HI
  iexact Hp

/-! ## The cells and tokens of the launch -/

def barEmb : Dev nD ↪ GSem nD τ sig := ⟨fun c => bc c, fun _ _ h => congrArg (fun g : GSem nD τ sig => g.1.1) h⟩
theorem osem_inj : Function.Injective osem := fun a b h => by
  have : (dsem a).val = (dsem b).val := congrArg (fun s : SemLoc sig => match s with | .dma i => i.val | _ => 0) h
  exact Fin.ext (by have h : a.val + 4 = b.val + 4 := this; omega)
def dcEmb : Dev nD × Fin 24 ↪ GSem nD τ sig :=
  ⟨fun ck => dc ck.1 ck.2, fun _ _ h => Prod.ext (congrArg (fun g : GSem nD τ sig => g.1.1) h) (osem_inj (congrArg Prod.snd h))⟩
abbrev barCells : Finset (GSem nD τ sig) := Finset.univ.map barEmb
abbrev dcCells : Finset (GSem nD τ sig) := Finset.univ.map dcEmb
theorem disjoint_cells : Disjoint (barCells : Finset (GSem nD τ sig)) dcCells := by
  rw [Finset.disjoint_left]
  rintro g h₁ h₂
  obtain ⟨c, -, rfl⟩ := Finset.mem_map.mp h₁
  obtain ⟨ck, -, h⟩ := Finset.mem_map.mp h₂
  have h' : SemLoc.dma (dsem ck.2) = SemLoc.reg barrier0 := congrArg Prod.snd h
  cases h'
theorem bc_mem (c : Dev nD) : bc c ∈ (barCells ∪ dcCells : Finset (GSem nD τ sig)) :=
  Finset.mem_union_left _ (Finset.mem_map_of_mem barEmb (Finset.mem_univ c))
theorem dc_mem (c : Dev nD) (j : Fin 24) : dc c j ∈ (barCells ∪ dcCells : Finset (GSem nD τ sig)) :=
  Finset.mem_union_right _ (Finset.mem_map_of_mem dcEmb (Finset.mem_univ (c, j)))

def tsem (k : Fin 27) : SemLoc sig := if h : k.val < 24 then .dma (dsem ⟨k.val, h⟩) else .reg barrier0
def tdut (k : Fin 27) : Fin 4 := if k.val < 24 then 0 else if k.val = 24 then 3 else if k.val = 25 then 2 else 1
theorem tok_inj : Function.Injective (fun k : Fin 27 => (tsem k, tdut k)) := by decide +kernel
def toks : Finset (GSem nD τ sig × ℕ × Fin 4) :=
  Finset.univ.map ⟨fun ck : Dev nD × Fin 27 => (((ck.1 : Thread nD τ), tsem ck.2), 0, tdut ck.2), fun _ _ h =>
    Prod.ext (congrArg (fun t : GSem nD τ sig × ℕ × Fin 4 => t.1.1.1) h)
      (tok_inj (Prod.ext (congrArg (fun t : GSem nD τ sig × ℕ × Fin 4 => t.1.2) h) (congrArg (fun t : GSem nD τ sig × ℕ × Fin 4 => t.2.2) h)))⟩

/-- The tokens of a device's own cells. -/
def T0 (c : Dev nD) : sProp 𝕄 :=
  iprop(tk c 0 ∗ tk c 1 ∗ tk c 2 ∗ tk c 3 ∗ tk c 4 ∗ tk c 5 ∗ tk c 6 ∗ tk c 7 ∗ tk c 8 ∗ tk c 9 ∗ tk c 10 ∗ tk c 11)
def T1 (c : Dev nD) : sProp 𝕄 :=
  iprop((dutyTok ER (bc c) 0 3 ∗ dutyTok ER (bc c) 0 2 ∗ dutyTok ER (bc c) 0 1) ∗ (tk c 12 ∗ tk c 13 ∗ tk c 14)
    ∗ (tk c 15 ∗ tk c 16 ∗ tk c 17) ∗ (tk c 18 ∗ tk c 19 ∗ tk c 20) ∗ (tk c 21 ∗ tk c 22 ∗ tk c 23) ∗ T0 c)

theorem toks_eq : bigSep toks (fun x => (dutyTok ER x.1 x.2.1 x.2.2 : sProp 𝕄)) ⊢ bigSep Finset.univ fun c : Dev nD => T1 c := by
  unfold toks; rw [bigSep_map, bigSep_univ_prod]
  refine bigSep_mono fun c _ => ?_
  rw [bigSep_univ_eq_bigSepL [(0 : Fin 27), 1, 2, 3, 4, 5, 6, 7, 8, 9, 10, 11, 12, 13, 14, 15, 16, 17, 18, 19, 20, 21, 22, 23, 24, 25, 26] (by decide) (by decide)]
  show iprop(tk c 0 ∗ tk c 1 ∗ tk c 2 ∗ tk c 3 ∗ tk c 4 ∗ tk c 5 ∗ tk c 6 ∗ tk c 7 ∗ tk c 8 ∗ tk c 9 ∗ tk c 10 ∗ tk c 11 ∗ tk c 12 ∗ tk c 13 ∗ tk c 14 ∗ tk c 15 ∗ tk c 16 ∗ tk c 17 ∗ tk c 18 ∗ tk c 19 ∗ tk c 20 ∗ tk c 21 ∗ tk c 22 ∗ tk c 23 ∗ dutyTok ER (bc c) 0 3 ∗ dutyTok ER (bc c) 0 2 ∗ dutyTok ER (bc c) 0 1) ⊢ (T1 c : sProp 𝕄)
  unfold T1 T0
  iintro ⟨H0, H1, H2, H3, H4, H5, H6, H7, H8, H9, H10, H11, H12, H13, H14, H15, H16, H17, H18, H19, H20, H21, H22, H23, H24, H25, H26⟩
  iframe H0 H1 H2 H3 H4 H5 H6 H7 H8 H9 H10 H11 H12 H13 H14 H15 H16 H17 H18 H19 H20 H21 H22 H23 H24 H25 H26

/-- The devices turned by `k`. -/
def turn (k : Dev nD) : Dev nD ≃ Dev nD := ⟨fun c => c + k, fun c => c + (k + k + k), by revert k; decide, by revert k; decide⟩
theorem rot (k : Dev nD) (Φ : Dev nD → sProp 𝕄) : bigSep Finset.univ Φ ⊢ bigSep Finset.univ (fun c => Φ (c + k)) :=
  Entails.of_eq (bigSep_univ_equiv (turn k) Φ)
theorem pair2 {Φ Φ' Ψ Ψ' : Dev nD → sProp 𝕄} (h : bigSep Finset.univ Φ ⊢ bigSep Finset.univ Φ') (h' : bigSep Finset.univ Ψ ⊢ bigSep Finset.univ Ψ') :
    bigSep Finset.univ (fun c => iprop(Φ c ∗ Ψ c)) ⊢ bigSep Finset.univ (fun c => iprop(Φ' c ∗ Ψ' c)) :=
  bigSep_unpair.trans ((BI.sep_mono h h').trans bigSep_pair)
theorem four (Φ : Dev nD → sProp 𝕄) : bigSep Finset.univ Φ = iprop(Φ 0 ∗ Φ 1 ∗ Φ 2 ∗ Φ 3) :=
  bigSep_univ_eq_bigSepL [(0 : Dev nD), 1, 2, 3] (by decide) (by decide) Φ

theorem deal0 : bigSep Finset.univ (fun c : Dev nD => (T0 c : sProp 𝕄)) ⊢ bigSep Finset.univ fun c : Dev nD => TD c := by
  rw [four, four]
  rw [show (TD 0 : sProp 𝕄) = _ from if_pos rfl, show (TD 1 : sProp 𝕄) = iprop(tk 1 10 ∗ tk 2 8) from rfl,
    show (TD 2 : sProp 𝕄) = iprop(emp) from rfl, show (TD 3 : sProp 𝕄) = iprop(tk 3 10 ∗ tk 2 9) from rfl]
  unfold T0
  iintro ⟨⟨A0, A1, A2, A3, A4, A5, A6, A7, -, -, -, -⟩, ⟨-, -, -, -, -, -, -, -, B8, B9, B10, B11⟩, ⟨-, -, -, -, -, -, -, -, C8, C9, -, -⟩, ⟨-, -, -, -, -, -, -, -, D8, D9, D10, D11⟩⟩
  iframe A0 A1 A2 A3 A4 A5 A6 A7 B8 B9 B10 B11 C8 C9 D8 D9 D10 D11

/-- Every token to the device that pays its duty. -/
theorem deal : bigSep Finset.univ (fun c : Dev nD => (T1 c : sProp 𝕄)) ⊢ bigSep Finset.univ fun c : Dev nD => Toks c := by
  unfold T1 Toks
  have r (Φ : Dev nD → sProp 𝕄) : bigSep Finset.univ Φ ⊢ bigSep Finset.univ Φ := BI.Entails.refl _
  exact pair2 (pair2 (rot 1 _) (pair2 (rot 2 _) (rot 3 _))) (pair2 (r _) (pair2 (pair2 (rot 1 _) (pair2 (rot 2 _) (rot 3 _)))
    (pair2 (r _) (pair2 (pair2 (rot 1 _) (pair2 (rot 2 _) (rot 3 _))) deal0))))

/-! ## The launch credit -/

/-- What each device waits for that others pay. -/
def TC (c : Dev nD) : CellTallies nD τ sig Unit := if c = 0 then 0 else if c = 2 then own1 2 8 + own1 2 9 else own1 c 8 + (own1 c 9 + own1 c 11)
def TT (c : Dev nD) : CellTallies nD τ sig Unit :=
  tallyAt (bc c) () 3 + (own1 c 15 + (own1 c 16 + (own1 c 17 + (own1 c 21 + (own1 c 22 + (own1 c 23 + TC c))))))

theorem sum_rot (k : Dev nD) (f : Dev nD → CellTallies nD τ sig Unit) : ∑ d, f (d + k) = ∑ d, f d := Equiv.sum_comp (turn k) f

def XR (c : Dev nD) : CellTallies nD τ sig Unit := if c = 1 then own1 2 8 else if c = 3 then own1 2 9 else 0
def XS (c : Dev nD) : CellTallies nD τ sig Unit := if c = 0 then own1 3 9 + own1 1 9 + own1 3 8 + own1 1 8 + own1 3 11 + own1 1 11 else 0
theorem OSC_eq (c : Dev nD) : OSC c = OREL c + XS c := by
  unfold OSC XS; split
  · simp only [add_assoc]
  · rw [add_zero]
theorem O₀_eq (c : Dev nD) : O₀ c = own1 (c + 3) 23 + own1 (c + 2) 22 + own1 (c + 1) 21 + own1 (c + 3) 17 + own1 (c + 2) 16 + own1 (c + 1) 15
    + XR c + XS c + tallyAt (bc (c + 3)) () 1 + tallyAt (bc (c + 2)) () 1 + tallyAt (bc (c + 1)) () 1 := by
  show OSC c + _ + _ + _ = _
  rw [OSC_eq]
  show 0 + _ + _ + _ + _ + _ + _ + XR c + XS c + _ + _ + _ = _
  rw [zero_add]

theorem sum_X : ∑ d : Dev nD, (XR d + XS d) = ∑ d, TC d := by
  rw [show (Finset.univ : Finset (Dev nD)) = {0, 1, 2, 3} from by decide]
  rw [Finset.sum_insert (by decide), Finset.sum_insert (by decide), Finset.sum_insert (by decide), Finset.sum_singleton,
    Finset.sum_insert (by decide), Finset.sum_insert (by decide), Finset.sum_insert (by decide), Finset.sum_singleton]
  rw [show XR 0 = 0 from rfl, show XR 1 = own1 2 8 from rfl, show XR 2 = 0 from rfl, show XR 3 = own1 2 9 from rfl,
    show XS 0 = own1 3 9 + own1 1 9 + own1 3 8 + own1 1 8 + own1 3 11 + own1 1 11 from rfl, show XS 1 = 0 from rfl, show XS 2 = 0 from rfl, show XS 3 = 0 from rfl,
    show TC 0 = 0 from rfl, show TC 1 = own1 1 8 + (own1 1 9 + own1 1 11) from rfl, show TC 2 = own1 2 8 + own1 2 9 from rfl, show TC 3 = own1 3 8 + (own1 3 9 + own1 3 11) from rfl]
  simp only [add_zero, zero_add]
  ac_rfl

theorem sum_owed : ∑ d : Dev nD, O₀ d = ∑ d, TT d := by
  have h3 (c : Dev nD) : (tallyAt (bc c) () 3 : CellTallies nD τ sig Unit) = tallyAt (bc c) () 1 + tallyAt (bc c) () 1 + tallyAt (bc c) () 1 := by
    rw [tallyAt_add, tallyAt_add]
  have hX := sum_X
  rw [Finset.sum_add_distrib] at hX
  simp only [O₀_eq, TT, h3, Finset.sum_add_distrib]
  rw [← hX, sum_rot 3 (fun d => own1 d 23), sum_rot 2 (fun d => own1 d 22), sum_rot 1 (fun d => own1 d 21), sum_rot 3 (fun d => own1 d 17), sum_rot 2 (fun d => own1 d 16),
    sum_rot 1 (fun d => own1 d 15), sum_rot 3 (fun d => tallyAt (bc d) () 1), sum_rot 2 (fun d => tallyAt (bc d) () 1), sum_rot 1 (fun d => tallyAt (bc d) () 1)]
  ac_rfl

def Own (c : Dev nD) (O : CellTallies nD τ sig Unit) : Prop := ∀ g, O g ≠ 0 → g.1 = (c.tc : Thread nD τ)
theorem own_add {c : Dev nD} {O O' : CellTallies nD τ sig Unit} (h : Own c O) (h' : Own c O') : Own c (O + O') := fun g hg => by
  by_cases h0 : O g = 0
  · exact h' g fun h0' => hg (by rw [Pi.add_apply, h0, h0', add_zero])
  · exact h g h0
theorem own_tally (c : Dev nD) (s : SemLoc sig) (k : ℕ) : Own c (tallyAt ((c : Thread nD τ), s) () k) := fun g hg => by
  by_contra h
  exact hg (tallyAt_ne_cell (fun e => h (congrArg Prod.fst e)) _ _)
theorem own_zero (c : Dev nD) : Own c 0 := fun g hg => absurd rfl hg
theorem own_TT (c : Dev nD) : Own c (TT c) := by
  refine own_add (own_tally c _ _) (own_add (own_tally c _ _) (own_add (own_tally c _ _) (own_add (own_tally c _ _) (own_add (own_tally c _ _)
    (own_add (own_tally c _ _) (own_add (own_tally c _ _) ?_))))))
  unfold TC; split
  · exact own_zero c
  · split
    · next h => subst h; exact own_add (own_tally _ _ _) (own_tally _ _ _)
    · exact own_add (own_tally c _ _) (own_add (own_tally c _ _) (own_tally c _ _))

theorem credTC (c : Dev nD) : (cred (TC c) : sProp 𝕄) ⊢ CD c := by
  unfold TC CD; split
  · iintro -; iempintro
  · split
    · exact (cred_add _ _).1
    · exact (cred_add _ _).1.trans (sep_mono_right (cred_add _ _).1)

theorem creds (c : Dev nD) : (Pipeline.launchCred O₀ c : sProp 𝕄) ⊢ Creds c := by
  rw [Pipeline.launchCred_of_sum O₀ TT sum_owed own_TT]
  unfold TT Creds
  have s {P : sProp 𝕄} {a b : CellTallies nD τ sig Unit} (h : (cred b : sProp 𝕄) ⊢ P) : (cred (a + b) : sProp 𝕄) ⊢ iprop(cred a ∗ P) :=
    (cred_add _ _).1.trans (sep_mono_right h)
  exact s (s (s (s (s (s (s (credTC c)))))))

end Cert.KernelIdeal.Attn
-- ==== Proof.AttnIdeal.Launch.lean ====
/- The region of the launch: its windows are their whole arrays, its data, its body obligation. -/
module

public import proofs.«01_k».proof.Proof.AttnIdeal.Deal
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.RegionTalk

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- What the bodies start from, read off the memory at launch. -/
def inp : Inp F where
  x c := m ((c : Thread nD τ).loc main_arg0)
  wq c := m ((c : Thread nD τ).loc main_arg1)
  wo c := m ((c : Thread nD τ).loc main_arg4)
  kg c := V m c main_v2
  vg c := V m c main_v4

/-! ## The windows' blocks are their whole arrays -/

theorem iblk0 (c : Dev nD) (t : Fin cfg0.N) : iblk m c 0 t = (inp m).x c := by
  obtain rfl := fin_N0 t
  have hz : (fun a => (win0_0.index t0_0) a * main_arg0.ty.shape.size a) = fun _ => 0 := funext fun a => by fin_cases a <;> decide
  have hr := fun f => Memref.read_access_unit_zero (Elt F) main_arg0 hz (fun a => by fin_cases a <;> decide) f
  exact (hr _).trans (V_main_arg0 m c)
theorem iblk1 (c : Dev nD) (t : Fin cfg0.N) : iblk m c 1 t = (inp m).wq c := by
  obtain rfl := fin_N0 t
  have hz : (fun a => (win0_1.index t0_0) a * main_arg1.ty.shape.size a) = fun _ => 0 := funext fun a => by fin_cases a <;> decide
  have hr := fun f => Memref.read_access_unit_zero (Elt F) main_arg1 hz (fun a => by fin_cases a <;> decide) f
  exact (hr _).trans (V_main_arg1 m c)
theorem iblk2 (c : Dev nD) (t : Fin cfg0.N) : iblk m c 2 t = (inp m).wo c := by
  obtain rfl := fin_N0 t
  have hz : (fun a => (win0_2.index t0_0) a * main_arg4.ty.shape.size a) = fun _ => 0 := funext fun a => by fin_cases a <;> decide
  have hr := fun f => Memref.read_access_unit_zero (Elt F) main_arg4 hz (fun a => by fin_cases a <;> decide) f
  exact (hr _).trans (V_main_arg4 m c)
theorem read3 (t : Fin cfg0.N) (f : S2x512x768.Idx → Elt F .f32) : ((cfg0.win 3).blk t).view.read (Elt F) f = f := by
  obtain rfl := fin_N0 t
  have hz : (fun a => (win0_3.index t0_0) a * main_v5.ty.shape.size a) = fun _ => 0 := funext fun a => by fin_cases a <;> decide
  exact Memref.read_access_unit_zero (Elt F) main_v5 hz (fun a => by fin_cases a <;> decide) f

/-! ## The region's data -/

/-- The keys and values of the shard, held beside the windows. -/
def Side (c : Dev nD) : sProp 𝕄 := iprop(pt c kgM ((inp m).kg c) ∗ pt c vgM ((inp m).vg c))
/-- What the launch gives the protocol on device `c`. -/
def Tk (c : Dev nD) : sProp 𝕄 :=
  iprop((∃ K, allInv (inp m) K ∗ barR) ∗ atPos ER (bc c) 0 ∅ 0 ∗ opens c ∗ Toks c ∗ Creds c)
/-- The same with the cells open. -/
def Xk (c : Dev nD) : sProp 𝕄 :=
  iprop((∃ K, allInv (inp m) K ∗ barR) ∗ atPos ER (bc c) 0 ∅ 0 ∗ (ownR c ∗ posns c ∅) ∗ Toks c ∗ Creds c ∗ levAts L lv)
def Yk (c : Dev nD) : sProp 𝕄 := semVal (bc c) 0

def Φin (c : Dev nD) : sProp 𝕄 := iprop(Xk m c ∗ Side m c ∗ Scr c ∗ ∃ r, prngReg c r)
def Φout (c : Dev nD) : sProp 𝕄 := iprop(Yk c ∗ zeros c ∗ Side m c ∗ Scr c ∗ ∃ r, prngReg c r)

def dat0 (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun _ => OUT (inp m) c
    | ⟨_ + 4, h⟩ => absurd h (Nat.not_lt.2 (Nat.le_add_left _ _))
  Φ t := if t.val = 0 then Φin m c else Φout m c
  q _ := fullShare
  owed t := if t.val = 0 then O₀ c else 0

abbrev pdats : (p : Fin 1) → (c : Dev nD) → Dat τ (Elt F) Unit ℕ UU ℕ (cfgs p) c := fun _ c => dat0 m c

theorem Φ_eq (c : Dev nD) (t : Fin (cfg0.N + 1)) : (dat0 m c).Φ t = if t.val = 0 then Φin m c else Φout m c := rfl
theorem owed_eq (c : Dev nD) (t : Fin (cfg0.N + 1)) : (dat0 m c).owed t = if t.val = 0 then O₀ c else 0 := rfl
theorem succ_ne : (t0_0.succ : Fin (grid0.N + 1)).val ≠ 0 := by rw [Fin.val_succ]; exact Nat.succ_ne_zero _
theorem last_ne : (Fin.last grid0.N).val ≠ 0 := by rw [Fin.val_last, N_0]; decide
theorem Φ_first (c : Dev nD) : (dat0 m c).Φ t0_0.castSucc = Φin m c := (Φ_eq m c _).trans (if_pos rfl)
theorem Φ_zero (c : Dev nD) : (dat0 m c).Φ 0 = Φin m c := (Φ_eq m c _).trans (if_pos rfl)
theorem Φ_next (c : Dev nD) : (dat0 m c).Φ t0_0.succ = Φout m c := (Φ_eq m c _).trans (if_neg succ_ne)
theorem Φ_last (c : Dev nD) : (dat0 m c).Φ (Fin.last cfg0.N) = Φout m c := (Φ_eq m c _).trans (if_neg last_ne)
theorem owed_first (c : Dev nD) : (dat0 m c).owed t0_0.castSucc = O₀ c := (owed_eq m c _).trans (if_pos rfl)
theorem owed_zero (c : Dev nD) : (dat0 m c).owed 0 = O₀ c := (owed_eq m c _).trans (if_pos rfl)
theorem owed_next (c : Dev nD) : (dat0 m c).owed t0_0.succ = 0 := (owed_eq m c _).trans (if_neg succ_ne)
theorem owed_last (c : Dev nD) : (dat0 m c).owed (Fin.last cfg0.N) = 0 := (owed_eq m c _).trans (if_neg last_ne)

theorem before0 (c : Dev nD) (t : Fin cfg0.N) (d) : (dat0 m c).before 0 t d = (inp m).x c := by
  rw [← iblk0 m c t]; unfold Dat.before; rw [if_pos (fetch0_0 t)]; rfl
theorem before1 (c : Dev nD) (t : Fin cfg0.N) (d) : (dat0 m c).before 1 t d = (inp m).wq c := by
  rw [← iblk1 m c t]; unfold Dat.before; rw [if_pos (fetch0_1 t)]; rfl
theorem before2 (c : Dev nD) (t : Fin cfg0.N) (d) : (dat0 m c).before 2 t d = (inp m).wo c := by
  rw [← iblk2 m c t]; unfold Dat.before; rw [if_pos (fetch0_2 t)]; rfl

/-- The result array ends at the result. -/
theorem arrAt3 (c : Dev nD) : (dat0 m c).arrAt 3 cfg0.N = OUT (inp m) c := by
  have h := (dat0 m c).read_blk_arrAt 3 (OUT (inp m) c) (fun t _ => by rw [read3]; rfl) t0_0 (flush0_3 _)
  rw [read3, read3] at h
  exact h

/-! ## The body obligation -/

theorem owes_in (c : Dev nD) (t : Fin (cfg0.N + 1)) (O : CellTallies nD τ sig Unit) (h : (dat0 m c).owed t = O) :
    (ow c O : sProp 𝕄) ⊢ ((dat0 m c).owesAt () t : sProp 𝕄) := by
  unfold Dat.owesAt Pipeline.owesWithin Dat.bound
  rw [h, show (dat0 m c).recorded t = Set.univ from rfl]
  iintro ⟨%W, HO⟩
  iexists W
  isplitr
  · ipureintro; exact fun _ _ => Or.inl trivial
  · iexact HO
theorem owes_out (c : Dev nD) (t : Fin (cfg0.N + 1)) (O : CellTallies nD τ sig Unit) (h : (dat0 m c).owed t = O) :
    ((dat0 m c).owesAt () t : sProp 𝕄) ⊢ (ow c O : sProp 𝕄) := by
  unfold Dat.owesAt Pipeline.owesWithin
  rw [h]
  iintro ⟨%W, -, HO⟩
  iexists W
  iexact HO

set_option maxHeartbeats 1000000 in
theorem body0 (c : Dev nD) : BodyObligation (dat0 m c) (defs₀ (F := F)) 𝒱₀ () Set.univ := fun t => by
  obtain rfl := fin_N0 t
  rw [bigSep_W0, bigSep_W0, Φ_first, Φ_next]
  simp only [before0, before1, before2]
  unfold Φin Φout Xk Side
  iintro ⟨⟨⟨⟨%K, #HI, #HB⟩, Hat, ⟨#HR, Hp⟩, HT, HC, #Hlev⟩, ⟨Hkg, Hvg⟩, HS, Hr⟩, HO, ⟨%d0, Hx⟩, ⟨%d1, Hwq⟩, ⟨%d2, Hwo⟩, ⟨%d3, Ho⟩⟩
  ihave HO := (owes_out m c _ (O₀ c) (owed_first m c)) $$ HO
  iapply (wp_fupd _ _ _ _ _)
  iapply (body_spec (inp m) K c) $$ [Hat Hp HT HC Hkg Hvg HS HO Hx Hwq Hwo Ho]
  · iframe HI HR HB Hlev HT HC Hat Hp HO Hkg Hvg HS
    isplitl [Hx]; · iapply (Entails.of_eq (owns_whole (c : Thread nD τ) cc0_stg0_0 fullShare _)) $$ Hx
    isplitl [Hwq]; · iapply (Entails.of_eq (owns_whole (c : Thread nD τ) cc0_stg1_0 fullShare _)) $$ Hwq
    isplitl [Hwo]; · iapply (Entails.of_eq (owns_whole (c : Thread nD τ) cc0_stg2_0 fullShare _)) $$ Hwo
    iexists ((dat0 m c).before 3 t0_0 d3); iapply (Entails.of_eq (owns_whole (c : Thread nD τ) cc0_stg3_0 fullShare _)) $$ Ho
  iintro ⟨Hat, Hp, HO, Hx, Hwq, Hwo, Ho, Hkg, Hvg, HS⟩
  imod (close_all (inp m) K c) $$ [Hp] with Hz
  · iframe HI Hp
  imod (close_bar (inp m) K c) $$ [Hat] with Hb
  · iframe HI Hat
  imodintro
  isplitl [Hz Hb Hkg Hvg HS Hr]
  · unfold Yk; iframe Hz Hb Hkg Hvg HS Hr
  isplitl [HO]; · iapply (owes_in m c _ 0 (owed_next m c)) $$ HO
  isplitl [Hx]; · iapply (Entails.of_eq ((congrArg _ (iblk0 m c t0_0).symm).trans (owns_whole (c : Thread nD τ) cc0_stg0_0 fullShare (iblk m c 0 t0_0)).symm)) $$ Hx
  isplitl [Hwq]; · iapply (Entails.of_eq ((congrArg _ (iblk1 m c t0_0).symm).trans (owns_whole (c : Thread nD τ) cc0_stg1_0 fullShare (iblk m c 1 t0_0)).symm)) $$ Hwq
  isplitl [Hwo]; · iapply (Entails.of_eq ((congrArg _ (iblk2 m c t0_0).symm).trans (owns_whole (c : Thread nD τ) cc0_stg2_0 fullShare (iblk m c 2 t0_0)).symm)) $$ Hwo
  iapply (Entails.of_eq (owns_whole (c : Thread nD τ) cc0_stg3_0 fullShare (OUT (inp m) c)).symm) $$ Ho

end Cert.KernelIdeal.Attn
-- ==== Proof.AttnIdeal.Region.lean ====
/- The region between its entry and its exit, and the whole program as its two segments. -/
module

public import proofs.«01_k».proof.Proof.AttnIdeal.Launch

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The buffers at the region's entry, and at its exit: the result's array holds the result. -/
def W (c : Dev nD) : Valuation τ sig (Elt F) := StableHlo.after hostOps0 (fun b => m (c, b))
def W' (c : Dev nD) : Valuation τ sig (Elt F) := Function.update (W m c) (Proc.devRef .tc main_v5) (OUT (inp m) c)

/-- The windows' arrays; the buffers beside them; those of them the body reads. -/
abbrev Ar : Finset (DevRef τ sig) := Pipeline.arrRefs (τ := τ) spec0
abbrev Sr : Finset (DevRef τ sig) :=
  {Proc.devRef .tc main_arg2, Proc.devRef .tc main_arg3, Proc.devRef .tc main_v1, Proc.devRef .tc main_v2, Proc.devRef .tc main_v3, Proc.devRef .tc main_v4}
abbrev Hs : Finset (DevRef τ sig) := {Proc.devRef .tc main_v2, Proc.devRef .tc main_v4}

theorem Hs_sub : Hs ⊆ Sr := by decide
theorem Ar_eq : Ar = {Proc.devRef .tc main_arg0, Proc.devRef .tc main_arg1, Proc.devRef .tc main_arg4, Proc.devRef .tc main_v5} := by decide
theorem Ar_sub : Ar ⊆ Pipeline.ucRefs τ sig := by rw [Ar_eq]; decide
theorem rest_eq : Pipeline.ucRefs τ sig \ Ar = Sr := by rw [Ar_eq]; decide +kernel

theorem W'_of_ne (c : Dev nD) (b : DevRef τ sig) (h : b ≠ Proc.devRef .tc main_v5) : W' m c b = W m c b := Function.update_of_ne h _ _
theorem W'_v5 (c : Dev nD) : W' m c (Proc.devRef .tc main_v5) = OUT (inp m) c := Function.update_self ..

theorem held_split (c : Dev nD) (V : Valuation τ sig (Elt F)) :
    (StableHlo.held (c.tc : Thread nD τ) (Pipeline.ucRefs τ sig) V : sProp 𝕄)
      = iprop(StableHlo.held (c.tc : Thread nD τ) Ar V ∗ StableHlo.held (c.tc : Thread nD τ) Sr V) := by
  rw [StableHlo.held_sub_split (c.tc : Thread nD τ) Ar_sub V, rest_eq]
theorem held_Hs (c : Dev nD) (V : Valuation τ sig (Elt F)) :
    (StableHlo.held (c.tc : Thread nD τ) Hs V : sProp 𝕄)
      = iprop(pt c kgM (V (Proc.devRef .tc main_v2)) ∗ pt c vgM (V (Proc.devRef .tc main_v4))) := by
  unfold StableHlo.held
  rw [bigSep_eq_bigSepL_of_eq [Proc.devRef .tc main_v2, Proc.devRef .tc main_v4] (by decide) (by decide)]
  rfl

/-! ## The region -/

abbrev adm : (p : Fin 1) → (pcfgs (F := F) p).Adm := fun p => (cfgs p).toPCfg_adm

theorem open0 (c : Dev nD) : iprop(Tk m c ∗ Pipeline.ownSems0 osem c ∗ levAts L lv) ⊢ (iprop(|={Set.univ}=> Xk m c) : sProp 𝕄) := by
  rw [show (Pipeline.ownSems0 osem c : sProp 𝕄) = zeros c from rfl]
  unfold Tk Xk
  iintro ⟨⟨⟨%K, #HI, #HB⟩, Hat, Ho, HT, HC⟩, Hz, #Hlev⟩
  imod (open_all (inp m) K c) $$ [Ho Hz] with H
  · iframe HI Ho Hz
  imodintro
  isplitr
  · iexists K; iframe HI HB
  iframe Hat H HT HC Hlev

theorem in0 (c : Dev nD) : iprop(Pipeline.scopedRest (Pipeline.pin (pcfgs (F := F)) adm 0).spec c ∗ (∃ r, prngReg c r) ∗ StableHlo.held (c.tc : Thread nD τ) Hs (W m c) ∗ Xk m c)
    ⊢ (pdats m 0 c).Φ 0 := by
  rw [show (pdats m 0 c).Φ 0 = Φin m c from Φ_zero m c,
    show (Pipeline.scopedRest (Pipeline.pin (pcfgs (F := F)) adm 0).spec c : sProp 𝕄) = Scr c from scopedRest0_eq c, held_Hs]
  unfold Φin Side
  iintro ⟨Hs, Hp, ⟨Hk, Hv⟩, HX⟩
  isplitl [HX]; · iexact HX
  isplitl [Hk Hv]
  · isplitl [Hk]
    · iexact Hk
    · iexact Hv
  isplitl [Hs]
  · iexact Hs
  · iexact Hp

theorem out0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (W' m c)
      ∗ Pipeline.ownSems0 osem c ∗ Yk c) := by
  rw [show (pdats m 0 c).Φ (Fin.last (Pipeline.pin (pcfgs (F := F)) adm 0).N) = Φout m c from Φ_last m c,
    show (Pipeline.scopedRest (Pipeline.pin (pcfgs (F := F)) adm 0).spec c : sProp 𝕄) = Scr c from scopedRest0_eq c, held_Hs,
    show (Pipeline.ownSems0 osem c : sProp 𝕄) = zeros c from rfl,
    W'_of_ne m c _ (by decide : (Proc.devRef .tc main_v2 : DevRef τ sig) ≠ Proc.devRef .tc main_v5),
    W'_of_ne m c _ (by decide : (Proc.devRef .tc main_v4 : DevRef τ sig) ≠ Proc.devRef .tc main_v5)]
  unfold Φout Side
  iintro ⟨HY, Hz, ⟨Hk, Hv⟩, Hs, Hp⟩
  isplitl [Hs]; · iexact Hs
  isplitl [Hp]; · iexact Hp
  isplitl [Hk Hv]
  · isplitl [Hk]
    · iexact Hk
    · iexact Hv
  isplitl [Hz]
  · iexact Hz
  · iexact HY

theorem rest0 (c : Dev nD) : ∀ b ∈ Sr \ Hs, W' m c b = W m c b := fun b hb =>
  W'_of_ne m c b (by rintro rfl; exact absurd (Finset.mem_sdiff.mp hb).1 (by decide))

theorem arr_out (c : Dev nD) (w : Fin cfg0.W) : (dat0 m c).arrAt w cfg0.N = W' m c (Proc.devRef .tc (Pipeline.arrRef spec0 w)) :=
  match w with
  | 0 => ((dat0 m c).arrAt_in 0 rfl _).trans (W'_of_ne m c (Proc.devRef .tc main_arg0) (by decide)).symm
  | 1 => ((dat0 m c).arrAt_in 1 rfl _).trans (W'_of_ne m c (Proc.devRef .tc main_arg1) (by decide)).symm
  | 2 => ((dat0 m c).arrAt_in 2 rfl _).trans (W'_of_ne m c (Proc.devRef .tc main_arg4) (by decide)).symm
  | 3 => (arrAt3 m c).trans (W'_v5 m c).symm
  | ⟨_ + 4, h⟩ => absurd h (Nat.not_lt.2 (Nat.le_add_left _ _))

theorem cut0 (c : Dev nD) (t : Fin (cfg0.N + 1)) (g : GSem nD τ sig) (i : Unit) (h : 0 < (dat0 m c).owed t g i) : i ∈ L g ∧ (0 : ℕ) < lv g i := by
  rw [owed_eq] at h
  split at h
  · have h' := above_O₀ c g i h
    exact ⟨by unfold L; rw [if_pos h'.1]; exact Finset.mem_singleton_self _, h'.2⟩
  · exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    Hs Sr Hs_sub launch0.toP rfl (fun c => (body0 m c).loose)
    (fun _ => 0) O₀ (fun c => (owed_zero m c).trans (zero_add _).symm) (owed_last m) (fun _ => rfl) (fun c w => (dat0 m c).share_full (fun _ => rfl) w)
    (W m) (W' m) (rest0 m)
    (Tk m) Yk (Xk m) Yk (open0 m) (in0 m) (out0 m)
    (fun c => by iintro H; imodintro; iexact H)
    (fun _ => 0)
    ⟨fun c w s => by rw [L_tc]; exact Finset.mem_singleton_self _,
      fun c w s => by fin_cases w <;> fin_cases s <;> exact Nat.le_refl 0,
      fun c t g i h => cut0 m c t g i h⟩
    (fun _ => iprop(emp))
    (fun _ _ => rfl) (arr_out m)

/-- What the launch gives device `c` besides its buffers. -/
def R (c : Dev nD) : sProp 𝕄 := iprop(Tk m c ∗ (∃ r, prngReg c r) ∗ ow c (O₀ c))

def seg0 : ℍ := Pipeline.HostSeg.ofOps _ _ _ _ _ (Pipeline.ucRefs τ sig) hostOps0
  (fun op h => Pipeline.sub_ucRefs op ((List.forall_iff_forall_mem.mp hostOps0_sub) op h))
  (fun op h => (List.forall_iff_forall_mem.mp hostOps0_fresh) op h) (fun c b => m (c, b)) (R m)

theorem reg0_pre (c : Dev nD) : iprop(StableHlo.held (c.tc : Thread nD τ) (Pipeline.ucRefs τ sig) (W m c) ∗ R m c) ⊢ (reg0 m).pre c := by
  show _ ⊢ iprop(StableHlo.held (c.tc : Thread nD τ) Ar (W m c) ∗ (∃ r, prngReg c r)
    ∗ (StableHlo.held (c.tc : Thread nD τ) Sr (W m c) ∗ emp) ∗ Tk m c ∗ ∃ Wd, owes (c : Thread nD τ) (0 + O₀ c) Wd)
  rw [held_split, zero_add]
  unfold R
  iintro ⟨⟨Ha, Hs⟩, HT, Hp, HO⟩
  iframe Ha Hp HT HO Hs

abbrev Tₙ (c : Dev nD) : sProp 𝕄 :=
  iprop(StableHlo.held (c.tc : Thread nD τ) Ar (W' m c) ∗ StableHlo.held (c.tc : Thread nD τ) Sr (W' m c) ∗ semVal (bc c) 0)

theorem reg0_post (c : Dev nD) : (reg0 m).post c ⊢ iprop(Tₙ m c ∗ ∃ Wd, owes (c : Thread nD τ) (0 : CellTallies nD τ sig Unit) Wd) := by
  show iprop(StableHlo.held (c.tc : Thread nD τ) Ar (W' m c) ∗ (∃ r, prngReg c r)
    ∗ (StableHlo.held (c.tc : Thread nD τ) Sr (W' m c) ∗ emp) ∗ Yk c ∗ ∃ Wd, owes (c : Thread nD τ) (0 : CellTallies nD τ sig Unit) Wd) ⊢ _
  unfold Yk
  iintro ⟨Ha, -, ⟨Hs, -⟩, Hb, HO⟩
  iframe Ha Hs Hb HO

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

end Cert.KernelIdeal.Attn
-- ==== Proof.AttnIdeal.Run.lean ====
/- The launch dealt to the devices, and the run of the whole program. -/
module

public import proofs.«01_k».proof.Proof.AttnIdeal.Region
public import Idealize.ShloMosaic.Lib.Pipeline.Regions

@[expose] public section

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The launch element: the pipeline's cells, the protocol's cells and tokens. -/
def u₀ : UU :=
  (initOf (Pipeline.cells (Pipeline.pin (pcfgs (F := F)) adm) cellOf_inj) (Pipeline.launchToks (Pipeline.pin (pcfgs (F := F)) adm) cellOf_inj),
    launchOf barCells dcCells toks)

/-- A resource given to the family of devices by giving it to device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells dcCells toks)))

/-- All the invariants; every barrier open. -/
def records (κ : GSem nD τ sig → ℕ) : sProp 𝕄 := iprop(allInv (inp m) κ ∗ barR)
instance records_persistent (κ : GSem nD τ sig → ℕ) : BI.Persistent (records m κ) := by unfold records; infer_instance

/-- What goes to device `c` of the protocol; what it has besides. -/
def mine (c : Dev nD) : sProp 𝕄 := iprop(atPos ER (bc c) 0 ∅ 0 ∗ opens c ∗ Toks c)
def rest (c : Dev nD) : sProp 𝕄 :=
  iprop(StableHlo.held (c.tc : Thread nD τ) (Pipeline.ucRefs τ sig) (fun b => m (c, b)) ∗ Creds c ∗ (∃ r, prngReg c r) ∗ ow c (O₀ c))

abbrev T₀ (c : Dev nD) : sProp 𝕄 := iprop(StableHlo.held (c.tc : Thread nD τ) (Pipeline.ucRefs τ sig) (fun b => m (c, b)) ∗ R m c)

theorem T₀_of (κ : GSem nD τ sig → ℕ) (c : Dev nD) : iprop(records m κ ∗ mine c ∗ rest m c) ⊢ T₀ m c := by
  unfold records mine rest T₀ R Tk
  iintro ⟨⟨#HI, #HB⟩, ⟨Hat, Ho, HT⟩, Hh, HC, Hp, HO⟩
  isplitl [Hh]; · iexact Hh
  isplitl [Hat Ho HT HC]
  · isplitr
    · iexists κ; iframe HI HB
    iframe Hat Ho HT HC
  isplitl [Hp]
  · iexact Hp
  · iexact HO

theorem sems_eq (c : Dev nD) : (unscopedSems0 c : sProp 𝕄) = semVal (bc c) 0 := by
  unfold unscopedSems0
  rw [show (Finset.univ.filter fun sm : SemLoc sig => ¬ sm.isScoped .tc) = {SemLoc.reg barrier0} from by decide +kernel, bigSep_singleton]

theorem inv_all (κ : GSem nD τ sig → ℕ) :
    (bigSep (barCells ∪ dcCells) fun g => (cellInv ER (sched (inp m)) (κ g) g : sProp 𝕄)) ⊢ allInv (inp m) κ := by
  unfold allInv
  rw [bigSep_union disjoint_cells, bigSep_map, bigSep_map, bigSep_univ_prod]
  exact bigSep_pair

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (iprop(|={Set.univ}=> bigSep Finset.univ (T₀ m)) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (bc c) 0 ∗ G c)) : sProp 𝕄) := by
    rw [show unscopedBufs c (fun b => m ((c : Thread nD τ).loc b)) = StableHlo.held (c.tc : Thread nD τ) (Pipeline.ucRefs τ sig) (fun b => m (c, b)) from
        Pipeline.unscopedBufs_held c (fun b => m (c, b)), sems_eq]
    unfold rest
    iintro ⟨Hh, Hb, HO, Hcr, Hp, HG⟩
    ihave HC := (creds c) $$ Hcr
    isplitl [Hh HC HO Hp]
    · isplitl [Hh]; · iexact Hh
      isplitl [HC]; · iexact HC
      isplitl [Hp]; · iexists (ρ c); iexact Hp
      iexists ∅; iexact HO
    isplitl [Hb]
    · iexact Hb
    · iexact HG
  have hv : bigSep Finset.univ (fun c : Dev nD => (semVal (bc c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ barR :=
    Entails.of_eq (bigSep_map (s := Finset.univ) barEmb (Φ := fun g : GSem nD τ sig => (reached ER g 0 : sProp 𝕄)))
  have hopen : bigSep dcCells (fun g => (openTok ER g : sProp 𝕄)) ⊢ bigSep Finset.univ (fun c : Dev nD => opens c) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (bc c) 0 ∗ G c)) : sProp 𝕄) from bigSep_mono fun c _ => hcore c) $$ H
  ihave H := bigSep_unpair $$ H
  icases H with ⟨HB, H⟩
  ihave H := bigSep_unpair $$ H
  icases H with ⟨Hv, HG⟩
  ihave Hu := (show bigSep Finset.univ (G (F := F)) ⊢ BI.own (ER (launchOf barCells dcCells toks)) from
    Entails.of_eq (bigSep_atZero (F := F) (BI.own (ER (launchOf barCells dcCells toks))))) $$ HG
  imod (Rounds.fund_launch ER (sched (inp m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine c ∗ rest m c)) fun c _ => T₀_of m κ c)
  isplitr
  · unfold records
    isplitr
    · iapply (inv_all m κ); iexact Hinv
    · iapply hr; iexact Hr
  iapply bigSep_pair
  isplitr [HB]
  · unfold mine
    iapply bigSep_pair
    isplitl [Hat]; · iapply hat $$ Hat
    iapply bigSep_pair
    isplitl [Hopen]; · iapply hopen $$ Hopen
    iapply (deal (F := F))
    iapply (toks_eq (F := F)) $$ Htok
  · iexact HB

theorem unscoped_bar : ∀ sm : SemLoc sig, sm.isScoped .tc = false → sm = .reg barrier0 := by decide +kernel

theorem held_Ar (c : Dev nD) (V : Valuation τ sig (Elt F)) :
    (StableHlo.held (c.tc : Thread nD τ) Ar V : sProp 𝕄)
      = iprop(pt c (Memref.whole main_arg0) (V (Proc.devRef .tc main_arg0)) ∗ pt c (Memref.whole main_arg1) (V (Proc.devRef .tc main_arg1))
        ∗ pt c (Memref.whole main_arg4) (V (Proc.devRef .tc main_arg4)) ∗ pt c (Memref.whole main_v5) (V (Proc.devRef .tc main_v5))) := by
  unfold StableHlo.held
  rw [Ar_eq, bigSep_eq_bigSepL_of_eq [Proc.devRef .tc main_arg0, Proc.devRef .tc main_arg1, Proc.devRef .tc main_arg4, Proc.devRef .tc main_v5] (by decide) (by decide)]
  rfl
theorem held_Sr (c : Dev nD) (V : Valuation τ sig (Elt F)) :
    (StableHlo.held (c.tc : Thread nD τ) Sr V : sProp 𝕄)
      ⊢ iprop(pt c (Memref.whole main_arg2) (V (Proc.devRef .tc main_arg2)) ∗ pt c (Memref.whole main_arg3) (V (Proc.devRef .tc main_arg3))) := by
  unfold StableHlo.held
  rw [bigSep_eq_bigSepL_of_eq [Proc.devRef .tc main_arg2, Proc.devRef .tc main_arg3, Proc.devRef .tc main_v1, Proc.devRef .tc main_v2, Proc.devRef .tc main_v3, Proc.devRef .tc main_v4] (by decide) (by decide)]
  show iprop(pt c (Memref.whole main_arg2) (V (Proc.devRef .tc main_arg2)) ∗ pt c (Memref.whole main_arg3) (V (Proc.devRef .tc main_arg3))
    ∗ bigSepL [Proc.devRef .tc main_v1, Proc.devRef .tc main_v2, Proc.devRef .tc main_v3, Proc.devRef .tc main_v4] (fun b => ((c.tc : Thread nD τ).1, b) ↦{fullShare} V b)) ⊢ _
  iintro ⟨H2, H3, -⟩
  isplitl [H2]
  · iexact H2
  · iexact H3

set_option backward.isDefEq.respectTransparency.types false in
/-- Every run ends with the arguments as launched, the result of each device at its place, every counter at zero. -/
theorem run_main : θ_run defs (onTc (τ := τ) (main (F := F))) (s₀ m ρ)
    (fun r => (∀ c : Dev nD, r.2.mem ((c : Thread nD τ).loc main_v5) = OUT (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_v5) = OUT (inp m) c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4)) ∧ s.sem (bc c) = 0)
    (hfin := fun c s' => by
      dsimp only [Tₙ]
      rw [held_Ar, W'_v5, W'_of_ne m c (Proc.devRef .tc main_arg0) (by decide), W'_of_ne m c (Proc.devRef .tc main_arg1) (by decide), W'_of_ne m c (Proc.devRef .tc main_arg4) (by decide)]
      iintro ⟨⟨⟨H0, H1, H4, H5⟩, Hs, Hb⟩, HSI⟩
      ihave Hs := (held_Sr c (W' m c)) $$ Hs
      icases Hs with ⟨H2, H3⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, (Buf.eq_of_forall_mem_univ h0).trans (V_main_arg0 m c), (Buf.eq_of_forall_mem_univ h1).trans (V_main_arg1 m c),
          (Buf.eq_of_forall_mem_univ h2).trans ((W'_of_ne m c (Proc.devRef .tc main_arg2) (by decide)).trans (V_main_arg2 m c)),
          (Buf.eq_of_forall_mem_univ h3).trans ((W'_of_ne m c (Proc.devRef .tc main_arg3) (by decide)).trans (V_main_arg3 m c)),
          (Buf.eq_of_forall_mem_univ h4).trans (V_main_arg4 m c)⟩, by simpa using hb⟩
      iexact HSI)
    (hQ := fun s h hs => ⟨fun c => (h c).1,
      sem_eq_zero hs fun c sm hsm => by
        obtain rfl := unscoped_bar sm hsm
        exact (h c).2⟩)

end Cert.KernelIdeal.Attn
-- ==== Proof.Value.Alg.lean ====
/- Sums, exponentials and quotients over the extended reals where every factor but the values is real: the softmax with and without
   the largest score taken off, and the normalisation taken into a sum. -/
module

public import Idealize.ShloMosaic.Lib.Pointwise

@[expose] public section

noncomputable section

namespace Cert.Softmax

open Idealize.ShloMosaic

/-- A finite sum of reals, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A nonnegative real factor goes into a sum of extended reals. -/
theorem sum_mul_real {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert a s h ih =>
    rw [Finset.sum_insert h, Finset.sum_insert h, ← ih, mul_comm, EReal.left_distrib_of_nonneg_of_ne_top (EReal.coe_nonneg.2 hr) (EReal.coe_ne_top r), mul_comm, mul_comm (r : EReal)]

/-- A quotient of reals by a real other than 0 is the real quotient. -/
theorem div_coe (a z : ℝ) (hz : z ≠ 0) : Ideal.div (a : EReal) (z : EReal) = ((a / z : ℝ) : EReal) := by
  unfold Ideal.div
  rw [if_neg (by exact_mod_cast hz), ← EReal.coe_inv, ← EReal.coe_mul, div_eq_mul_inv]

/-- The word of minus infinity. -/
theorem neg_inf : Ideal.ofBits .f32 0xFF800000#32 = ⊥ := by
  simp [Ideal.ofBits, Ideal.ieee]

/-- The factor of the scores is a real number. -/
theorem scale_real : ∃ r : ℝ, Ideal.ofBits .f32 0x3E000000#32 = (r : EReal) := by
  simp [Ideal.ofBits, Ideal.ieee]
  exact ⟨_, rfl⟩

variable {n : ℕ} (A : Fin n → Prop) [DecidablePred A] (σ : Fin n → ℝ)

/-- The weight of key `k` before the normalisation: the exponential of its score, nothing for a masked key. -/
def W (k : Fin n) : ℝ := if A k then Real.exp (σ k) else 0

/-- Weights are nonnegative. -/
theorem W_nonneg (k : Fin n) : 0 ≤ W A σ k := by
  unfold W; split
  · exact (Real.exp_pos _).le
  · exact le_rfl

/-- The sum of the weights is positive where one key is allowed. -/
theorem Z_pos (k₀ : Fin n) (h₀ : A k₀) : 0 < ∑ k, W A σ k :=
  Finset.sum_pos' (fun k _ => W_nonneg A σ k) ⟨k₀, Finset.mem_univ _, by rw [W, if_pos h₀]; exact Real.exp_pos _⟩

/-- The kernel's exponential: of the score plus nothing, or plus minus infinity. -/
theorem exp_add (k : Fin n) : Ideal.exp ((σ k : EReal) + (if A k then 0 else ⊥)) = (W A σ k : EReal) := by
  unfold W
  split
  · rw [add_zero]; rfl
  · rw [EReal.add_bot]; rfl

/-- The masked scores' largest is a real number, if some key is not masked. -/
theorem max_real (k₀ : Fin n) (h₀ : A k₀) :
    ∃ m : ℝ, Finset.fold max (⊥ : EReal) (fun k => if A k then (σ k : EReal) else ⊥) Finset.univ = (m : EReal) := by
  have e : Finset.fold max (⊥ : EReal) (fun k => if A k then (σ k : EReal) else ⊥) Finset.univ
      = Finset.univ.sup (fun k => if A k then (σ k : EReal) else ⊥) := rfl
  rw [e]
  have ht : Finset.univ.sup (fun k => if A k then (σ k : EReal) else ⊥) ≠ ⊤ := by
    refine ne_of_lt ((Finset.sup_lt_iff (by exact bot_lt_top)).2 fun k _ => ?_)
    split
    · exact EReal.coe_lt_top _
    · exact bot_lt_top
  have hb : Finset.univ.sup (fun k => if A k then (σ k : EReal) else ⊥) ≠ ⊥ := by
    have := Finset.le_sup (f := fun k => if A k then (σ k : EReal) else ⊥) (Finset.mem_univ k₀)
    rw [if_pos h₀] at this
    exact ne_of_gt (lt_of_lt_of_le (EReal.bot_lt_coe _) this)
  exact ⟨_, (EReal.coe_toReal ht hb).symm⟩

/-- The reference's weights: the largest score taken off every score cancels in the quotient. -/
theorem softmax (k₀ : Fin n) (h₀ : A k₀) (s : Fin n → EReal) (hs : ∀ k, s k = if A k then (σ k : EReal) else ⊥) (k : Fin n) :
    Ideal.div (Ideal.exp (s k - Finset.fold max (⊥ : EReal) s Finset.univ)) (∑ l, Ideal.exp (s l - Finset.fold max (⊥ : EReal) s Finset.univ))
      = ((W A σ k / ∑ l, W A σ l : ℝ) : EReal) := by
  obtain rfl : s = fun k => if A k then (σ k : EReal) else ⊥ := funext hs
  obtain ⟨m, hm⟩ := max_real A σ k₀ h₀
  have he : ∀ l, Ideal.exp ((if A l then (σ l : EReal) else ⊥) - (m : EReal)) = ((W A σ l * Real.exp (-m) : ℝ) : EReal) := fun l => by
    unfold W
    split
    · rw [← EReal.coe_sub, ← Real.exp_add, ← sub_eq_add_neg]; rfl
    · rw [EReal.bot_sub, zero_mul]; rfl
  simp only [hm, he]
  have hZ := Z_pos A σ k₀ h₀
  have hp := Real.exp_pos (-m)
  rw [← coe_sum, ← Finset.sum_mul, div_coe _ _ (by positivity)]
  congr 1
  field_simp

/-- The kernel's normalisation: the reciprocal of the sum goes into the sum of the weighted values. -/
theorem normalize (k₀ : Fin n) (h₀ : A k₀) (v : Fin n → EReal) :
    (∑ k, (W A σ k : EReal) * v k) * Ideal.div 1 (∑ k, (W A σ k : EReal)) = ∑ k, v k * ((W A σ k / ∑ l, W A σ l : ℝ) : EReal) := by
  have hZ := Z_pos A σ k₀ h₀
  rw [← coe_sum, ← EReal.coe_one, div_coe _ _ hZ.ne', sum_mul_real _ _ _ (by positivity)]
  refine Finset.sum_congr rfl fun k _ => ?_
  rw [mul_comm _ (v k), mul_assoc, ← EReal.coe_mul, mul_one_div]

end Cert.Softmax
-- ==== Proof.Value.Mask.lean ====
/- The causal mask over blocks of 64, in integers: the two printed spellings of floor division by 64 are division of naturals. -/
module

public import Idealize.ShloMosaic.Lib.Pointwise

@[expose] public section

noncomputable section

namespace Cert.Softmax

open Idealize.ShloMosaic

/-- Floor division by 64, as a body prints it. -/
def kfl (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- Floor division by 64, as the host program prints it. -/
def hfl (x : BitVec 32) : BitVec 32 :=
  Scalar.select
    (IntOp.andi
      (IntOp.cmpi CmpIPredicate.ne (if x = 0 then (0 : BitVec 32) else if x.msb = true then -1 else 1) (if (64#32) = 0 then (0 : BitVec 32) else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

/-- The body's floor division is that of naturals. -/
theorem kfl_eq : ∀ k : Fin 512, kfl (BitVec.ofNat 32 k.val) = BitVec.ofNat 32 (k.val / 64) := by decide +kernel
/-- So is the host program's. -/
theorem hfl_eq : ∀ k : Fin 2048, hfl (BitVec.ofNat 32 k.val) = BitVec.ofNat 32 (k.val / 64) := by decide +kernel

/-- Key `l` may be attended to from query `i`: its block does not come after. -/
abbrev ok (i : Fin 512) (l : Fin 2048) : Prop := l.val / 64 ≤ i.val / 64

/-- Signed comparison of small numbers is that of naturals. -/
theorem sle_eq : ∀ a b : Fin 32, IntOp.cmpi CmpIPredicate.sle (BitVec.ofNat 32 a.val) (BitVec.ofNat 32 b.val) = if a.val ≤ b.val then 1#1 else 0#1 := by
  decide +kernel

/-- The comparison of two positions' blocks. -/
theorem sle_blocks (i l : ℕ) (hi : i < 2048) (hl : l < 2048) :
    IntOp.cmpi CmpIPredicate.sle (BitVec.ofNat 32 (l / 64)) (BitVec.ofNat 32 (i / 64)) = if l / 64 ≤ i / 64 then 1#1 else 0#1 :=
  sle_eq ⟨l / 64, by omega⟩ ⟨i / 64, by omega⟩

/-- Key 0 may always be attended to. -/
theorem ok_zero (i : Fin 512) : ok i 0 := by unfold ok; simp

/-- A selection by a decided condition. -/
theorem select_if {α : Type} (p : Prop) [Decidable p] (a b : α) : Scalar.select (if p then 1#1 else 0#1) a b = if p then a else b := by
  by_cases h : p <;> simp [Scalar.select, h]

/-- A fold by `or` over bits one of which is set. -/
theorem fold_ori {n : ℕ} (f : Fin n → BitVec 1) (k : Fin n) (h : f k = 1#1) : Finset.fold IntOp.ori (0#1) f Finset.univ = 1#1 := by
  have e : (Finset.univ : Finset (Fin n)) = insert k (Finset.univ.erase k) := (Finset.insert_erase (Finset.mem_univ k)).symm
  rw [e, Finset.fold_insert (Finset.notMem_erase k _), h]
  generalize Finset.fold IntOp.ori (0#1) f (Finset.univ.erase k) = c
  revert c; decide

end Cert.Softmax
-- ==== Proof.Value.Canon.lean ====
/- The attention both programs compute, over the whole arrays and the extended reals: real scores, the causal mask over blocks, the
   weights of the softmax, their products with the values, the output projection. -/
module

public import proofs.«01_k».proof.Proof.Value.Alg
public import proofs.«01_k».proof.Proof.Value.Mask

@[expose] public section

noncomputable section

namespace Cert.Softmax

open Idealize.ShloMosaic

abbrev SX : Shape := ⟨3, ![2, 512, 768]⟩
abbrev SQ : Shape := ⟨2, ![768, 2048]⟩
abbrev SK : Shape := ⟨4, ![2, 2048, 32, 64]⟩
abbrev SO : Shape := ⟨2, ![2048, 768]⟩

/-- The factor of the scores. -/
abbrev c8 : EReal := Ideal.ofBits .f32 0x3E000000#32

/-- Every element is a real number. -/
abbrev Fin' {s : Shape} (f : s.Idx → EReal) : Prop := ∀ j, ∃ r : ℝ, f j = (r : EReal)

variable (x : SX.Idx → EReal) (wq : SQ.Idx → EReal) (k v : SK.Idx → EReal) (wo : SO.Idx → EReal)

/-- The score of key `l` for query `i` in head `h` of batch `b`, before the mask. -/
def sco (b : Fin 2) (h : Fin 32) (i : Fin 512) (l : Fin 2048) : EReal :=
  (∑ d : Fin 64, (∑ j : Fin 768, x (ix3 b i j) * wq (ix2 j ⟨h.val * 64 + d.val, by omega⟩)) * k (ix4 b l h d)) * c8

/-- The same as a real number. -/
def sig (b : Fin 2) (h : Fin 32) (i : Fin 512) (l : Fin 2048) : ℝ := (sco x wq k b h i l).toReal

/-- The weight of key `l`. -/
def wgt (b : Fin 2) (h : Fin 32) (i : Fin 512) (l : Fin 2048) : ℝ :=
  W (ok i) (sig x wq k b h i) l / ∑ l', W (ok i) (sig x wq k b h i) l'

/-- The attention's output, and the projected result. -/
def ctxv (b : Fin 2) (h : Fin 32) (i : Fin 512) (d : Fin 64) : EReal := ∑ l : Fin 2048, v (ix4 b l h d) * (wgt x wq k b h i l : EReal)
/-- One element of the result: the context of every head and column, projected. -/
def outv (b : Fin 2) (i : Fin 512) (e : Fin 768) : EReal :=
  ∑ j : Fin 2048, ctxv x wq k v b ⟨j.val / 64, by omega⟩ i ⟨j.val % 64, by omega⟩ * wo (ix2 j e)

/-- Scaling the queries' weights scales the scores, all being real; and the score is real. -/
theorem sco_alt (hx : Fin' x) (hq : Fin' wq) (hk : Fin' k) (b : Fin 2) (h : Fin 32) (i : Fin 512) (l : Fin 2048) :
    (∑ d : Fin 64, (∑ j : Fin 768, x (ix3 b i j) * (wq (ix2 j ⟨h.val * 64 + d.val, by omega⟩) * c8)) * k (ix4 b l h d)) = (sig x wq k b h i l : EReal)
      ∧ sco x wq k b h i l = (sig x wq k b h i l : EReal) := by
  choose fx ex using hx
  choose fq eq using hq
  choose fk ek using hk
  obtain ⟨r, hr⟩ := scale_real
  have e2 : sco x wq k b h i l = (((∑ d : Fin 64, (∑ j : Fin 768, fx (ix3 b i j) * fq (ix2 j ⟨h.val * 64 + d.val, by omega⟩)) * fk (ix4 b l h d)) * r : ℝ) : EReal) := by
    unfold sco
    simp only [c8, hr, ex, eq, ek, coe_sum, EReal.coe_mul]
  have e3 : sco x wq k b h i l = (sig x wq k b h i l : EReal) := by
    unfold sig
    rw [e2, EReal.toReal_coe]
  refine ⟨?_, e3⟩
  rw [← e3, e2]
  simp only [c8, hr, ex, eq, ek, ← EReal.coe_mul, ← coe_sum]
  congr 1
  rw [Finset.sum_mul]
  refine Finset.sum_congr rfl fun d _ => ?_
  rw [Finset.sum_mul, Finset.sum_mul, Finset.sum_mul]
  refine Finset.sum_congr rfl fun j _ => ?_
  ring

/-- A sum over 2048 columns in four blocks of 512. -/
theorem sum_blocks (f : Fin 2048 → EReal) : ∑ j, f j = ∑ c : Fin 4, ∑ y : Fin 512, f ⟨512 * c.val + y.val, by omega⟩ := by
  rw [← Fintype.sum_prod_type' (f := fun (c : Fin 4) (y : Fin 512) => f ⟨512 * c.val + y.val, by omega⟩)]
  refine (Fintype.sum_equiv (finProdFinEquiv (m := 4) (n := 512)) _ _ fun p => ?_).symm
  congr 1
  exact Fin.ext (by show 512 * p.1.val + p.2.val = p.2.val + 512 * p.1.val; omega)

end Cert.Softmax
-- ==== Proof.Value.Pay.lean ====
/- What each stage of the kernel's body computes, at an index over the extended reals. -/
module

public import proofs.«01_k».proof.Proof.AttnIdeal.Proto
public import proofs.«01_k».proof.Proof.Value.Canon
public import Idealize.ShloMosaic.Lib.Pointwise.IndexBridge

@[expose] public section

set_option maxRecDepth 16384

noncomputable section

namespace Cert.KernelIdeal.Value

open Idealize.ShloMosaic Idealize.ShloMosaic.TcCoe
open Cert.KernelIdeal Cert.KernelIdeal.Gen Cert.KernelIdeal.Attn Cert.Softmax

variable [Facts]

/-! ## Where a rectangle's element lies -/

/-- The rectangle of a batch of the input. -/
theorem rX_ix (b : Fin 2) (i : Fin 512) (j : Fin 768) : (rX b).emb (ix3 0 i j) = ix3 b i j := by
  funext a
  fin_cases a
  · exact Fin.ext (by show b.val + 1 * 0 = b.val; omega)
  · exact Fin.ext (by show 0 + 1 * i.val = i.val; omega)
  · exact Fin.ext (by show 0 + 1 * j.val = j.val; omega)
/-- The rectangle of a head's keys. -/
theorem rK_ix (b : Fin 2) (h : Fin 8) (i : Fin 512) (d : Fin 64) : (rK b h).emb (ix3 0 i d) = ix3 b i ⟨64 * h.val + d.val, by omega⟩ := by
  funext a
  fin_cases a
  · exact Fin.ext (by show b.val + 1 * 0 = b.val; omega)
  · exact Fin.ext (by show 0 + 1 * i.val = i.val; omega)
  · exact Fin.ext (by show 64 * h.val + 1 * d.val = 64 * h.val + d.val; omega)
/-- The rectangle of a head's values at the first 256 positions. -/
theorem rV_ix (b : Fin 2) (h : Fin 8) (i : Fin 256) (d : Fin 64) : (rV b h).emb (ix3 0 i d) = ix3 b ⟨i.val, by omega⟩ ⟨64 * h.val + d.val, by omega⟩ := by
  funext a
  fin_cases a
  · exact Fin.ext (by show b.val + 1 * 0 = b.val; omega)
  · exact Fin.ext (by show 0 + 1 * i.val = i.val; omega)
  · exact Fin.ext (by show 64 * h.val + 1 * d.val = 64 * h.val + d.val; omega)
/-- The rectangle of a chunk of the context. -/
theorem rC_ix (b : Fin 2) (d : Fin 4) (i : Fin 128) (y : Fin 512) : (rC b d).emb (ix3 0 i y) = ix3 b ⟨128 * d.val + i.val, by omega⟩ y := by
  funext a
  fin_cases a
  · exact Fin.ext (by show b.val + 1 * 0 = b.val; omega)
  · exact Fin.ext (by show 128 * d.val + 1 * i.val = 128 * d.val + i.val; omega)
  · exact Fin.ext (by show 0 + 1 * y.val = y.val; omega)

/-! ## The queries and the masks -/

/-- A query is the scaled product of the input and the weights. -/
theorem qv_at (x : S2x512x768.Idx → EReal) (w : S768x512.Idx → EReal) (b : Fin 2) (i c : Fin 512) :
    qv (F := Ideal) x w b (ix2 i c) = ∑ j : Fin 768, x (ix3 b i j) * (w (ix2 j c) * c8) := by
  fin_cases b
  · pointwise [qv, k0_pay3, k0_pay1, k0_pay2, box]
    exact Finset.sum_congr rfl fun j _ => by rw [rX_ix]
  · pointwise [qv, k0_pay4, k0_pay1, box]
    exact Finset.sum_congr rfl fun j _ => by rw [rX_ix]

/-- The mask's constant is minus infinity. -/
theorem mask_val : Named.named (F := Ideal) κ "mask" (φ := .f32) 3463342888#32 = (⊥ : EReal) := rfl

/-- The mask of the upper queries. -/
theorem mT_at (i l : Fin 256) : mT (F := Ideal) (ix2 i l) = if l.val / 64 ≤ i.val / 64 then 0 else ⊥ := by
  pointwise [mT, k0_pay11, k0_pay10, k0_pay6, k0_pay7, k0_pay8, k0_pay9]
  show Scalar.select (IntOp.cmpi CmpIPredicate.sle (kfl (BitVec.ofNat 32 l.val)) (kfl (BitVec.ofNat 32 i.val))) (0 : EReal) ⊥ = _
  rw [kfl_eq ⟨l.val, by omega⟩, kfl_eq ⟨i.val, by omega⟩, sle_blocks i.val l.val (by omega) (by omega), select_if]

/-- The mask of the lower queries. -/
theorem mB_at (i : Fin 256) (l : Fin 512) : mB (F := Ideal) (ix2 i l) = if l.val / 64 ≤ (256 + i.val) / 64 then 0 else ⊥ := by
  pointwise [mB, k0_pay12, k0_pay10, k0_pay6, k0_pay7, k0_pay8, k0_pay9]
  show Scalar.select (IntOp.cmpi CmpIPredicate.sle (kfl (BitVec.ofNat 32 l.val)) (kfl (BitVec.ofNat 32 (256 + i.val)))) (0 : EReal) ⊥ = _
  rw [kfl_eq l, kfl_eq ⟨256 + i.val, by omega⟩, sle_blocks (256 + i.val) l.val (by omega) (by omega), select_if]

/-! ## The attention of one head -/

variable (q : Fin 2 → FVec Ideal S512x512 .bf16) (k v : S2x512x512.Idx → EReal)

/-- The scores of a head, the queries scaled. -/
def ksc (b : Fin 2) (h : Fin 8) (i l : Fin 512) : EReal :=
  ∑ d : Fin 64, q b (ix2 i ⟨64 * h.val + d.val, by omega⟩) * k (ix3 b l ⟨64 * h.val + d.val, by omega⟩)

/-- The exponentials of an upper query's masked scores. -/
theorem p15_at (b : Fin 2) (h : Fin 8) (i l : Fin 256) :
    k0_pay15 (F := Ideal) mT (qh q b h) (kh k b h) (ix2 i l)
      = Ideal.exp (ksc q k b h ⟨i.val, by omega⟩ ⟨l.val, by omega⟩ + if l.val / 64 ≤ i.val / 64 then 0 else ⊥) := by
  pointwise [k0_pay15, qh, kh, k0_pay14, box]
  rw [mT_at]
  simp only [rK_ix]
  rfl

/-- The exponentials of a lower query's masked scores. -/
theorem p16_at (b : Fin 2) (h : Fin 8) (i : Fin 256) (l : Fin 512) :
    k0_pay16 (F := Ideal) mB (qh q b h) (kh k b h) (ix2 i l)
      = Ideal.exp (ksc q k b h ⟨256 + i.val, by omega⟩ l + if l.val / 64 ≤ (256 + i.val) / 64 then 0 else ⊥) := by
  pointwise [k0_pay16, qh, kh, k0_pay14, box]
  rw [mB_at]
  simp only [rK_ix]
  rfl

/-- The stored weights of an upper query. -/
theorem wT_at (b : Fin 2) (h : Fin 8) (i l : Fin 256) :
    wT (F := Ideal) q k ((rWt b h).emb (ix4 0 0 i l)) = k0_pay15 (F := Ideal) mT (qh q b h) (kh k b h) (ix2 i l) := by
  rw [← wT_emb]
  pointwise [wTb, k0_pay19]

/-- The stored weights of a lower query. -/
theorem wB_at (b : Fin 2) (h : Fin 8) (i : Fin 256) (l : Fin 512) :
    wB (F := Ideal) q k ((rWb b h).emb (ix4 0 0 i l)) = k0_pay16 (F := Ideal) mB (qh q b h) (kh k b h) (ix2 i l) := by
  rw [← wB_emb]
  pointwise [wBb, k0_pay20]

/-- The context of an upper query: weights by values, times the reciprocal of the weights' sum. -/
theorem cT_at (b : Fin 2) (h : Fin 8) (i : Fin 256) (d : Fin 64) :
    cT (F := Ideal) q k v b h (ix3 0 i d)
      = (∑ l : Fin 256, k0_pay15 (F := Ideal) mT (qh q b h) (kh k b h) (ix2 i l) * v (ix3 b ⟨l.val, by omega⟩ ⟨64 * h.val + d.val, by omega⟩))
        * Ideal.div 1 (∑ l : Fin 256, k0_pay15 (F := Ideal) mT (qh q b h) (kh k b h) (ix2 i l)) := by
  pointwise [cT, k0_pay151, box, rT, k0_pay17]
  simp only [wT_at, rV_ix]

/-- The context of a lower query, likewise. -/
theorem cB_at (b : Fin 2) (h : Fin 8) (i : Fin 256) (d : Fin 64) :
    cB (F := Ideal) q k v b h (ix3 0 i d)
      = (∑ l : Fin 512, k0_pay16 (F := Ideal) mB (qh q b h) (kh k b h) (ix2 i l) * v (ix3 b l ⟨64 * h.val + d.val, by omega⟩))
        * Ideal.div 1 (∑ l : Fin 512, k0_pay16 (F := Ideal) mB (qh q b h) (kh k b h) (ix2 i l)) := by
  pointwise [cB, k0_pay152, box, rB, k0_pay18]
  simp only [wB_at, rK_ix]

/-! ## The projections -/

variable (cx : S2x512x512.Idx → EReal) (w : FVec Ideal S512x768 .bf16)

/-- The projection of the device's own chunk. -/
theorem own_at (d : Fin 4) (b : Fin 2) (i : Fin 128) (e : Fin 768) :
    own (F := Ideal) cx w d (ix3 b i e) = ∑ y : Fin 512, cx (ix3 b ⟨128 * d.val + i.val, by omega⟩ y) * w (ix2 y e) := by
  pointwise [own, k0_pay205, box]
  simp only [rC_ix]
  fin_cases b <;> rfl

/-- The projection of a chunk that is sent. -/
theorem prj_at (d : Fin 4) (b : Fin 2) (i : Fin 128) (e : Fin 768) :
    prj (F := Ideal) cx w d b (ix3 0 i e) = ∑ y : Fin 512, cx (ix3 b ⟨128 * d.val + i.val, by omega⟩ y) * w (ix2 y e) := by
  pointwise [prj, k0_pay198, box]
  simp only [rC_ix]

/-- The chunk as it is sent. -/
theorem sent_at (d : Fin 4) (b : Fin 2) (i : Fin 128) (e : Fin 768) :
    sent (F := Ideal) cx w d (ix3 b i e) = ∑ y : Fin 512, cx (ix3 b ⟨128 * d.val + i.val, by omega⟩ y) * w (ix2 y e) := by
  show prj (F := Ideal) cx w d b (ValueIdx.ix3 0 i e) = _
  rw [← ix3_eq_valueIdx, prj_at]

/-- The sum of the device's own chunk and the three that arrive. -/
theorem red_at (o : FVec Ideal S2x128x768 .f32) (s₀ s₁ s₂ : S2x128x768.Idx → EReal) (b : Fin 2) (i : Fin 128) (e : Fin 768) :
    red (F := Ideal) o s₀ s₁ s₂ (ix3 b i e) = o (ix3 b i e) + s₀ (ix3 b i e) + s₁ (ix3 b i e) + s₂ (ix3 b i e) := by
  pointwise [red, k0_pay207, k0_pay206, asSlot]
  simp only [← ix3_eq_valueIdx]

/-- That sum as it is sent on. -/
theorem redb_at (o : FVec Ideal S2x128x768 .f32) (s₀ s₁ s₂ : S2x128x768.Idx → EReal) (b : Fin 2) (i : Fin 128) (e : Fin 768) :
    wide (F := Ideal) (redb (F := Ideal) o s₀ s₁ s₂) (ix3 b i e) = o (ix3 b i e) + s₀ (ix3 b i e) + s₁ (ix3 b i e) + s₂ (ix3 b i e) := by
  have e1 : wide (F := Ideal) (redb (F := Ideal) o s₀ s₁ s₂) (ix3 b i e) = redb (F := Ideal) o s₀ s₁ s₂ (ix3 b i e) := by
    pointwise [wide, k0_pay211, asSlot]
    rw [← ix3_eq_valueIdx]
  rw [e1]
  pointwise [redb, k0_pay208, k0_pay207, k0_pay206, asSlot]
  simp only [← ix3_eq_valueIdx]

end Cert.KernelIdeal.Value
-- ==== Proof.Value.Out.lean ====
/- The kernel's result on every device is the attention over the whole arrays: a device's columns are eight of the heads, the keys it
   leaves out are masked, and the four partial projections add up to the sum over all columns. -/
module

public import proofs.«01_k».proof.Proof.Value.Pay
public import Idealize.ShloMosaic.Lib.FinSumWindow

@[expose] public section

set_option maxRecDepth 16384

noncomputable section

namespace Cert.KernelIdeal.Value

open Idealize.ShloMosaic Idealize.ShloMosaic.TcCoe
open Cert.KernelIdeal Cert.KernelIdeal.Gen Cert.KernelIdeal.Attn Cert.Softmax

/-- There are four devices. -/
theorem lt4 (c : Dev nD) : c.val < 4 := c.isLt

/-- A sum over the keys that vanishes from the `N`th on. -/
theorem sum_front (N : ℕ) (hN : N ≤ 2048) (f : Fin 2048 → EReal) (hf : ∀ l : Fin 2048, N ≤ l.val → f l = 0) :
    ∑ p : Fin N, f ⟨p.val, lt_of_lt_of_le p.isLt hN⟩ = ∑ l, f l := by
  rw [FinSumWindow.sum_window (W := N) 0 (by omega) f fun l h => hf l (by omega)]
  exact Finset.sum_congr rfl fun p _ => congrArg f (Fin.ext (by simp))

/-- A device's inputs are its blocks of the whole arrays; the keys and values are those of the first 512 positions. -/
structure Blocks (I : Inp Ideal) (x : SX.Idx → EReal) (wq : SQ.Idx → EReal) (k v : SK.Idx → EReal) (wo : SO.Idx → EReal) : Prop where
  hx : ∀ c, I.x c = x
  hq : ∀ (c : Dev nD) (j : Fin 768) (y : Fin 512), I.wq c (ix2 j y) = wq (ix2 j ⟨512 * c.val + y.val, by have := lt4 c; omega⟩)
  hk : ∀ (b : Fin 2) (l : Fin 512) (j : Fin 2048), I.kg 0 (ix3 b l j) = k (ix4 b ⟨l.val, by omega⟩ ⟨j.val / 64, by omega⟩ ⟨j.val % 64, by omega⟩)
  hv : ∀ (b : Fin 2) (l : Fin 512) (j : Fin 2048), I.vg 0 (ix3 b l j) = v (ix4 b ⟨l.val, by omega⟩ ⟨j.val / 64, by omega⟩ ⟨j.val % 64, by omega⟩)
  ho : ∀ (c : Dev nD) (y : Fin 512) (e : Fin 768), I.wo c (ix2 y e) = wo (ix2 ⟨512 * c.val + y.val, by have := lt4 c; omega⟩ e)
  fx : Fin' x
  fq : Fin' wq
  fk : Fin' k

variable [Facts] {I : Inp Ideal} {x : SX.Idx → EReal} {wq : SQ.Idx → EReal} {k v : SK.Idx → EReal} {wo : SO.Idx → EReal}
variable (B : Blocks I x wq k v wo)
include B

/-- A device's column of keys is a column of one head. -/
theorem colK_at (c : Dev nD) (b : Fin 2) (l y : Fin 512) (H : Fin 32) (d : Fin 64) (e : 512 * c.val + y.val = 64 * H.val + d.val) :
    colK I c (ix3 b l y) = k (ix4 b ⟨l.val, by omega⟩ H d) := by
  show I.kg 0 (ValueIdx.ix3 b l ⟨512 * c.val + y.val, _⟩) = _
  rw [← ix3_eq_valueIdx, B.hk]
  congr 2
  · exact Fin.ext (by show (512 * c.val + y.val) / 64 = H.val; omega)
  · exact Fin.ext (by show (512 * c.val + y.val) % 64 = d.val; omega)

/-- A device's column of values is a column of one head. -/
theorem colV_at (c : Dev nD) (b : Fin 2) (l y : Fin 512) (H : Fin 32) (d : Fin 64) (e : 512 * c.val + y.val = 64 * H.val + d.val) :
    colV I c (ix3 b l y) = v (ix4 b ⟨l.val, by omega⟩ H d) := by
  show I.vg 0 (ValueIdx.ix3 b l ⟨512 * c.val + y.val, _⟩) = _
  rw [← ix3_eq_valueIdx, B.hv]
  congr 2
  · exact Fin.ext (by show (512 * c.val + y.val) / 64 = H.val; omega)
  · exact Fin.ext (by show (512 * c.val + y.val) % 64 = d.val; omega)

/-- A head's scores on its device are those of the head it is among all. -/
theorem ksc_at (c : Dev nD) (b : Fin 2) (h : Fin 8) (H : Fin 32) (eH : H.val = 8 * c.val + h.val) (i l : Fin 512) :
    ksc (QQ I c) (colK I c) b h i l = (Cert.Softmax.sig x wq k b H i ⟨l.val, by omega⟩ : EReal) := by
  rw [← (sco_alt x wq k B.fx B.fq B.fk b H i ⟨l.val, by omega⟩).1]
  unfold ksc
  refine Finset.sum_congr rfl fun d _ => ?_
  rw [colK_at B c b l _ H d (by show 512 * c.val + (64 * h.val + d.val) = _; omega)]
  refine congrArg (fun t : EReal => t * k (ix4 b ⟨l.val, by omega⟩ H d)) ?_
  unfold QQ
  rw [qv_at, B.hx]
  refine Finset.sum_congr rfl fun j _ => ?_
  rw [B.hq]
  have e : (⟨512 * c.val + (64 * h.val + d.val), by have := lt4 c; omega⟩ : Fin 2048) = ⟨H.val * 64 + d.val, by omega⟩ := Fin.ext (by show 512 * c.val + (64 * h.val + d.val) = H.val * 64 + d.val; omega)
  exact congrArg (fun t : Fin 2048 => x (ix3 b i j) * (wq (ix2 j t) * c8)) e

/-- The context of an upper query is that of the whole arrays. -/
theorem cT_eq (c : Dev nD) (b : Fin 2) (h : Fin 8) (H : Fin 32) (eH : H.val = 8 * c.val + h.val) (i : Fin 256) (d : Fin 64) :
    cT (F := Ideal) (QQ I c) (colK I c) (colV I c) b h (ix3 0 i d) = ctxv x wq k v b H ⟨i.val, by omega⟩ d := by
  have ew : ∀ l : Fin 256, k0_pay15 (F := Ideal) mT (qh (QQ I c) b h) (kh (colK I c) b h) (ix2 i l)
      = (W (ok ⟨i.val, by omega⟩) (Cert.Softmax.sig x wq k b H ⟨i.val, by omega⟩) ⟨l.val, by omega⟩ : EReal) := fun l => by
    rw [p15_at, ksc_at B c b h H eH]
    exact exp_add (ok ⟨i.val, by omega⟩) (Cert.Softmax.sig x wq k b H ⟨i.val, by omega⟩) ⟨l.val, by omega⟩
  have ez : ∀ l : Fin 2048, 256 ≤ l.val → (W (ok ⟨i.val, by omega⟩) (Cert.Softmax.sig x wq k b H ⟨i.val, by omega⟩) l : EReal) = 0 := fun l hl => by
    rw [W, if_neg (by show ¬ l.val / 64 ≤ i.val / 64; omega), EReal.coe_zero]
  rw [cT_at]
  simp only [ew]
  rw [Finset.sum_congr rfl fun l _ => congrArg (fun t : EReal => _ * t) (colV_at B c b ⟨l.val, by omega⟩ ⟨64 * h.val + d.val, by omega⟩ H d (by show 512 * c.val + (64 * h.val + d.val) = _; omega))]
  rw [sum_front 256 (by omega) (fun l => (W (ok ⟨i.val, by omega⟩) (Cert.Softmax.sig x wq k b H ⟨i.val, by omega⟩) l : EReal)) ez,
    sum_front 256 (by omega) (fun l => (W (ok ⟨i.val, by omega⟩) (Cert.Softmax.sig x wq k b H ⟨i.val, by omega⟩) l : EReal) * v (ix4 b l H d)) (fun l hl => by rw [ez l hl, zero_mul])]
  exact normalize (ok ⟨i.val, by omega⟩) (Cert.Softmax.sig x wq k b H ⟨i.val, by omega⟩) 0 (ok_zero _) (fun l => v (ix4 b l H d))

/-- The context of a lower query is that of the whole arrays. -/
theorem cB_eq (c : Dev nD) (b : Fin 2) (h : Fin 8) (H : Fin 32) (eH : H.val = 8 * c.val + h.val) (i : Fin 256) (d : Fin 64) :
    cB (F := Ideal) (QQ I c) (colK I c) (colV I c) b h (ix3 0 i d) = ctxv x wq k v b H ⟨256 + i.val, by omega⟩ d := by
  have ew : ∀ l : Fin 512, k0_pay16 (F := Ideal) mB (qh (QQ I c) b h) (kh (colK I c) b h) (ix2 i l)
      = (W (ok ⟨256 + i.val, by omega⟩) (Cert.Softmax.sig x wq k b H ⟨256 + i.val, by omega⟩) ⟨l.val, by omega⟩ : EReal) := fun l => by
    rw [p16_at, ksc_at B c b h H eH]
    exact exp_add (ok ⟨256 + i.val, by omega⟩) (Cert.Softmax.sig x wq k b H ⟨256 + i.val, by omega⟩) ⟨l.val, by omega⟩
  have ez : ∀ l : Fin 2048, 512 ≤ l.val → (W (ok ⟨256 + i.val, by omega⟩) (Cert.Softmax.sig x wq k b H ⟨256 + i.val, by omega⟩) l : EReal) = 0 := fun l hl => by
    rw [W, if_neg (by show ¬ l.val / 64 ≤ (256 + i.val) / 64; omega), EReal.coe_zero]
  rw [cB_at]
  simp only [ew]
  rw [Finset.sum_congr rfl fun l _ => congrArg (fun t : EReal => _ * t) (colV_at B c b l ⟨64 * h.val + d.val, by omega⟩ H d (by show 512 * c.val + (64 * h.val + d.val) = _; omega))]
  rw [sum_front 512 (by omega) (fun l => (W (ok ⟨256 + i.val, by omega⟩) (Cert.Softmax.sig x wq k b H ⟨256 + i.val, by omega⟩) l : EReal)) ez,
    sum_front 512 (by omega) (fun l => (W (ok ⟨256 + i.val, by omega⟩) (Cert.Softmax.sig x wq k b H ⟨256 + i.val, by omega⟩) l : EReal) * v (ix4 b l H d)) (fun l hl => by rw [ez l hl, zero_mul])]
  exact normalize (ok ⟨256 + i.val, by omega⟩) (Cert.Softmax.sig x wq k b H ⟨256 + i.val, by omega⟩) 0 (ok_zero _) (fun l => v (ix4 b l H d))

/-- A device's attention output is its columns of the whole. -/
theorem CX_at (c : Dev nD) (b : Fin 2) (i y : Fin 512) :
    CX I c (ix3 b i y) = ctxv x wq k v b ⟨(512 * c.val + y.val) / 64, by have := lt4 c; omega⟩ i ⟨(512 * c.val + y.val) % 64, by omega⟩ := by
  have eH : (512 * c.val + y.val) / 64 = 8 * c.val + (hd y).val := by show _ = 8 * c.val + y.val / 64; omega
  have el : lane y = ⟨(512 * c.val + y.val) % 64, by omega⟩ := Fin.ext (by show y.val % 64 = (512 * c.val + y.val) % 64; omega)
  by_cases hi : i.val < 256
  · have e : CX I c (ix3 b i y) = cT (F := Ideal) (QQ I c) (colK I c) (colV I c) b (hd y) (ValueIdx.ix3 0 ⟨i.val, hi⟩ (lane y)) := by
      show dite (i.val < 256) (fun h => cT (F := Ideal) (QQ I c) (colK I c) (colV I c) b (hd y) (ValueIdx.ix3 0 ⟨i.val, h⟩ (lane y)))
        (fun h => cB (F := Ideal) (QQ I c) (colK I c) (colV I c) b (hd y) (ValueIdx.ix3 0 ⟨i.val - 256, by omega⟩ (lane y))) = _
      exact dif_pos hi
    rw [e, ← ix3_eq_valueIdx, cT_eq B c b (hd y) ⟨(512 * c.val + y.val) / 64, by have := lt4 c; omega⟩ eH, el]
  · have e : CX I c (ix3 b i y) = cB (F := Ideal) (QQ I c) (colK I c) (colV I c) b (hd y) (ValueIdx.ix3 0 ⟨i.val - 256, by omega⟩ (lane y)) := by
      show dite (i.val < 256) (fun h => cT (F := Ideal) (QQ I c) (colK I c) (colV I c) b (hd y) (ValueIdx.ix3 0 ⟨i.val, h⟩ (lane y)))
        (fun h => cB (F := Ideal) (QQ I c) (colK I c) (colV I c) b (hd y) (ValueIdx.ix3 0 ⟨i.val - 256, by omega⟩ (lane y))) = _
      exact dif_neg hi
    rw [e, ← ix3_eq_valueIdx, cB_eq B c b (hd y) ⟨(512 * c.val + y.val) / 64, by have := lt4 c; omega⟩ eH, el]
    have ei : (⟨256 + (i.val - 256), by omega⟩ : Fin 512) = i := Fin.ext (by show 256 + (i.val - 256) = i.val; omega)
    exact congrArg (fun t => ctxv x wq k v b _ t _) ei

omit B in
/-- A device's output weights are not changed by their rounding. -/
theorem WO_at (c : Dev nD) (y : Fin 512) (e : Fin 768) : WO I c (ix2 y e) = I.wo c (ix2 y e) := by
  unfold WO
  pointwise [wov, k0_pay5]

/-- Device `c`'s part of a row of the result. -/
def part (x : SX.Idx → EReal) (wq : SQ.Idx → EReal) (k v : SK.Idx → EReal) (wo : SO.Idx → EReal) (b : Fin 2) (i : Fin 512) (e : Fin 768) (c : Fin 4) : EReal :=
  ∑ y : Fin 512, ctxv x wq k v b ⟨(512 * c.val + y.val) / 64, by omega⟩ i ⟨(512 * c.val + y.val) % 64, by omega⟩ * wo (ix2 ⟨512 * c.val + y.val, by omega⟩ e)

/-- A device's projection of a row is its part of the result. -/
theorem part_at (c : Dev nD) (b : Fin 2) (i : Fin 512) (e : Fin 768) (d : Fin 4) (r : Fin 128) (hr : 128 * d.val + r.val = i.val) :
    ∑ y : Fin 512, CX I c (ix3 b ⟨128 * d.val + r.val, by omega⟩ y) * WO I c (ix2 y e) = part x wq k v wo b i e c := by
  have ei : (⟨128 * d.val + r.val, by omega⟩ : Fin 512) = i := Fin.ext hr
  rw [ei]
  unfold part
  refine Finset.sum_congr rfl fun y _ => ?_
  rw [CX_at B, WO_at, B.ho]

omit B in
/-- The order in which a device adds the four parts does not matter. -/
theorem sum_devs (f : Fin 4 → EReal) (d : Fin 4) : f d + f (d + 3) + f (d + 2) + f (d + 1) = ∑ c, f c := by
  rw [Fin.sum_univ_four]
  fin_cases d
  · show f 0 + f 3 + f 2 + f 1 = _; abel
  · show f 1 + f 0 + f 3 + f 2 = _; abel
  · show f 2 + f 1 + f 0 + f 3 = _; abel
  · show f 3 + f 2 + f 1 + f 0 = _; abel

omit B in
/-- The result is the sum of the four devices' parts. -/
theorem outv_parts (b : Fin 2) (i : Fin 512) (e : Fin 768) : outv x wq k v wo b i e = ∑ c, part x wq k v wo b i e c := by
  unfold outv part
  exact sum_blocks _

/-- The kernel's result on every device. -/
theorem OUT_at (c : Dev nD) (b : Fin 2) (i : Fin 512) (e : Fin 768) : OUT I c (ix3 b i e) = outv x wq k v wo b i e := by
  have hr : 128 * (i.val / 128) + i.val % 128 = i.val := by omega
  have hd4 : i.val / 128 < 4 := by omega
  have key : ∀ d : Dev nD, d.val = i.val / 128 → own (F := Ideal) (CX I d) (WO I d) d (ix3 b ⟨i.val % 128, by omega⟩ e)
        + PR I (d + 3) d (ix3 b ⟨i.val % 128, by omega⟩ e) + PR I (d + 2) d (ix3 b ⟨i.val % 128, by omega⟩ e) + PR I (d + 1) d (ix3 b ⟨i.val % 128, by omega⟩ e)
      = outv x wq k v wo b i e := fun d hd => by
    have h := fun c => part_at B c b i e d ⟨i.val % 128, by omega⟩ (by show 128 * d.val + i.val % 128 = i.val; rw [hd]; exact hr)
    unfold PR
    rw [own_at, sent_at, sent_at, sent_at, h, h, h, h, outv_parts]
    exact sum_devs (part x wq k v wo b i e) d
  unfold OUT
  split
  · rename_i hc
    show RD I c (ValueIdx.ix3 b ⟨i.val % 128, _⟩ e) = _
    rw [← ix3_eq_valueIdx]
    unfold RD
    rw [red_at]
    exact key c (by rw [← hc]; rfl)
  · show wide (RB I (chk (ix3 b i e))) (ValueIdx.ix3 b ⟨i.val % 128, _⟩ e) = _
    rw [← ix3_eq_valueIdx]
    unfold RB
    rw [redb_at]
    exact key _ rfl

end Cert.KernelIdeal.Value
-- ==== Proof.Value.Ref.lean ====
/- The reference's composed term, cut at its named stages, and each stage read at an index. -/
module

public import proofs.«01_k».proof.Proof.Gen.ReferenceIdeal.Run
public import proofs.«01_k».proof.Proof.Value.Canon

@[expose] public section

set_option maxRecDepth 16384

noncomputable section

namespace Cert.ReferenceIdeal.Term

open Idealize.ShloMosaic Idealize.ShloMosaic.TcCoe
open Cert.ReferenceIdeal Cert.ReferenceIdeal.Gen Cert.Softmax

/-- The blocks of 64 the keys and the queries fall in: floor division as it is printed. -/
def kblk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))
/-- The block of each query. -/
def qblk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- Which keys a query may attend to, and whether it may attend to any. -/
def msk : IVec S512x2048 1 :=
  cmpi .sle (broadcastInDim S512x2048 ![0, 1] bcast_S1x2048_S512x2048_0_1 (broadcastInDim S1x2048 ![1] bcast_S2048_S1x2048_1 kblk))
    (broadcastInDim S512x2048 ![0, 1] bcast_S512x1_S512x2048_0_1 (broadcastInDim S512x1 ![0] bcast_S512_S512x1_0 qblk))
/-- Whether a query has any key. -/
def anyk : IVec S512 1 := Host.reduce IntOp.ori msk (constantI S_ 1 0#1) reducesTo_S512x2048_S512_d1 h_S_

variable (x : FVec Ideal S2x512x768 .f32) (wq : FVec Ideal S768x2048 .f32) (k v : FVec Ideal S2x2048x32x64 .f32) (wo : FVec Ideal S2048x768 .f32)

/-- The masked scores. -/
def scr : FVec Ideal S2x32x512x2048 .f32 :=
  select (broadcastInDim S2x32x512x2048 ![0, 1, 2, 3] bcast_S1x1x512x2048_S2x32x512x2048_0_1_2_3 (broadcastInDim S1x1x512x2048 ![2, 3] bcast_S512x2048_S1x1x512x2048_2_3 msk))
    (mulf (Host.dotGeneral dot_S2x512x32x64_S2x2048x32x64_S2x32x512x2048_3_3_1_1_02_02 none
        (shapeCast _ (Host.dotGeneral dot_S2x512x768_S768x2048_S2x512x2048_2_0_01_1_n_n none x wq) shapeCasts_S2x512x2048_S2x512x32x64) k)
      (broadcastInDim S2x32x512x2048 ![] bcast_S_S2x32x512x2048 (constant S_ .f32 0x3E000000#32)))
    (broadcastInDim S2x32x512x2048 ![] bcast_S_S2x32x512x2048 (id (constant S_ .f32 0xFF800000#32)))

/-- The exponentials of scores `s` less the row's largest. -/
def exps (s : FVec Ideal S2x32x512x2048 .f32) : FVec Ideal S2x32x512x2048 .f32 :=
  Host.exp (subf s (broadcastInDim S2x32x512x2048 ![0, 1, 2, 3] bcast_S2x32x512x1_S2x32x512x2048_0_1_2_3 (broadcastInDim S2x32x512x1 ![0, 1, 2] bcast_S2x32x512_S2x32x512x1_0_1_2 (Host.reduce FloatOps.maximumf s (constant S_ .f32 0xFF800000#32) reducesTo_S2x32x512x2048_S2x32x512_d3 h_S_))))

/-- The weights: the exponentials over their row's sum. -/
def wts (e : FVec Ideal S2x32x512x2048 .f32) : FVec Ideal S2x32x512x2048 .f32 :=
  select (broadcastInDim S2x32x512x2048 ![0, 1, 2, 3] bcast_S1x1x512x1_S2x32x512x2048_0_1_2_3 (broadcastInDim S1x1x512x1 ![2] bcast_S512_S1x1x512x1_2 anyk))
    (Host.divf e
      (broadcastInDim S2x32x512x2048 ![0, 1, 2, 3] bcast_S2x32x512x1_S2x32x512x2048_0_1_2_3
        (select (broadcastInDim S2x32x512x1 ![0, 1, 2, 3] bcast_S1x1x512x1_S2x32x512x1_0_1_2_3 (broadcastInDim S1x1x512x1 ![2] bcast_S512_S1x1x512x1_2 anyk))
          (broadcastInDim S2x32x512x1 ![0, 1, 2] bcast_S2x32x512_S2x32x512x1_0_1_2 (Host.reduceAdd e (constant S_ .f32 0x00000000#32) reducesTo_S2x32x512x2048_S2x32x512_d3 h_S_))
          (broadcastInDim S2x32x512x1 ![] bcast_S_S2x32x512x1 (id (constant S_ .f32 0x3F800000#32))))))
    (broadcastInDim S2x32x512x2048 ![] bcast_S_S2x32x512x2048 (id (constant S_ .f32 0x00000000#32)))

/-- The attention's output, heads beside each other, and the projected result. -/
def att (w : FVec Ideal S2x32x512x2048 .f32) : FVec Ideal S2x512x2048 .f32 :=
  shapeCast _ (transpose S2x512x32x64 [0, 3, 1, 2] (Host.dotGeneral dot_S2x2048x32x64_S2x32x512x2048_S2x32x64x512_1_3_3_2_02_01 none v w) transposes_S2x32x64x512_S2x512x32x64_0_3_1_2) shapeCasts_S2x512x32x64_S2x512x2048
/-- The whole result. -/
def res : FVec Ideal S2x512x768 .f32 :=
  Host.dotGeneral dot_S2x512x2048_S2048x768_S2x512x768_2_0_01_1_n_n none (att v (wts (exps (scr x wq k)))) wo

set_option maxHeartbeats 2000000 in
/-- The composed term of the run is this one. -/
theorem res_eq (m : (ℓ : Loc nD τ sig) → Buf (Elt Ideal) ℓ) (c : Dev nD) :
    Value.res_main_v33 (F := Ideal) m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index -/

/-- The mask at an index. -/
theorem msk_at (i : Fin 512) (l : Fin 2048) : msk (ix2 i l) = if ok i l then 1#1 else 0#1 := by
  pointwise [msk, kblk, qblk]
  show IntOp.cmpi CmpIPredicate.sle (hfl (BitVec.ofNat 32 l.val)) (hfl (BitVec.ofNat 32 i.val)) = _
  rw [hfl_eq l, hfl_eq ⟨i.val, by omega⟩]
  exact sle_blocks i.val l.val (by omega) l.isLt

/-- Every query has a key. -/
theorem anyk_at (i : Fin 512) : anyk (ix1 i) = 1#1 := by
  pointwise [anyk]
  exact fold_ori _ 0 (by rw [msk_at, if_pos (ok_zero i)])

/-- A masked score at an index. -/
theorem scr_at (b : Fin 2) (h : Fin 32) (i : Fin 512) (l : Fin 2048) : scr x wq k (ix4 b h i l) = if ok i l then sco x wq k b h i l else ⊥ := by
  pointwise [scr]
  rw [msk_at, select_if]
  unfold sco
  rw [← neg_inf]
  rfl

/-- An exponential at an index. -/
theorem exps_at (s : FVec Ideal S2x32x512x2048 .f32) (b : Fin 2) (h : Fin 32) (i : Fin 512) (l : Fin 2048) :
    exps s (ix4 b h i l) = Ideal.exp (s (ix4 b h i l) - Finset.fold max (⊥ : EReal) (fun l' => s (ix4 b h i l')) Finset.univ) := by
  pointwise [exps]
  rw [neg_inf]

/-- A weight at an index. -/
theorem wts_at (s : FVec Ideal S2x32x512x2048 .f32) (b : Fin 2) (h : Fin 32) (i : Fin 512) (l : Fin 2048) :
    wts s (ix4 b h i l) = Ideal.div (s (ix4 b h i l)) (∑ l', s (ix4 b h i l')) := by
  pointwise [wts]
  rw [anyk_at]
  rfl

/-- On finite inputs a weight is that of the softmax. -/
theorem wts_eq (hx : Fin' x) (hq : Fin' wq) (hk : Fin' k) (b : Fin 2) (h : Fin 32) (i : Fin 512) (l : Fin 2048) :
    wts (exps (scr x wq k)) (ix4 b h i l) = (wgt x wq k b h i l : EReal) := by
  rw [wts_at]
  simp only [exps_at]
  refine softmax (ok i) (Cert.Softmax.sig x wq k b h i) 0 (ok_zero i) (fun l' => scr x wq k (ix4 b h i l')) (fun l' => ?_) l
  rw [scr_at, (sco_alt x wq k hx hq hk b h i l').2]

/-- The reference's result. -/
theorem res_at (hx : Fin' x) (hq : Fin' wq) (hk : Fin' k) (b : Fin 2) (i : Fin 512) (e : Fin 768) :
    res x wq k v wo (ix3 b i e) = outv x wq k v wo b i e := by
  pointwise [res, att]
  unfold outv ctxv
  refine Finset.sum_congr rfl fun j _ => ?_
  refine congrArg (fun t : EReal => t * wo (ix2 j e)) (Finset.sum_congr rfl fun l _ => ?_)
  rw [wts_eq x wq k hx hq hk]

end Cert.ReferenceIdeal.Term
-- ==== Proof.Value.Pre.lean ====
/- The precondition read back: the input, the queries' weights and the keys are real numbers on every device. -/
module

public import proofs.«01_k».proof.Defs
public import proofs.«01_k».proof.Proof.Value.Canon
public import Idealize.ShloMosaic.Lib.ReduceAll

@[expose] public section

set_option maxRecDepth 16384

noncomputable section

namespace Cert.Finite

open Idealize.ShloMosaic Cert.Softmax

/-- The side conditions of the precondition's program, at one device's shapes. -/
instance factsK : Cert.Pre_finite_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x32x64 := by decide
  reducesTo_S2x512x32x64_S_d0_1_2_3 := by decide

/-- Those at the whole arrays' shapes. -/
instance factsR : Cert.Pre_finite_ReferenceIdeal.Facts where
  bcast_S_S2x512x768 := by decide
  reducesTo_S2x512x768_S_d0_1_2 := by decide
  h_S_ := by decide
  bcast_S_S768x2048 := by decide
  reducesTo_S768x2048_S_d0_1 := by decide
  bcast_S_S2x2048x32x64 := by decide
  reducesTo_S2x2048x32x64_S_d0_1_2_3 := by decide

instance : Subsingleton (⟨0, ![]⟩ : Shape).Idx := ⟨fun _ _ => funext fun a => a.elim0⟩

/-- A number whose absolute value is below infinity is real. -/
theorem real_of_abs (a : EReal) (h : max a (-a) < ⊤) : ∃ r : ℝ, a = (r : EReal) := by
  have h1 : a ≠ ⊤ := ne_of_lt (lt_of_le_of_lt (le_max_left _ _) h)
  have h2 : a ≠ ⊥ := fun e => by subst e; simp at h
  exact ⟨_, (EReal.coe_toReal h1 h2).symm⟩

/-- The word of plus infinity. -/
theorem pos_inf : Ideal.ofBits .f32 0x7F800000#32 = ⊤ := by
  simp [Ideal.ofBits, Ideal.ieee]

/-- An element whose absolute value is below plus infinity is real. -/
theorem real_of_cmp (a : EReal) (h : FloatOps.cmpf (F := Ideal) (φ := .f32) .olt (max a (-a)) (Ideal.ofBits .f32 0x7F800000#32) = 1#1) : ∃ r : ℝ, a = (r : EReal) := by
  rw [pos_inf] at h
  refine real_of_abs a ?_
  by_contra hn
  revert h
  show ¬ BitVec.ofBool (decide (max a (-a) < ⊤)) = 1#1
  simp [hn]

/-- What the precondition says: the input, the queries' weights and the keys are real. -/
theorem read (a0 : FVec Ideal ⟨3, ![2, 512, 768]⟩ .f32) (a1 : FVec Ideal ⟨2, ![768, 512]⟩ .f32) (a2 a3 : FVec Ideal ⟨4, ![2, 512, 32, 64]⟩ .f32)
    (a4 : FVec Ideal ⟨2, ![512, 768]⟩ .f32) (h : Cert.Pre_finite_KernelIdeal.fn (F := Ideal) a0 a1 a2 a3 a4 = fun _ => 1#1) :
    Fin' a0 ∧ Fin' a1 ∧ Fin' a2 := by
  have h0 := congrFun h ix0
  dsimp only [Cert.Pre_finite_KernelIdeal.fn] at h0
  obtain ⟨h01, h2⟩ := IntOp.andi_eq_one.1 h0
  obtain ⟨h0, h1⟩ := IntOp.andi_eq_one.1 h01
  exact ⟨fun j => real_of_cmp _ (Host.reduce_andi_all _ _ _ _ ix0 h0 j), fun j => real_of_cmp _ (Host.reduce_andi_all _ _ _ _ ix0 h1 j),
    fun j => real_of_cmp _ (Host.reduce_andi_all _ _ _ _ ix0 h2 j)⟩

end Cert.Finite
-- ==== Proof.Value.Equal.lean ====
/- The kernel's result is the reference's, on inputs dealt out as the launch deals them. -/
module

public import proofs.«01_k».proof.Proof.AttnIdeal.Launch
public import proofs.«01_k».proof.Proof.Value.Out
public import proofs.«01_k».proof.Proof.Value.Ref
public import proofs.«01_k».proof.Proof.Value.Pre

@[expose] public section

set_option maxRecDepth 16384

noncomputable section

namespace Cert.KernelIdeal.Value

open Idealize.ShloMosaic Idealize.ShloMosaic.TcCoe
open Cert.KernelIdeal Cert.KernelIdeal.Gen Cert.KernelIdeal.Attn Cert.Softmax

variable (m : (ℓ : Loc nD τ sig) → Buf (Elt Ideal) ℓ)

/-- The keys and values the bodies start from: the host program's reshape, two axes made one. -/
theorem kg_eq (c : Dev nD) : (inp m).kg c = truncf (F := Ideal) .bf16 (shapeCast S2x512x2048 (m ((c.tc : Thread nD τ).loc main_arg2)) shapeCasts_S2x512x32x64_S2x512x2048) bitsLt_bf16_f32 := by
  show StableHlo.after hostOps0 (fun b => m (c, b)) main_v2 = _
  simp only [hostOps0]
  after_results_simp
  rfl

/-- The values, as the keys above. -/
theorem vg_eq (c : Dev nD) : (inp m).vg c = truncf (F := Ideal) .bf16 (shapeCast S2x512x2048 (m ((c.tc : Thread nD τ).loc main_arg3)) shapeCasts_S2x512x32x64_S2x512x2048) bitsLt_bf16_f32 := by
  show StableHlo.after hostOps0 (fun b => m (c, b)) main_v4 = _
  simp only [hostOps0]
  after_results_simp
  rfl

/-- A reshaped array at an index, its last axis split. -/
theorem flat_at (f : FVec Ideal S2x512x32x64 .f32) (b : Fin 2) (l : Fin 512) (j : Fin 2048) :
    truncf (F := Ideal) .bf16 (shapeCast S2x512x2048 f shapeCasts_S2x512x32x64_S2x512x2048) bitsLt_bf16_f32 (ix3 b l j)
      = f (ix4 b l ⟨j.val / 64, by omega⟩ ⟨j.val % 64, by omega⟩) := by
  pointwise

/-! ## Blocks of the whole arrays, at an index -/

/-- A device's block of the columns, at an index. -/
theorem cols_at (f : SQ.Idx → EReal) (c : Fin 4) (j : Fin 768) (y : Fin 512) :
    Layout.block ⟨2, ![768, 512]⟩ ⟨2, ![768, 2048]⟩ 1 4 c f (by decide) (ix2 j y) = f (ix2 j ⟨512 * c.val + y.val, by omega⟩) := by
  rw [Layout.block_apply]
  congr 1
  funext a
  fin_cases a
  · rfl
  · exact Fin.ext (by show c.val * 512 + y.val = 512 * c.val + y.val; omega)

/-- A device's block of the rows, at an index. -/
theorem rows_at (f : SO.Idx → EReal) (c : Fin 4) (y : Fin 512) (e : Fin 768) :
    Layout.block ⟨2, ![512, 768]⟩ ⟨2, ![2048, 768]⟩ 0 4 c f (by decide) (ix2 y e) = f (ix2 ⟨512 * c.val + y.val, by omega⟩ e) := by
  rw [Layout.block_apply]
  congr 1
  funext a
  fin_cases a
  · exact Fin.ext (by show c.val * 512 + y.val = 512 * c.val + y.val; omega)
  · rfl

/-- A device's block of the positions, at an index. -/
theorem keys_at (f : SK.Idx → EReal) (c : Fin 4) (b : Fin 2) (l : Fin 512) (h : Fin 32) (d : Fin 64) :
    Layout.block ⟨4, ![2, 512, 32, 64]⟩ ⟨4, ![2, 2048, 32, 64]⟩ 1 4 c f (by decide) (ix4 b l h d) = f (ix4 b ⟨512 * c.val + l.val, by omega⟩ h d) := by
  rw [Layout.block_apply]
  congr 1
  funext a
  fin_cases a
  · rfl
  · exact Fin.ext (by show c.val * 512 + l.val = 512 * c.val + l.val; omega)
  · rfl
  · rfl

/-! ## Finite on every device is finite throughout -/

/-- Blocks of columns that are finite make a finite array. -/
theorem fin_cols (f : SQ.Idx → EReal) (h : ∀ c : Fin 4, Fin' (Layout.block ⟨2, ![768, 512]⟩ ⟨2, ![768, 2048]⟩ 1 4 c f (by decide))) : Fin' f := fun j => by
  obtain ⟨r, hr⟩ := h ⟨(j 1).val / 512, by have : (j 1).val < 2048 := (j 1).isLt; omega⟩ (ix2 (j 0) ⟨(j 1).val % 512, by omega⟩)
  refine ⟨r, ?_⟩
  rw [← hr]
  refine ((cols_at f _ _ _).trans (congrArg f ?_)).symm
  funext a
  fin_cases a
  · rfl
  · exact Fin.ext (by show 512 * ((j 1).val / 512) + (j 1).val % 512 = (j 1).val; omega)

/-- Blocks of positions that are finite make a finite array. -/
theorem fin_keys (f : SK.Idx → EReal) (h : ∀ c : Fin 4, Fin' (Layout.block ⟨4, ![2, 512, 32, 64]⟩ ⟨4, ![2, 2048, 32, 64]⟩ 1 4 c f (by decide))) : Fin' f := fun j => by
  obtain ⟨r, hr⟩ := h ⟨(j 1).val / 512, by have : (j 1).val < 2048 := (j 1).isLt; omega⟩ (ix4 (j 0) ⟨(j 1).val % 512, by omega⟩ (j 2) (j 3))
  refine ⟨r, ?_⟩
  rw [← hr]
  refine ((keys_at f _ _ _ _ _).trans (congrArg f ?_)).symm
  funext a
  fin_cases a
  · rfl
  · exact Fin.ext (by show 512 * ((j 1).val / 512) + (j 1).val % 512 = (j 1).val; omega)
  · rfl
  · rfl

/-! ## The two results -/

/-- On finite inputs every device's result is the reference's. -/
theorem OUT_eq (x : FVec Ideal SX .f32) (wq : FVec Ideal SQ .f32) (k v : FVec Ideal SK .f32) (wo : FVec Ideal SO .f32)
    (hp : ∀ c : Dev nD, Cert.Pre_finite_KernelIdeal.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (hd : ∀ c : Dev nD, m ((c.tc : Thread nD τ).loc main_arg0) = x
      ∧ m ((c.tc : Thread nD τ).loc main_arg1) = Layout.block ⟨2, ![768, 512]⟩ ⟨2, ![768, 2048]⟩ 1 4 c wq
      ∧ m ((c.tc : Thread nD τ).loc main_arg2) = Layout.block ⟨4, ![2, 512, 32, 64]⟩ ⟨4, ![2, 2048, 32, 64]⟩ 1 4 c k
      ∧ m ((c.tc : Thread nD τ).loc main_arg3) = Layout.block ⟨4, ![2, 512, 32, 64]⟩ ⟨4, ![2, 2048, 32, 64]⟩ 1 4 c v
      ∧ m ((c.tc : Thread nD τ).loc main_arg4) = Layout.block ⟨2, ![512, 768]⟩ ⟨2, ![2048, 768]⟩ 0 4 c wo) (c : Dev nD) :
    OUT (inp m) c = Cert.ReferenceIdeal.Term.res x wq k v wo := by
  have fx : Fin' x := (hd 0).1 ▸ (Cert.Finite.read _ _ _ _ _ (hp 0)).1
  have fq : Fin' wq := fin_cols wq fun c => (hd c).2.1 ▸ (Cert.Finite.read _ _ _ _ _ (hp c)).2.1
  have fk : Fin' k := fin_keys k fun c => (hd c).2.2.1 ▸ (Cert.Finite.read _ _ _ _ _ (hp c)).2.2
  have e0 : ∀ l : Fin 512, (⟨512 * (0 : Fin 4).val + l.val, by have := l.isLt; show 512 * 0 + l.val < 2048; omega⟩ : Fin 2048) = ⟨l.val, by omega⟩ := fun l => Fin.ext (by show 512 * 0 + l.val = l.val; omega)
  have B : Blocks (inp m) x wq k v wo :=
    { hx := fun c => (hd c).1
      hq := fun c j y => by
        show m ((c.tc : Thread nD τ).loc main_arg1) (ix2 j y) = _
        rw [(hd c).2.1]
        exact cols_at wq c j y
      hk := fun b l j => by
        rw [kg_eq, (hd 0).2.2.1]
        refine (flat_at _ b l j).trans ((keys_at k 0 b l _ _).trans ?_)
        rw [e0]
      hv := fun b l j => by
        rw [vg_eq, (hd 0).2.2.2.1]
        refine (flat_at _ b l j).trans ((keys_at v 0 b l _ _).trans ?_)
        rw [e0]
      ho := fun c y e => by
        show m ((c.tc : Thread nD τ).loc main_arg4) (ix2 y e) = _
        rw [(hd c).2.2.2.2]
        exact rows_at wo c y e
      fx := fx
      fq := fq
      fk := fk }
  funext j
  obtain ⟨b, i, e, rfl⟩ : ∃ (b : Fin 2) (i : Fin 512) (e : Fin 768), j = ix3 b i e := ⟨j 0, j 1, j 2, eq_ix3 j⟩
  exact (OUT_at B c b i e).trans (Cert.ReferenceIdeal.Term.res_at x wq k v wo fx fq fk b i e).symm

end Cert.KernelIdeal.Value
-- ==== Proof.lean ====
/- The proof of the claims about the kernel, put together from the modules of proof/Proof: the launch's run
   in Attn and AttnIdeal (the same modules for the two readings of the program), the reference's run from its
   generated module, the equation of their results from Value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Attn.Run
public import proofs.«01_k».proof.Proof.AttnIdeal.Run
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The kernel terminates with its arguments unchanged and its counters at zero. -/
theorem frameP : Cert.quiescent_Kernel := fun m g _ =>
  (θ_run Cert.Kernel.defs _ _).mono (fun _ h => ⟨fun c => (h.1 c).2, h.2⟩) (Cert.Kernel.Attn.run_main (F := Bits) m g)

/-- So does its reading over the extended reals. -/
theorem framePI : Cert.quiescent_KernelIdeal := fun m g _ =>
  (θ_run Cert.KernelIdeal.defs _ _).mono (fun _ h => ⟨fun c => (h.1 c).2, h.2⟩) (Cert.KernelIdeal.Attn.run_main (F := Ideal) m g)

/-- So does the reference. -/
theorem frameRI : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- On finite x, Wq and keys every device ends with the reference's result. -/
theorem values : Cert.algebraic_KernelIdeal_ReferenceIdeal_pre_finite_KernelIdeal (hPre_finite_KernelIdeal := Cert.Finite.factsK) := fun m g m' g' hp hd =>
  ⟨Cert.ReferenceIdeal.Value.res_main_v33 (F := Ideal) m' 0,
    (θ_run Cert.KernelIdeal.defs _ _).mono
      (fun _ h c => ⟨(h.1 c).1.trans ((Cert.KernelIdeal.Value.OUT_eq m _ _ _ _ _ hp hd c).trans (Cert.ReferenceIdeal.Term.res_eq m' 0).symm), (h.1 c).2⟩)
      (Cert.KernelIdeal.Attn.run_main (F := Ideal) m g),
    (θ_run Cert.ReferenceIdeal.defs _ _).mono (fun _ h => h 0) (Cert.ReferenceIdeal.Value.run (F := Ideal) m' g')⟩

/-- All the claims. -/
theorem claim : Cert.Claim := ⟨Cert.Kernel.Gen.facts, Cert.KernelIdeal.Gen.facts, Cert.ReferenceIdeal.Gen.facts, Cert.Finite.factsK, Cert.Finite.factsR,
  frameP, framePI, fun m g _ => framePI m g trivial, frameRI, fun m g _ => frameRI m g trivial,
  IdealRules.named_const.statement Cert.KernelIdeal.κ "mask" .f32 0xCE6E6B28#32 ⊥ rfl, values⟩

end Cert.Proof

end
